-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts_in_range : Cert.Pre_experts_in_range.Facts] (m : (ℓ : Loc Cert.Kernel4.nD Cert.Kernel4.τ Cert.Kernel4.sig) → Buf (Elt Bits) ℓ) : Prop :=
  ∀ c : Dev Cert.Kernel4.nD,
    (Cert.Pre_experts_in_range.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_experts_in_range : Cert.Pre_experts_in_range.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_in_range.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal [hPre_experts_in_range : Cert.Pre_experts_in_range.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_in_range.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] [hPre_experts_in_range : Cert.Pre_experts_in_range.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_experts_in_range : Cert.Pre_experts_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] [hPre_experts_in_range : Cert.Pre_experts_in_range.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "s" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] [hPre_experts_in_range : Cert.Pre_experts_in_range.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_experts_in_range : Cert.Pre_experts_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts_in_range := hPre_experts_in_range)
    ∧ quiescent_Kernel4Ideal (hKernel4Ideal := hKernel4Ideal) (hPre_experts_in_range := hPre_experts_in_range)
    ∧ quiescent_Reference4Ideal (hReference4Ideal := hReference4Ideal) (hPre_experts_in_range := hPre_experts_in_range)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_experts_in_range := hPre_experts_in_range)
-- ==== Pre_experts_in_range.lean ====
abbrev S41216x2048 : Shape := ⟨2, ![41216, 2048]⟩
abbrev S41216 : Shape := ⟨1, ![41216]⟩
abbrev S161 : Shape := ⟨1, ![161]⟩
abbrev S32x2048x512 : Shape := ⟨3, ![32, 2048, 512]⟩
abbrev S32x512x2048 : Shape := ⟨3, ![32, 512, 2048]⟩
abbrev S_ : Shape := ⟨0, ![]⟩

class Facts : Prop where
  bcast_S_S161 : S_.BroadcastsInDim S161 (![] : Fin 0 → Fin S161.rank)
  reducesTo_S161_S_d0 : S161.ReducesTo [0] S_
  h_S_ : 0 < S_.numel

variable [Facts]

def fn {F : FTy → Type} [FloatOps F] (main_arg0 : FVec F S41216x2048 .f32) (main_arg1 : FVec F S41216 .f32) (main_arg2 : IVec S161 32) (main_arg3 : FVec F S32x2048x512 .f32) (main_arg4 : FVec F S32x2048x512 .f32) (main_arg5 : FVec F S32x512x2048 .f32) : IVec S_ 1 :=
  let main_c : IVec S_ 32 := constantI S_ 32 0#32
  let main_v0 : IVec S161 32 := broadcastInDim S161 ![] bcast_S_S161 main_c
  let main_v1 : IVec S161 1 := cmpi .sge main_arg2 main_v0
  let main_c_0 : IVec S_ 32 := constantI S_ 32 32#32
  let main_v2 : IVec S161 32 := broadcastInDim S161 ![] bcast_S_S161 main_c_0
  let main_v3 : IVec S161 1 := cmpi .slt main_arg2 main_v2
  let main_v4 : IVec S161 1 := andi main_v1 main_v3
  let main_c_1 : IVec S_ 1 := constantI S_ 1 1#1
  let main_v5 : IVec S_ 1 := (fun x v => Host.reduce IntOp.andi x v reducesTo_S161_S_d0 h_S_) main_v4 main_c_1
  main_v5
-- ==== Kernel.lean ====
abbrev S4x4096x1024 : Shape := ⟨3, ![4, 4096, 1024]⟩
abbrev S4x4096x48 : Shape := ⟨3, ![4, 4096, 48]⟩
abbrev S4x4x128x64 : Shape := ⟨4, ![4, 4, 128, 64]⟩
abbrev S4x4x4096x64 : Shape := ⟨4, ![4, 4, 4096, 64]⟩
abbrev S64 : Shape := ⟨1, ![64]⟩
abbrev S4x32x128x4x4x64 : Shape := ⟨6, ![4, 32, 128, 4, 4, 64]⟩
abbrev S4x4x32x64x4x128 : Shape := ⟨6, ![4, 4, 32, 64, 4, 128]⟩
abbrev S4x4x32x64x512 : Shape := ⟨5, ![4, 4, 32, 64, 512]⟩
abbrev S4x32x128x4x4x3 : Shape := ⟨6, ![4, 32, 128, 4, 4, 3]⟩
abbrev S4x4x32x3x4x128 : Shape := ⟨6, ![4, 4, 32, 3, 4, 128]⟩
abbrev S4x4x32x3x512 : Shape := ⟨5, ![4, 4, 32, 3, 512]⟩
abbrev S4x4x64x128 : Shape := ⟨4, ![4, 4, 64, 128]⟩
abbrev S4x4x8x512x64 : Shape := ⟨5, ![4, 4, 8, 512, 64]⟩
abbrev S4x4x8x64x512 : Shape := ⟨5, ![4, 4, 8, 64, 512]⟩
abbrev S64x1 : Shape := ⟨2, ![64, 1]⟩
abbrev S1x1x1x64x512 : Shape := ⟨5, ![1, 1, 1, 64, 512]⟩
abbrev S1x1x1x3x512 : Shape := ⟨5, ![1, 1, 1, 3, 512]⟩
abbrev S1x1x128x64 : Shape := ⟨4, ![1, 1, 128, 64]⟩
abbrev S1x1x64x128 : Shape := ⟨4, ![1, 1, 64, 128]⟩
abbrev S1x1x4096x64 : Shape := ⟨4, ![1, 1, 4096, 64]⟩
abbrev S1x1x8x64x512 : Shape := ⟨5, ![1, 1, 8, 64, 512]⟩
abbrev S64x128 : Shape := ⟨2, ![64, 128]⟩
abbrev S128x128 : Shape := ⟨2, ![128, 128]⟩
abbrev S64x512 : Shape := ⟨2, ![64, 512]⟩
abbrev S512 : Shape := ⟨1, ![512]⟩
abbrev S1x512 : Shape := ⟨2, ![1, 512]⟩
abbrev S128x64 : Shape := ⟨2, ![128, 64]⟩
abbrev S128x512 : Shape := ⟨2, ![128, 512]⟩
abbrev S1x128 : Shape := ⟨2, ![1, 128]⟩
abbrev S512x128 : Shape := ⟨2, ![512, 128]⟩
abbrev S1x1x512x64 : Shape := ⟨4, ![1, 1, 512, 64]⟩
abbrev S512x64 : Shape := ⟨2, ![512, 64]⟩
abbrev S512x512 : Shape := ⟨2, ![512, 512]⟩
abbrev S128 : Shape := ⟨1, ![128]⟩
abbrev S3x512 : Shape := ⟨2, ![3, 512]⟩

abbrev nBuf : Space → Nat
  | .hbm => 28
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x4096x48, .f32⟩
  | .hbm, ⟨2, _⟩ => ⟨S4x4x128x64, .f32⟩
  | .hbm, ⟨3, _⟩ => ⟨S4x4x128x64, .f32⟩
  | .hbm, ⟨4, _⟩ => ⟨S4x4x4096x64, .f32⟩
  | .hbm, ⟨5, _⟩ => ⟨S4x4x4096x64, .f32⟩
  | .hbm, ⟨6, _⟩ => ⟨S4x4x4096x64, .f32⟩
  | .hbm, ⟨7, _⟩ => ⟨S4x4x4096x64, .f32⟩
  | .hbm, ⟨8, _⟩ => ⟨S64, .f32⟩
  | .hbm, ⟨9, _⟩ => ⟨S4x32x128x4x4x64, .f32⟩
  | .hbm, ⟨10, _⟩ => ⟨S4x4x32x64x4x128, .f32⟩
  | .hbm, ⟨11, _⟩ => ⟨S4x4x32x64x512, .f32⟩
  | .hbm, ⟨12, _⟩ => ⟨S4x32x128x4x4x3, .f32⟩
  | .hbm, ⟨13, _⟩ => ⟨S4x4x32x3x4x128, .f32⟩
  | .hbm, ⟨14, _⟩ => ⟨S4x4x32x3x512, .f32⟩
  | .hbm, ⟨15, _⟩ => ⟨S4x4x128x64, .bf16⟩
  | .hbm, ⟨16, _⟩ => ⟨S4x4x128x64, .bf16⟩
  | .hbm, ⟨17, _⟩ => ⟨S4x4x64x128, .bf16⟩
  | .hbm, ⟨18, _⟩ => ⟨S4x4x4096x64, .bf16⟩
  | .hbm, ⟨19, _⟩ => ⟨S4x4x4096x64, .bf16⟩
  | .hbm, ⟨20, _⟩ => ⟨S4x4x4096x64, .bf16⟩
  | .hbm, ⟨21, _⟩ => ⟨S4x4x8x512x64, .bf16⟩
  | .hbm, ⟨22, _⟩ => ⟨S4x4x8x64x512, .bf16⟩
  | .hbm, ⟨23, _⟩ => ⟨S4x4x4096x64, .bf16⟩
  | .hbm, ⟨24, _⟩ => ⟨S4x4x8x512x64, .bf16⟩
  | .hbm, ⟨25, _⟩ => ⟨S4x4x8x64x512, .bf16⟩
  | .hbm, ⟨26, _⟩ => ⟨S64x1, .f32⟩
  | .hbm, ⟨27, _⟩ => ⟨S4x4x32x64x512, .f32⟩
  | .local _ .vmem, ⟨0, _⟩ => ⟨S1x1x1x64x512, .f32⟩
  | .local _ .vmem, ⟨1, _⟩ => ⟨S1x1x1x64x512, .f32⟩
  | .local _ .vmem, ⟨2, _⟩ => ⟨S64x1, .f32⟩
  | .local _ .vmem, ⟨3, _⟩ => ⟨S1x1x1x3x512, .f32⟩
  | .local _ .vmem, ⟨4, _⟩ => ⟨S1x1x1x3x512, .f32⟩
  | .local _ .vmem, ⟨5, _⟩ => ⟨S1x1x128x64, .bf16⟩
  | .local _ .vmem, ⟨6, _⟩ => ⟨S1x1x128x64, .bf16⟩
  | .local _ .vmem, ⟨7, _⟩ => ⟨S1x1x64x128, .bf16⟩
  | .local _ .vmem, ⟨8, _⟩ => ⟨S1x1x64x128, .bf16⟩
  | .local _ .vmem, ⟨9, _⟩ => ⟨S1x1x4096x64, .bf16⟩
  | .local _ .vmem, ⟨10, _⟩ => ⟨S1x1x4096x64, .bf16⟩
  | .local _ .vmem, ⟨11, _⟩ => ⟨S1x1x8x64x512, .bf16⟩
  | .local _ .vmem, ⟨12, _⟩ => ⟨S1x1x8x64x512, .bf16⟩
  | .local _ .vmem, ⟨13, _⟩ => ⟨S1x1x4096x64, .bf16⟩
  | .local _ .vmem, ⟨14, _⟩ => ⟨S1x1x4096x64, .bf16⟩
  | .local _ .vmem, ⟨15, _⟩ => ⟨S1x1x8x64x512, .bf16⟩
  | .local _ .vmem, ⟨16, _⟩ => ⟨S1x1x8x64x512, .bf16⟩
  | .local _ .vmem, ⟨17, _⟩ => ⟨S1x1x1x64x512, .f32⟩
  | .local _ .vmem, ⟨18, _⟩ => ⟨S1x1x1x64x512, .f32⟩
  | .local _ .vmem, ⟨19, _⟩ => ⟨S64x128, .f32⟩
  | .local _ .vmem, ⟨20, _⟩ => ⟨S64x128, .f32⟩
  | .local _ .vmem, ⟨21, _⟩ => ⟨S128x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 4, 32], ![false, false, false]⟩

@[reducible] def k0_t1_loop (i : grid0.Coords) : Scf.Loop 32 :=
  let c0_i32_53 : BitVec 32 := 0#32
  let arg2 : BitVec 32 := BitVec.ofNat 32 (i 2).val
  let c128_i32 : BitVec 32 := 128#32
  let v0 : BitVec 32 := Scalar.muli arg2 c128_i32
  let c128_i32_41 : BitVec 32 := 128#32
  let v115 : BitVec 32 := Scalar.addi v0 c128_i32_41
  let c1_i32_42 : BitVec 32 := 1#32
  let v116 : BitVec 32 := Scalar.subi v115 c1_i32_42
  let c0_i32_44 : BitVec 32 := 0#32
  let v118 : BitVec 1 := Scalar.cmpi .sgt v116 c0_i32_44
  let v119 : BitVec 32 := Scalar.extui v118
  let c0_i32_45 : BitVec 32 := 0#32
  let v120 : BitVec 1 := Scalar.cmpi .slt v116 c0_i32_45
  let v121 : BitVec 32 := Scalar.extui v120
  let v122 : BitVec 32 := Scalar.subi v119 v121
  let c64_i32_43 : BitVec 32 := 64#32
  let c0_i32_46 : BitVec 32 := 0#32
  let v123 : BitVec 1 := Scalar.cmpi .sgt c64_i32_43 c0_i32_46
  let v124 : BitVec 32 := Scalar.extui v123
  let c0_i32_47 : BitVec 32 := 0#32
  let v125 : BitVec 1 := Scalar.cmpi .slt c64_i32_43 c0_i32_47
  let v126 : BitVec 32 := Scalar.extui v125
  let v127 : BitVec 32 := Scalar.subi v124 v126
  let v128 : BitVec 1 := Scalar.cmpi .ne v122 v127
  let v129 : BitVec 32 := Scalar.remsi v116 c64_i32_43
  let c0_i32_48 : BitVec 32 := 0#32
  let v130 : BitVec 1 := Scalar.cmpi .ne v129 c0_i32_48
  let v131 : BitVec 1 := Scalar.andi v128 v130
  let v117 : BitVec 32 := Scalar.divsi v116 c64_i32_43
  let c1_i32_49 : BitVec 32 := 1#32
  let v132 : BitVec 32 := Scalar.subi v117 c1_i32_49
  let v133 : BitVec 32 := Scalar.select v131 v132 v117
  let c1_i32_50 : BitVec 32 := 1#32
  let v134 : BitVec 32 := Scalar.addi v133 c1_i32_50
  let c64_i32_51 : BitVec 32 := 64#32
  let v135 : BitVec 32 := Scalar.minsi v134 c64_i32_51
  let v137 : BitVec 32 := Scalar.subi v135 c0_i32_53
  let c1_i32_54 : BitVec 32 := 1#32
  let v139 : BitVec 32 := Scalar.divsi v137 c1_i32_54
  let v140 : BitVec 32 := Scalar.muli v139 c1_i32_54
  let v141 : BitVec 32 := Scalar.addi c0_i32_53 v140
  let c1_i32_55 : BitVec 32 := 1#32
  ⟨c0_i32_53, v141, c1_i32_55⟩
def k0_off1 (i : grid0.Coords) (k0_t1 : Fin (k0_t1_loop i).trips) : Fin 2 → Nat :=
  let c0_i32_53 : BitVec 32 := 0#32
  let c1_i32_55 : BitVec 32 := 1#32
  let arg16 : BitVec 32 := Scf.iv c0_i32_53 c1_i32_55 k0_t1
  let v241 : Index := Scalar.indexCast arg16
  let c0_104 : Index := 0#32
  ![v241.toNat, 0]
@[reducible] def k0_t2_loop (i : grid0.Coords) : Scf.Loop 32 :=
  let c0_i32_53 : BitVec 32 := 0#32
  let arg2 : BitVec 32 := BitVec.ofNat 32 (i 2).val
  let c128_i32 : BitVec 32 := 128#32
  let v0 : BitVec 32 := Scalar.muli arg2 c128_i32
  let c128_i32_41 : BitVec 32 := 128#32
  let v115 : BitVec 32 := Scalar.addi v0 c128_i32_41
  let c1_i32_42 : BitVec 32 := 1#32
  let v116 : BitVec 32 := Scalar.subi v115 c1_i32_42
  let c0_i32_44 : BitVec 32 := 0#32
  let v118 : BitVec 1 := Scalar.cmpi .sgt v116 c0_i32_44
  let v119 : BitVec 32 := Scalar.extui v118
  let c0_i32_45 : BitVec 32 := 0#32
  let v120 : BitVec 1 := Scalar.cmpi .slt v116 c0_i32_45
  let v121 : BitVec 32 := Scalar.extui v120
  let v122 : BitVec 32 := Scalar.subi v119 v121
  let c64_i32_43 : BitVec 32 := 64#32
  let c0_i32_46 : BitVec 32 := 0#32
  let v123 : BitVec 1 := Scalar.cmpi .sgt c64_i32_43 c0_i32_46
  let v124 : BitVec 32 := Scalar.extui v123
  let c0_i32_47 : BitVec 32 := 0#32
  let v125 : BitVec 1 := Scalar.cmpi .slt c64_i32_43 c0_i32_47
  let v126 : BitVec 32 := Scalar.extui v125
  let v127 : BitVec 32 := Scalar.subi v124 v126
  let v128 : BitVec 1 := Scalar.cmpi .ne v122 v127
  let v129 : BitVec 32 := Scalar.remsi v116 c64_i32_43
  let c0_i32_48 : BitVec 32 := 0#32
  let v130 : BitVec 1 := Scalar.cmpi .ne v129 c0_i32_48
  let v131 : BitVec 1 := Scalar.andi v128 v130
  let v117 : BitVec 32 := Scalar.divsi v116 c64_i32_43
  let c1_i32_49 : BitVec 32 := 1#32
  let v132 : BitVec 32 := Scalar.subi v117 c1_i32_49
  let v133 : BitVec 32 := Scalar.select v131 v132 v117
  let c1_i32_50 : BitVec 32 := 1#32
  let v134 : BitVec 32 := Scalar.addi v133 c1_i32_50
  let c64_i32_51 : BitVec 32 := 64#32
  let v135 : BitVec 32 := Scalar.minsi v134 c64_i32_51
  let v137 : BitVec 32 := Scalar.subi v135 c0_i32_53
  let c1_i32_54 : BitVec 32 := 1#32
  let v139 : BitVec 32 := Scalar.divsi v137 c1_i32_54
  let v140 : BitVec 32 := Scalar.muli v139 c1_i32_54
  let v141 : BitVec 32 := Scalar.addi c0_i32_53 v140
  let v138 : BitVec 32 := Scalar.addi c0_i32_53 v137
  let c1_i32_56 : BitVec 32 := 1#32
  ⟨v141, v138, c1_i32_56⟩
def k0_off2 (i : grid0.Coords) (k0_t2 : Fin (k0_t2_loop i).trips) : Fin 2 → Nat :=
  let c0_i32_53 : BitVec 32 := 0#32
  let arg2 : BitVec 32 := BitVec.ofNat 32 (i 2).val
  let c128_i32 : BitVec 32 := 128#32
  let v0 : BitVec 32 := Scalar.muli arg2 c128_i32
  let c128_i32_41 : BitVec 32 := 128#32
  let v115 : BitVec 32 := Scalar.addi v0 c128_i32_41
  let c1_i32_42 : BitVec 32 := 1#32
  let v116 : BitVec 32 := Scalar.subi v115 c1_i32_42
  let c0_i32_44 : BitVec 32 := 0#32
  let v118 : BitVec 1 := Scalar.cmpi .sgt v116 c0_i32_44
  let v119 : BitVec 32 := Scalar.extui v118
  let c0_i32_45 : BitVec 32 := 0#32
  let v120 : BitVec 1 := Scalar.cmpi .slt v116 c0_i32_45
  let v121 : BitVec 32 := Scalar.extui v120
  let v122 : BitVec 32 := Scalar.subi v119 v121
  let c64_i32_43 : BitVec 32 := 64#32
  let c0_i32_46 : BitVec 32 := 0#32
  let v123 : BitVec 1 := Scalar.cmpi .sgt c64_i32_43 c0_i32_46
  let v124 : BitVec 32 := Scalar.extui v123
  let c0_i32_47 : BitVec 32 := 0#32
  let v125 : BitVec 1 := Scalar.cmpi .slt c64_i32_43 c0_i32_47
  let v126 : BitVec 32 := Scalar.extui v125
  let v127 : BitVec 32 := Scalar.subi v124 v126
  let v128 : BitVec 1 := Scalar.cmpi .ne v122 v127
  let v129 : BitVec 32 := Scalar.remsi v116 c64_i32_43
  let c0_i32_48 : BitVec 32 := 0#32
  let v130 : BitVec 1 := Scalar.cmpi .ne v129 c0_i32_48
  let v131 : BitVec 1 := Scalar.andi v128 v130
  let v117 : BitVec 32 := Scalar.divsi v116 c64_i32_43
  let c1_i32_49 : BitVec 32 := 1#32
  let v132 : BitVec 32 := Scalar.subi v117 c1_i32_49
  let v133 : BitVec 32 := Scalar.select v131 v132 v117
  let c1_i32_50 : BitVec 32 := 1#32
  let v134 : BitVec 32 := Scalar.addi v133 c1_i32_50
  let c64_i32_51 : BitVec 32 := 64#32
  let v135 : BitVec 32 := Scalar.minsi v134 c64_i32_51
  let v137 : BitVec 32 := Scalar.subi v135 c0_i32_53
  let c1_i32_54 : BitVec 32 := 1#32
  let v139 : BitVec 32 := Scalar.divsi v137 c1_i32_54
  let v140 : BitVec 32 := Scalar.muli v139 c1_i32_54
  let v141 : BitVec 32 := Scalar.addi c0_i32_53 v140
  let c1_i32_56 : BitVec 32 := 1#32
  let arg16 : BitVec 32 := Scf.iv v141 c1_i32_56 k0_t2
  let v241 : Index := Scalar.indexCast arg16
  let c0_104 : Index := 0#32
  ![v241.toNat, 0]
@[reducible] def k0_t3_loop (i : grid0.Coords) : Scf.Loop 32 :=
  let c0_i32_74 : BitVec 32 := 0#32
  let arg2 : BitVec 32 := BitVec.ofNat 32 (i 2).val
  let c128_i32 : BitVec 32 := 128#32
  let v0 : BitVec 32 := Scalar.muli arg2 c128_i32
  let c128_i32_62 : BitVec 32 := 128#32
  let v157 : BitVec 32 := Scalar.addi v0 c128_i32_62
  let c512_i32 : BitVec 32 := 512#32
  let v158 : BitVec 32 := Scalar.addi v157 c512_i32
  let c1_i32_63 : BitVec 32 := 1#32
  let v159 : BitVec 32 := Scalar.subi v158 c1_i32_63
  let c0_i32_65 : BitVec 32 := 0#32
  let v161 : BitVec 1 := Scalar.cmpi .sgt v159 c0_i32_65
  let v162 : BitVec 32 := Scalar.extui v161
  let c0_i32_66 : BitVec 32 := 0#32
  let v163 : BitVec 1 := Scalar.cmpi .slt v159 c0_i32_66
  let v164 : BitVec 32 := Scalar.extui v163
  let v165 : BitVec 32 := Scalar.subi v162 v164
  let c512_i32_64 : BitVec 32 := 512#32
  let c0_i32_67 : BitVec 32 := 0#32
  let v166 : BitVec 1 := Scalar.cmpi .sgt c512_i32_64 c0_i32_67
  let v167 : BitVec 32 := Scalar.extui v166
  let c0_i32_68 : BitVec 32 := 0#32
  let v168 : BitVec 1 := Scalar.cmpi .slt c512_i32_64 c0_i32_68
  let v169 : BitVec 32 := Scalar.extui v168
  let v170 : BitVec 32 := Scalar.subi v167 v169
  let v171 : BitVec 1 := Scalar.cmpi .ne v165 v170
  let v172 : BitVec 32 := Scalar.remsi v159 c512_i32_64
  let c0_i32_69 : BitVec 32 := 0#32
  let v173 : BitVec 1 := Scalar.cmpi .ne v172 c0_i32_69
  let v174 : BitVec 1 := Scalar.andi v171 v173
  let v160 : BitVec 32 := Scalar.divsi v159 c512_i32_64
  let c1_i32_70 : BitVec 32 := 1#32
  let v175 : BitVec 32 := Scalar.subi v160 c1_i32_70
  let v176 : BitVec 32 := Scalar.select v174 v175 v160
  let v180 : BitVec 32 := Scalar.subi v176 c0_i32_74
  let c1_i32_75 : BitVec 32 := 1#32
  let v182 : BitVec 32 := Scalar.divsi v180 c1_i32_75
  let v183 : BitVec 32 := Scalar.muli v182 c1_i32_75
  let v184 : BitVec 32 := Scalar.addi c0_i32_74 v183
  let c1_i32_76 : BitVec 32 := 1#32
  ⟨c0_i32_74, v184, c1_i32_76⟩
def k0_mult1 (i : grid0.Coords) (k0_t3 : Fin (k0_t3_loop i).trips) : BitVec 32 :=
  let c0_i32_74 : BitVec 32 := 0#32
  let c1_i32_76 : BitVec 32 := 1#32
  let arg16 : BitVec 32 := Scf.iv c0_i32_74 c1_i32_76 k0_t3
  let c512_i32_104 : BitVec 32 := 512#32
  let v241 : BitVec 32 := Scalar.muli arg16 c512_i32_104
  v241
def k0_off3 (i : grid0.Coords) (k0_t3 : Fin (k0_t3_loop i).trips) : Fin 4 → Nat :=
  let c0_105 : Index := 0#32
  let c0_106 : Index := 0#32
  let c0_i32_74 : BitVec 32 := 0#32
  let c1_i32_76 : BitVec 32 := 1#32
  let arg16 : BitVec 32 := Scf.iv c0_i32_74 c1_i32_76 k0_t3
  let c512_i32_104 : BitVec 32 := 512#32
  let v241 : BitVec 32 := Scalar.muli arg16 c512_i32_104
  let v242 : BitVec 32 := v241
  let v243 : Index := Scalar.indexCast v242
  let c0_107 : Index := 0#32
  ![0, 0, v243.toNat, 0]
def k0_off4 (i : grid0.Coords) (k0_t3 : Fin (k0_t3_loop i).trips) (c0_i32_110 : BitVec 32) : Fin 2 → Nat :=
  let c0_i32_74 : BitVec 32 := 0#32
  let c1_i32_76 : BitVec 32 := 1#32
  let arg16 : BitVec 32 := Scf.iv c0_i32_74 c1_i32_76 k0_t3
  let c8_i32 : BitVec 32 := 8#32
  let v250 : BitVec 32 := Scalar.muli arg16 c8_i32
  let v251 : BitVec 32 := Scalar.addi v250 c0_i32_110
  let c63_i32 : BitVec 32 := 63#32
  let v252 : BitVec 32 := Scalar.minsi v251 c63_i32
  let v253 : Index := Scalar.indexCast v252
  let c0_111 : Index := 0#32
  ![v253.toNat, 0]
def k0_off5 (i : grid0.Coords) (k0_t3 : Fin (k0_t3_loop i).trips) : Fin 5 → Nat :=
  let c0_143 : Index := 0#32
  let c0_144 : Index := 0#32
  let c0_i32_74 : BitVec 32 := 0#32
  let c1_i32_76 : BitVec 32 := 1#32
  let arg16 : BitVec 32 := Scf.iv c0_i32_74 c1_i32_76 k0_t3
  let v367 : Index := Scalar.indexCast arg16
  let c0_145 : Index := 0#32
  let c0_146 : Index := 0#32
  ![0, 0, v367.toNat, 0, 0]
@[reducible] def k0_t4_loop (i : grid0.Coords) : Scf.Loop 32 :=
  let c0_i32_74 : BitVec 32 := 0#32
  let arg2 : BitVec 32 := BitVec.ofNat 32 (i 2).val
  let c128_i32 : BitVec 32 := 128#32
  let v0 : BitVec 32 := Scalar.muli arg2 c128_i32
  let c128_i32_62 : BitVec 32 := 128#32
  let v157 : BitVec 32 := Scalar.addi v0 c128_i32_62
  let c512_i32 : BitVec 32 := 512#32
  let v158 : BitVec 32 := Scalar.addi v157 c512_i32
  let c1_i32_63 : BitVec 32 := 1#32
  let v159 : BitVec 32 := Scalar.subi v158 c1_i32_63
  let c0_i32_65 : BitVec 32 := 0#32
  let v161 : BitVec 1 := Scalar.cmpi .sgt v159 c0_i32_65
  let v162 : BitVec 32 := Scalar.extui v161
  let c0_i32_66 : BitVec 32 := 0#32
  let v163 : BitVec 1 := Scalar.cmpi .slt v159 c0_i32_66
  let v164 : BitVec 32 := Scalar.extui v163
  let v165 : BitVec 32 := Scalar.subi v162 v164
  let c512_i32_64 : BitVec 32 := 512#32
  let c0_i32_67 : BitVec 32 := 0#32
  let v166 : BitVec 1 := Scalar.cmpi .sgt c512_i32_64 c0_i32_67
  let v167 : BitVec 32 := Scalar.extui v166
  let c0_i32_68 : BitVec 32 := 0#32
  let v168 : BitVec 1 := Scalar.cmpi .slt c512_i32_64 c0_i32_68
  let v169 : BitVec 32 := Scalar.extui v168
  let v170 : BitVec 32 := Scalar.subi v167 v169
  let v171 : BitVec 1 := Scalar.cmpi .ne v165 v170
  let v172 : BitVec 32 := Scalar.remsi v159 c512_i32_64
  let c0_i32_69 : BitVec 32 := 0#32
  let v173 : BitVec 1 := Scalar.cmpi .ne v172 c0_i32_69
  let v174 : BitVec 1 := Scalar.andi v171 v173
  let v160 : BitVec 32 := Scalar.divsi v159 c512_i32_64
  let c1_i32_70 : BitVec 32 := 1#32
  let v175 : BitVec 32 := Scalar.subi v160 c1_i32_70
  let v176 : BitVec 32 := Scalar.select v174 v175 v160
  let v180 : BitVec 32 := Scalar.subi v176 c0_i32_74
  let c1_i32_75 : BitVec 32 := 1#32
  let v182 : BitVec 32 := Scalar.divsi v180 c1_i32_75
  let v183 : BitVec 32 := Scalar.muli v182 c1_i32_75
  let v184 : BitVec 32 := Scalar.addi c0_i32_74 v183
  let v181 : BitVec 32 := Scalar.addi c0_i32_74 v180
  let c1_i32_77 : BitVec 32 := 1#32
  ⟨v184, v181, c1_i32_77⟩
def k0_mult2 (i : grid0.Coords) (k0_t4 : Fin (k0_t4_loop i).trips) : BitVec 32 :=
  let c0_i32_74 : BitVec 32 := 0#32
  let arg2 : BitVec 32 := BitVec.ofNat 32 (i 2).val
  let c128_i32 : BitVec 32 := 128#32
  let v0 : BitVec 32 := Scalar.muli arg2 c128_i32
  let c128_i32_62 : BitVec 32 := 128#32
  let v157 : BitVec 32 := Scalar.addi v0 c128_i32_62
  let c512_i32 : BitVec 32 := 512#32
  let v158 : BitVec 32 := Scalar.addi v157 c512_i32
  let c1_i32_63 : BitVec 32 := 1#32
  let v159 : BitVec 32 := Scalar.subi v158 c1_i32_63
  let c0_i32_65 : BitVec 32 := 0#32
  let v161 : BitVec 1 := Scalar.cmpi .sgt v159 c0_i32_65
  let v162 : BitVec 32 := Scalar.extui v161
  let c0_i32_66 : BitVec 32 := 0#32
  let v163 : BitVec 1 := Scalar.cmpi .slt v159 c0_i32_66
  let v164 : BitVec 32 := Scalar.extui v163
  let v165 : BitVec 32 := Scalar.subi v162 v164
  let c512_i32_64 : BitVec 32 := 512#32
  let c0_i32_67 : BitVec 32 := 0#32
  let v166 : BitVec 1 := Scalar.cmpi .sgt c512_i32_64 c0_i32_67
  let v167 : BitVec 32 := Scalar.extui v166
  let c0_i32_68 : BitVec 32 := 0#32
  let v168 : BitVec 1 := Scalar.cmpi .slt c512_i32_64 c0_i32_68
  let v169 : BitVec 32 := Scalar.extui v168
  let v170 : BitVec 32 := Scalar.subi v167 v169
  let v171 : BitVec 1 := Scalar.cmpi .ne v165 v170
  let v172 : BitVec 32 := Scalar.remsi v159 c512_i32_64
  let c0_i32_69 : BitVec 32 := 0#32
  let v173 : BitVec 1 := Scalar.cmpi .ne v172 c0_i32_69
  let v174 : BitVec 1 := Scalar.andi v171 v173
  let v160 : BitVec 32 := Scalar.divsi v159 c512_i32_64
  let c1_i32_70 : BitVec 32 := 1#32
  let v175 : BitVec 32 := Scalar.subi v160 c1_i32_70
  let v176 : BitVec 32 := Scalar.select v174 v175 v160
  let v180 : BitVec 32 := Scalar.subi v176 c0_i32_74
  let c1_i32_75 : BitVec 32 := 1#32
  let v182 : BitVec 32 := Scalar.divsi v180 c1_i32_75
  let v183 : BitVec 32 := Scalar.muli v182 c1_i32_75
  let v184 : BitVec 32 := Scalar.addi c0_i32_74 v183
  let c1_i32_77 : BitVec 32 := 1#32
  let arg16 : BitVec 32 := Scf.iv v184 c1_i32_77 k0_t4
  let c512_i32_104 : BitVec 32 := 512#32
  let v241 : BitVec 32 := Scalar.muli arg16 c512_i32_104
  v241
def k0_off6 (i : grid0.Coords) (k0_t4 : Fin (k0_t4_loop i).trips) : Fin 4 → Nat :=
  let c0_105 : Index := 0#32
  let c0_106 : Index := 0#32
  let c0_i32_74 : BitVec 32 := 0#32
  let arg2 : BitVec 32 := BitVec.ofNat 32 (i 2).val
  let c128_i32 : BitVec 32 := 128#32
  let v0 : BitVec 32 := Scalar.muli arg2 c128_i32
  let c128_i32_62 : BitVec 32 := 128#32
  let v157 : BitVec 32 := Scalar.addi v0 c128_i32_62
  let c512_i32 : BitVec 32 := 512#32
  let v158 : BitVec 32 := Scalar.addi v157 c512_i32
  let c1_i32_63 : BitVec 32 := 1#32
  let v159 : BitVec 32 := Scalar.subi v158 c1_i32_63
  let c0_i32_65 : BitVec 32 := 0#32
  let v161 : BitVec 1 := Scalar.cmpi .sgt v159 c0_i32_65
  let v162 : BitVec 32 := Scalar.extui v161
  let c0_i32_66 : BitVec 32 := 0#32
  let v163 : BitVec 1 := Scalar.cmpi .slt v159 c0_i32_66
  let v164 : BitVec 32 := Scalar.extui v163
  let v165 : BitVec 32 := Scalar.subi v162 v164
  let c512_i32_64 : BitVec 32 := 512#32
  let c0_i32_67 : BitVec 32 := 0#32
  let v166 : BitVec 1 := Scalar.cmpi .sgt c512_i32_64 c0_i32_67
  let v167 : BitVec 32 := Scalar.extui v166
  let c0_i32_68 : BitVec 32 := 0#32
  let v168 : BitVec 1 := Scalar.cmpi .slt c512_i32_64 c0_i32_68
  let v169 : BitVec 32 := Scalar.extui v168
  let v170 : BitVec 32 := Scalar.subi v167 v169
  let v171 : BitVec 1 := Scalar.cmpi .ne v165 v170
  let v172 : BitVec 32 := Scalar.remsi v159 c512_i32_64
  let c0_i32_69 : BitVec 32 := 0#32
  let v173 : BitVec 1 := Scalar.cmpi .ne v172 c0_i32_69
  let v174 : BitVec 1 := Scalar.andi v171 v173
  let v160 : BitVec 32 := Scalar.divsi v159 c512_i32_64
  let c1_i32_70 : BitVec 32 := 1#32
  let v175 : BitVec 32 := Scalar.subi v160 c1_i32_70
  let v176 : BitVec 32 := Scalar.select v174 v175 v160
  let v180 : BitVec 32 := Scalar.subi v176 c0_i32_74
  let c1_i32_75 : BitVec 32 := 1#32
  let v182 : BitVec 32 := Scalar.divsi v180 c1_i32_75
  let v183 : BitVec 32 := Scalar.muli v182 c1_i32_75
  let v184 : BitVec 32 := Scalar.addi c0_i32_74 v183
  let c1_i32_77 : BitVec 32 := 1#32
  let arg16 : BitVec 32 := Scf.iv v184 c1_i32_77 k0_t4
  let c512_i32_104 : BitVec 32 := 512#32
  let v241 : BitVec 32 := Scalar.muli arg16 c512_i32_104
  let v242 : BitVec 32 := v241
  let v243 : Index := Scalar.indexCast v242
  let c0_107 : Index := 0#32
  ![0, 0, v243.toNat, 0]
def k0_off7 (i : grid0.Coords) (k0_t4 : Fin (k0_t4_loop i).trips) (c0_i32_110 : BitVec 32) : Fin 2 → Nat :=
  let c0_i32_74 : BitVec 32 := 0#32
  let arg2 : BitVec 32 := BitVec.ofNat 32 (i 2).val
  let c128_i32 : BitVec 32 := 128#32
  let v0 : BitVec 32 := Scalar.muli arg2 c128_i32
  let c128_i32_62 : BitVec 32 := 128#32
  let v157 : BitVec 32 := Scalar.addi v0 c128_i32_62
  let c512_i32 : BitVec 32 := 512#32
  let v158 : BitVec 32 := Scalar.addi v157 c512_i32
  let c1_i32_63 : BitVec 32 := 1#32
  let v159 : BitVec 32 := Scalar.subi v158 c1_i32_63
  let c0_i32_65 : BitVec 32 := 0#32
  let v161 : BitVec 1 := Scalar.cmpi .sgt v159 c0_i32_65
  let v162 : BitVec 32 := Scalar.extui v161
  let c0_i32_66 : BitVec 32 := 0#32
  let v163 : BitVec 1 := Scalar.cmpi .slt v159 c0_i32_66
  let v164 : BitVec 32 := Scalar.extui v163
  let v165 : BitVec 32 := Scalar.subi v162 v164
  let c512_i32_64 : BitVec 32 := 512#32
  let c0_i32_67 : BitVec 32 := 0#32
  let v166 : BitVec 1 := Scalar.cmpi .sgt c512_i32_64 c0_i32_67
  let v167 : BitVec 32 := Scalar.extui v166
  let c0_i32_68 : BitVec 32 := 0#32
  let v168 : BitVec 1 := Scalar.cmpi .slt c512_i32_64 c0_i32_68
  let v169 : BitVec 32 := Scalar.extui v168
  let v170 : BitVec 32 := Scalar.subi v167 v169
  let v171 : BitVec 1 := Scalar.cmpi .ne v165 v170
  let v172 : BitVec 32 := Scalar.remsi v159 c512_i32_64
  let c0_i32_69 : BitVec 32 := 0#32
  let v173 : BitVec 1 := Scalar.cmpi .ne v172 c0_i32_69
  let v174 : BitVec 1 := Scalar.andi v171 v173
  let v160 : BitVec 32 := Scalar.divsi v159 c512_i32_64
  let c1_i32_70 : BitVec 32 := 1#32
  let v175 : BitVec 32 := Scalar.subi v160 c1_i32_70
  let v176 : BitVec 32 := Scalar.select v174 v175 v160
  let v180 : BitVec 32 := Scalar.subi v176 c0_i32_74
  let c1_i32_75 : BitVec 32 := 1#32
  let v182 : BitVec 32 := Scalar.divsi v180 c1_i32_75
  let v183 : BitVec 32 := Scalar.muli v182 c1_i32_75
  let v184 : BitVec 32 := Scalar.addi c0_i32_74 v183
  let c1_i32_77 : BitVec 32 := 1#32
  let arg16 : BitVec 32 := Scf.iv v184 c1_i32_77 k0_t4
  let c8_i32 : BitVec 32 := 8#32
  let v250 : BitVec 32 := Scalar.muli arg16 c8_i32
  let v251 : BitVec 32 := Scalar.addi v250 c0_i32_110
  let c63_i32 : BitVec 32 := 63#32
  let v252 : BitVec 32 := Scalar.minsi v251 c63_i32
  let v253 : Index := Scalar.indexCast v252
  let c0_111 : Index := 0#32
  ![v253.toNat, 0]
def k0_off8 (i : grid0.Coords) (k0_t4 : Fin (k0_t4_loop i).trips) : Fin 5 → Nat :=
  let c0_143 : Index := 0#32
  let c0_144 : Index := 0#32
  let c0_i32_74 : BitVec 32 := 0#32
  let arg2 : BitVec 32 := BitVec.ofNat 32 (i 2).val
  let c128_i32 : BitVec 32 := 128#32
  let v0 : BitVec 32 := Scalar.muli arg2 c128_i32
  let c128_i32_62 : BitVec 32 := 128#32
  let v157 : BitVec 32 := Scalar.addi v0 c128_i32_62
  let c512_i32 : BitVec 32 := 512#32
  let v158 : BitVec 32 := Scalar.addi v157 c512_i32
  let c1_i32_63 : BitVec 32 := 1#32
  let v159 : BitVec 32 := Scalar.subi v158 c1_i32_63
  let c0_i32_65 : BitVec 32 := 0#32
  let v161 : BitVec 1 := Scalar.cmpi .sgt v159 c0_i32_65
  let v162 : BitVec 32 := Scalar.extui v161
  let c0_i32_66 : BitVec 32 := 0#32
  let v163 : BitVec 1 := Scalar.cmpi .slt v159 c0_i32_66
  let v164 : BitVec 32 := Scalar.extui v163
  let v165 : BitVec 32 := Scalar.subi v162 v164
  let c512_i32_64 : BitVec 32 := 512#32
  let c0_i32_67 : BitVec 32 := 0#32
  let v166 : BitVec 1 := Scalar.cmpi .sgt c512_i32_64 c0_i32_67
  let v167 : BitVec 32 := Scalar.extui v166
  let c0_i32_68 : BitVec 32 := 0#32
  let v168 : BitVec 1 := Scalar.cmpi .slt c512_i32_64 c0_i32_68
  let v169 : BitVec 32 := Scalar.extui v168
  let v170 : BitVec 32 := Scalar.subi v167 v169
  let v171 : BitVec 1 := Scalar.cmpi .ne v165 v170
  let v172 : BitVec 32 := Scalar.remsi v159 c512_i32_64
  let c0_i32_69 : BitVec 32 := 0#32
  let v173 : BitVec 1 := Scalar.cmpi .ne v172 c0_i32_69
  let v174 : BitVec 1 := Scalar.andi v171 v173
  let v160 : BitVec 32 := Scalar.divsi v159 c512_i32_64
  let c1_i32_70 : BitVec 32 := 1#32
  let v175 : BitVec 32 := Scalar.subi v160 c1_i32_70
  let v176 : BitVec 32 := Scalar.select v174 v175 v160
  let v180 : BitVec 32 := Scalar.subi v176 c0_i32_74
  let c1_i32_75 : BitVec 32 := 1#32
  let v182 : BitVec 32 := Scalar.divsi v180 c1_i32_75
  let v183 : BitVec 32 := Scalar.muli v182 c1_i32_75
  let v184 : BitVec 32 := Scalar.addi c0_i32_74 v183
  let c1_i32_77 : BitVec 32 := 1#32
  let arg16 : BitVec 32 := Scf.iv v184 c1_i32_77 k0_t4
  let v367 : Index := Scalar.indexCast arg16
  let c0_145 : Index := 0#32
  let c0_146 : Index := 0#32
  ![0, 0, v367.toNat, 0, 0]
@[reducible] def k0_t5_loop (i : grid0.Coords) : Scf.Loop 32 :=
  let arg2 : BitVec 32 := BitVec.ofNat 32 (i 2).val
  let c128_i32 : BitVec 32 := 128#32
  let v0 : BitVec 32 := Scalar.muli arg2 c128_i32
  let c511_i32 : BitVec 32 := 511#32
  let v191 : BitVec 32 := Scalar.subi v0 c511_i32
  let c0_i32_79 : BitVec 32 := 0#32
  let v192 : BitVec 32 := Scalar.maxsi v191 c0_i32_79
  let c0_i32_81 : BitVec 32 := 0#32
  let v194 : BitVec 1 := Scalar.cmpi .sgt v192 c0_i32_81
  let v195 : BitVec 32 := Scalar.extui v194
  let c0_i32_82 : BitVec 32 := 0#32
  let v196 : BitVec 1 := Scalar.cmpi .slt v192 c0_i32_82
  let v197 : BitVec 32 := Scalar.extui v196
  let v198 : BitVec 32 := Scalar.subi v195 v197
  let c512_i32_80 : BitVec 32 := 512#32
  let c0_i32_83 : BitVec 32 := 0#32
  let v199 : BitVec 1 := Scalar.cmpi .sgt c512_i32_80 c0_i32_83
  let v200 : BitVec 32 := Scalar.extui v199
  let c0_i32_84 : BitVec 32 := 0#32
  let v201 : BitVec 1 := Scalar.cmpi .slt c512_i32_80 c0_i32_84
  let v202 : BitVec 32 := Scalar.extui v201
  let v203 : BitVec 32 := Scalar.subi v200 v202
  let v204 : BitVec 1 := Scalar.cmpi .ne v198 v203
  let v205 : BitVec 32 := Scalar.remsi v192 c512_i32_80
  let c0_i32_85 : BitVec 32 := 0#32
  let v206 : BitVec 1 := Scalar.cmpi .ne v205 c0_i32_85
  let v207 : BitVec 1 := Scalar.andi v204 v206
  let v193 : BitVec 32 := Scalar.divsi v192 c512_i32_80
  let c1_i32_86 : BitVec 32 := 1#32
  let v208 : BitVec 32 := Scalar.subi v193 c1_i32_86
  let v209 : BitVec 32 := Scalar.select v207 v208 v193
  let c128_i32_62 : BitVec 32 := 128#32
  let v157 : BitVec 32 := Scalar.addi v0 c128_i32_62
  let c512_i32 : BitVec 32 := 512#32
  let v158 : BitVec 32 := Scalar.addi v157 c512_i32
  let c1_i32_63 : BitVec 32 := 1#32
  let v159 : BitVec 32 := Scalar.subi v158 c1_i32_63
  let c0_i32_65 : BitVec 32 := 0#32
  let v161 : BitVec 1 := Scalar.cmpi .sgt v159 c0_i32_65
  let v162 : BitVec 32 := Scalar.extui v161
  let c0_i32_66 : BitVec 32 := 0#32
  let v163 : BitVec 1 := Scalar.cmpi .slt v159 c0_i32_66
  let v164 : BitVec 32 := Scalar.extui v163
  let v165 : BitVec 32 := Scalar.subi v162 v164
  let c512_i32_64 : BitVec 32 := 512#32
  let c0_i32_67 : BitVec 32 := 0#32
  let v166 : BitVec 1 := Scalar.cmpi .sgt c512_i32_64 c0_i32_67
  let v167 : BitVec 32 := Scalar.extui v166
  let c0_i32_68 : BitVec 32 := 0#32
  let v168 : BitVec 1 := Scalar.cmpi .slt c512_i32_64 c0_i32_68
  let v169 : BitVec 32 := Scalar.extui v168
  let v170 : BitVec 32 := Scalar.subi v167 v169
  let v171 : BitVec 1 := Scalar.cmpi .ne v165 v170
  let v172 : BitVec 32 := Scalar.remsi v159 c512_i32_64
  let c0_i32_69 : BitVec 32 := 0#32
  let v173 : BitVec 1 := Scalar.cmpi .ne v172 c0_i32_69
  let v174 : BitVec 1 := Scalar.andi v171 v173
  let v160 : BitVec 32 := Scalar.divsi v159 c512_i32_64
  let c1_i32_70 : BitVec 32 := 1#32
  let v175 : BitVec 32 := Scalar.subi v160 c1_i32_70
  let v176 : BitVec 32 := Scalar.select v174 v175 v160
  let v213 : BitVec 32 := Scalar.subi v176 v209
  let c1_i32_90 : BitVec 32 := 1#32
  let v215 : BitVec 32 := Scalar.divsi v213 c1_i32_90
  let v216 : BitVec 32 := Scalar.muli v215 c1_i32_90
  let v217 : BitVec 32 := Scalar.addi v209 v216
  let c1_i32_91 : BitVec 32 := 1#32
  ⟨v209, v217, c1_i32_91⟩
def k0_mult3 (i : grid0.Coords) (k0_t5 : Fin (k0_t5_loop i).trips) : BitVec 32 :=
  let arg2 : BitVec 32 := BitVec.ofNat 32 (i 2).val
  let c128_i32 : BitVec 32 := 128#32
  let v0 : BitVec 32 := Scalar.muli arg2 c128_i32
  let c511_i32 : BitVec 32 := 511#32
  let v191 : BitVec 32 := Scalar.subi v0 c511_i32
  let c0_i32_79 : BitVec 32 := 0#32
  let v192 : BitVec 32 := Scalar.maxsi v191 c0_i32_79
  let c0_i32_81 : BitVec 32 := 0#32
  let v194 : BitVec 1 := Scalar.cmpi .sgt v192 c0_i32_81
  let v195 : BitVec 32 := Scalar.extui v194
  let c0_i32_82 : BitVec 32 := 0#32
  let v196 : BitVec 1 := Scalar.cmpi .slt v192 c0_i32_82
  let v197 : BitVec 32 := Scalar.extui v196
  let v198 : BitVec 32 := Scalar.subi v195 v197
  let c512_i32_80 : BitVec 32 := 512#32
  let c0_i32_83 : BitVec 32 := 0#32
  let v199 : BitVec 1 := Scalar.cmpi .sgt c512_i32_80 c0_i32_83
  let v200 : BitVec 32 := Scalar.extui v199
  let c0_i32_84 : BitVec 32 := 0#32
  let v201 : BitVec 1 := Scalar.cmpi .slt c512_i32_80 c0_i32_84
  let v202 : BitVec 32 := Scalar.extui v201
  let v203 : BitVec 32 := Scalar.subi v200 v202
  let v204 : BitVec 1 := Scalar.cmpi .ne v198 v203
  let v205 : BitVec 32 := Scalar.remsi v192 c512_i32_80
  let c0_i32_85 : BitVec 32 := 0#32
  let v206 : BitVec 1 := Scalar.cmpi .ne v205 c0_i32_85
  let v207 : BitVec 1 := Scalar.andi v204 v206
  let v193 : BitVec 32 := Scalar.divsi v192 c512_i32_80
  let c1_i32_86 : BitVec 32 := 1#32
  let v208 : BitVec 32 := Scalar.subi v193 c1_i32_86
  let v209 : BitVec 32 := Scalar.select v207 v208 v193
  let c1_i32_91 : BitVec 32 := 1#32
  let arg16 : BitVec 32 := Scf.iv v209 c1_i32_91 k0_t5
  let c512_i32_104 : BitVec 32 := 512#32
  let v241 : BitVec 32 := Scalar.muli arg16 c512_i32_104
  v241
def k0_off9 (i : grid0.Coords) (k0_t5 : Fin (k0_t5_loop i).trips) : Fin 4 → Nat :=
  let c0_105 : Index := 0#32
  let c0_106 : Index := 0#32
  let arg2 : BitVec 32 := BitVec.ofNat 32 (i 2).val
  let c128_i32 : BitVec 32 := 128#32
  let v0 : BitVec 32 := Scalar.muli arg2 c128_i32
  let c511_i32 : BitVec 32 := 511#32
  let v191 : BitVec 32 := Scalar.subi v0 c511_i32
  let c0_i32_79 : BitVec 32 := 0#32
  let v192 : BitVec 32 := Scalar.maxsi v191 c0_i32_79
  let c0_i32_81 : BitVec 32 := 0#32
  let v194 : BitVec 1 := Scalar.cmpi .sgt v192 c0_i32_81
  let v195 : BitVec 32 := Scalar.extui v194
  let c0_i32_82 : BitVec 32 := 0#32
  let v196 : BitVec 1 := Scalar.cmpi .slt v192 c0_i32_82
  let v197 : BitVec 32 := Scalar.extui v196
  let v198 : BitVec 32 := Scalar.subi v195 v197
  let c512_i32_80 : BitVec 32 := 512#32
  let c0_i32_83 : BitVec 32 := 0#32
  let v199 : BitVec 1 := Scalar.cmpi .sgt c512_i32_80 c0_i32_83
  let v200 : BitVec 32 := Scalar.extui v199
  let c0_i32_84 : BitVec 32 := 0#32
  let v201 : BitVec 1 := Scalar.cmpi .slt c512_i32_80 c0_i32_84
  let v202 : BitVec 32 := Scalar.extui v201
  let v203 : BitVec 32 := Scalar.subi v200 v202
  let v204 : BitVec 1 := Scalar.cmpi .ne v198 v203
  let v205 : BitVec 32 := Scalar.remsi v192 c512_i32_80
  let c0_i32_85 : BitVec 32 := 0#32
  let v206 : BitVec 1 := Scalar.cmpi .ne v205 c0_i32_85
  let v207 : BitVec 1 := Scalar.andi v204 v206
  let v193 : BitVec 32 := Scalar.divsi v192 c512_i32_80
  let c1_i32_86 : BitVec 32 := 1#32
  let v208 : BitVec 32 := Scalar.subi v193 c1_i32_86
  let v209 : BitVec 32 := Scalar.select v207 v208 v193
  let c1_i32_91 : BitVec 32 := 1#32
  let arg16 : BitVec 32 := Scf.iv v209 c1_i32_91 k0_t5
  let c512_i32_104 : BitVec 32 := 512#32
  let v241 : BitVec 32 := Scalar.muli arg16 c512_i32_104
  let v242 : BitVec 32 := v241
  let v243 : Index := Scalar.indexCast v242
  let c0_107 : Index := 0#32
  ![0, 0, v243.toNat, 0]
def k0_off10 (i : grid0.Coords) (k0_t5 : Fin (k0_t5_loop i).trips) : Fin 5 → Nat :=
  let c0_121 : Index := 0#32
  let c0_122 : Index := 0#32
  let arg2 : BitVec 32 := BitVec.ofNat 32 (i 2).val
  let c128_i32 : BitVec 32 := 128#32
  let v0 : BitVec 32 := Scalar.muli arg2 c128_i32
  let c511_i32 : BitVec 32 := 511#32
  let v191 : BitVec 32 := Scalar.subi v0 c511_i32
  let c0_i32_79 : BitVec 32 := 0#32
  let v192 : BitVec 32 := Scalar.maxsi v191 c0_i32_79
  let c0_i32_81 : BitVec 32 := 0#32
  let v194 : BitVec 1 := Scalar.cmpi .sgt v192 c0_i32_81
  let v195 : BitVec 32 := Scalar.extui v194
  let c0_i32_82 : BitVec 32 := 0#32
  let v196 : BitVec 1 := Scalar.cmpi .slt v192 c0_i32_82
  let v197 : BitVec 32 := Scalar.extui v196
  let v198 : BitVec 32 := Scalar.subi v195 v197
  let c512_i32_80 : BitVec 32 := 512#32
  let c0_i32_83 : BitVec 32 := 0#32
  let v199 : BitVec 1 := Scalar.cmpi .sgt c512_i32_80 c0_i32_83
  let v200 : BitVec 32 := Scalar.extui v199
  let c0_i32_84 : BitVec 32 := 0#32
  let v201 : BitVec 1 := Scalar.cmpi .slt c512_i32_80 c0_i32_84
  let v202 : BitVec 32 := Scalar.extui v201
  let v203 : BitVec 32 := Scalar.subi v200 v202
  let v204 : BitVec 1 := Scalar.cmpi .ne v198 v203
  let v205 : BitVec 32 := Scalar.remsi v192 c512_i32_80
  let c0_i32_85 : BitVec 32 := 0#32
  let v206 : BitVec 1 := Scalar.cmpi .ne v205 c0_i32_85
  let v207 : BitVec 1 := Scalar.andi v204 v206
  let v193 : BitVec 32 := Scalar.divsi v192 c512_i32_80
  let c1_i32_86 : BitVec 32 := 1#32
  let v208 : BitVec 32 := Scalar.subi v193 c1_i32_86
  let v209 : BitVec 32 := Scalar.select v207 v208 v193
  let c1_i32_91 : BitVec 32 := 1#32
  let arg16 : BitVec 32 := Scf.iv v209 c1_i32_91 k0_t5
  let v316 : Index := Scalar.indexCast arg16
  let c0_123 : Index := 0#32
  let c0_124 : Index := 0#32
  ![0, 0, v316.toNat, 0, 0]
@[reducible] def k0_t6_loop (i : grid0.Coords) : Scf.Loop 32 :=
  let arg2 : BitVec 32 := BitVec.ofNat 32 (i 2).val
  let c128_i32 : BitVec 32 := 128#32
  let v0 : BitVec 32 := Scalar.muli arg2 c128_i32
  let c511_i32 : BitVec 32 := 511#32
  let v191 : BitVec 32 := Scalar.subi v0 c511_i32
  let c0_i32_79 : BitVec 32 := 0#32
  let v192 : BitVec 32 := Scalar.maxsi v191 c0_i32_79
  let c0_i32_81 : BitVec 32 := 0#32
  let v194 : BitVec 1 := Scalar.cmpi .sgt v192 c0_i32_81
  let v195 : BitVec 32 := Scalar.extui v194
  let c0_i32_82 : BitVec 32 := 0#32
  let v196 : BitVec 1 := Scalar.cmpi .slt v192 c0_i32_82
  let v197 : BitVec 32 := Scalar.extui v196
  let v198 : BitVec 32 := Scalar.subi v195 v197
  let c512_i32_80 : BitVec 32 := 512#32
  let c0_i32_83 : BitVec 32 := 0#32
  let v199 : BitVec 1 := Scalar.cmpi .sgt c512_i32_80 c0_i32_83
  let v200 : BitVec 32 := Scalar.extui v199
  let c0_i32_84 : BitVec 32 := 0#32
  let v201 : BitVec 1 := Scalar.cmpi .slt c512_i32_80 c0_i32_84
  let v202 : BitVec 32 := Scalar.extui v201
  let v203 : BitVec 32 := Scalar.subi v200 v202
  let v204 : BitVec 1 := Scalar.cmpi .ne v198 v203
  let v205 : BitVec 32 := Scalar.remsi v192 c512_i32_80
  let c0_i32_85 : BitVec 32 := 0#32
  let v206 : BitVec 1 := Scalar.cmpi .ne v205 c0_i32_85
  let v207 : BitVec 1 := Scalar.andi v204 v206
  let v193 : BitVec 32 := Scalar.divsi v192 c512_i32_80
  let c1_i32_86 : BitVec 32 := 1#32
  let v208 : BitVec 32 := Scalar.subi v193 c1_i32_86
  let v209 : BitVec 32 := Scalar.select v207 v208 v193
  let c128_i32_62 : BitVec 32 := 128#32
  let v157 : BitVec 32 := Scalar.addi v0 c128_i32_62
  let c512_i32 : BitVec 32 := 512#32
  let v158 : BitVec 32 := Scalar.addi v157 c512_i32
  let c1_i32_63 : BitVec 32 := 1#32
  let v159 : BitVec 32 := Scalar.subi v158 c1_i32_63
  let c0_i32_65 : BitVec 32 := 0#32
  let v161 : BitVec 1 := Scalar.cmpi .sgt v159 c0_i32_65
  let v162 : BitVec 32 := Scalar.extui v161
  let c0_i32_66 : BitVec 32 := 0#32
  let v163 : BitVec 1 := Scalar.cmpi .slt v159 c0_i32_66
  let v164 : BitVec 32 := Scalar.extui v163
  let v165 : BitVec 32 := Scalar.subi v162 v164
  let c512_i32_64 : BitVec 32 := 512#32
  let c0_i32_67 : BitVec 32 := 0#32
  let v166 : BitVec 1 := Scalar.cmpi .sgt c512_i32_64 c0_i32_67
  let v167 : BitVec 32 := Scalar.extui v166
  let c0_i32_68 : BitVec 32 := 0#32
  let v168 : BitVec 1 := Scalar.cmpi .slt c512_i32_64 c0_i32_68
  let v169 : BitVec 32 := Scalar.extui v168
  let v170 : BitVec 32 := Scalar.subi v167 v169
  let v171 : BitVec 1 := Scalar.cmpi .ne v165 v170
  let v172 : BitVec 32 := Scalar.remsi v159 c512_i32_64
  let c0_i32_69 : BitVec 32 := 0#32
  let v173 : BitVec 1 := Scalar.cmpi .ne v172 c0_i32_69
  let v174 : BitVec 1 := Scalar.andi v171 v173
  let v160 : BitVec 32 := Scalar.divsi v159 c512_i32_64
  let c1_i32_70 : BitVec 32 := 1#32
  let v175 : BitVec 32 := Scalar.subi v160 c1_i32_70
  let v176 : BitVec 32 := Scalar.select v174 v175 v160
  let v213 : BitVec 32 := Scalar.subi v176 v209
  let c1_i32_90 : BitVec 32 := 1#32
  let v215 : BitVec 32 := Scalar.divsi v213 c1_i32_90
  let v216 : BitVec 32 := Scalar.muli v215 c1_i32_90
  let v217 : BitVec 32 := Scalar.addi v209 v216
  let v214 : BitVec 32 := Scalar.addi v209 v213
  let c1_i32_92 : BitVec 32 := 1#32
  ⟨v217, v214, c1_i32_92⟩
def k0_mult4 (i : grid0.Coords) (k0_t6 : Fin (k0_t6_loop i).trips) : BitVec 32 :=
  let arg2 : BitVec 32 := BitVec.ofNat 32 (i 2).val
  let c128_i32 : BitVec 32 := 128#32
  let v0 : BitVec 32 := Scalar.muli arg2 c128_i32
  let c511_i32 : BitVec 32 := 511#32
  let v191 : BitVec 32 := Scalar.subi v0 c511_i32
  let c0_i32_79 : BitVec 32 := 0#32
  let v192 : BitVec 32 := Scalar.maxsi v191 c0_i32_79
  let c0_i32_81 : BitVec 32 := 0#32
  let v194 : BitVec 1 := Scalar.cmpi .sgt v192 c0_i32_81
  let v195 : BitVec 32 := Scalar.extui v194
  let c0_i32_82 : BitVec 32 := 0#32
  let v196 : BitVec 1 := Scalar.cmpi .slt v192 c0_i32_82
  let v197 : BitVec 32 := Scalar.extui v196
  let v198 : BitVec 32 := Scalar.subi v195 v197
  let c512_i32_80 : BitVec 32 := 512#32
  let c0_i32_83 : BitVec 32 := 0#32
  let v199 : BitVec 1 := Scalar.cmpi .sgt c512_i32_80 c0_i32_83
  let v200 : BitVec 32 := Scalar.extui v199
  let c0_i32_84 : BitVec 32 := 0#32
  let v201 : BitVec 1 := Scalar.cmpi .slt c512_i32_80 c0_i32_84
  let v202 : BitVec 32 := Scalar.extui v201
  let v203 : BitVec 32 := Scalar.subi v200 v202
  let v204 : BitVec 1 := Scalar.cmpi .ne v198 v203
  let v205 : BitVec 32 := Scalar.remsi v192 c512_i32_80
  let c0_i32_85 : BitVec 32 := 0#32
  let v206 : BitVec 1 := Scalar.cmpi .ne v205 c0_i32_85
  let v207 : BitVec 1 := Scalar.andi v204 v206
  let v193 : BitVec 32 := Scalar.divsi v192 c512_i32_80
  let c1_i32_86 : BitVec 32 := 1#32
  let v208 : BitVec 32 := Scalar.subi v193 c1_i32_86
  let v209 : BitVec 32 := Scalar.select v207 v208 v193
  let c128_i32_62 : BitVec 32 := 128#32
  let v157 : BitVec 32 := Scalar.addi v0 c128_i32_62
  let c512_i32 : BitVec 32 := 512#32
  let v158 : BitVec 32 := Scalar.addi v157 c512_i32
  let c1_i32_63 : BitVec 32 := 1#32
  let v159 : BitVec 32 := Scalar.subi v158 c1_i32_63
  let c0_i32_65 : BitVec 32 := 0#32
  let v161 : BitVec 1 := Scalar.cmpi .sgt v159 c0_i32_65
  let v162 : BitVec 32 := Scalar.extui v161
  let c0_i32_66 : BitVec 32 := 0#32
  let v163 : BitVec 1 := Scalar.cmpi .slt v159 c0_i32_66
  let v164 : BitVec 32 := Scalar.extui v163
  let v165 : BitVec 32 := Scalar.subi v162 v164
  let c512_i32_64 : BitVec 32 := 512#32
  let c0_i32_67 : BitVec 32 := 0#32
  let v166 : BitVec 1 := Scalar.cmpi .sgt c512_i32_64 c0_i32_67
  let v167 : BitVec 32 := Scalar.extui v166
  let c0_i32_68 : BitVec 32 := 0#32
  let v168 : BitVec 1 := Scalar.cmpi .slt c512_i32_64 c0_i32_68
  let v169 : BitVec 32 := Scalar.extui v168
  let v170 : BitVec 32 := Scalar.subi v167 v169
  let v171 : BitVec 1 := Scalar.cmpi .ne v165 v170
  let v172 : BitVec 32 := Scalar.remsi v159 c512_i32_64
  let c0_i32_69 : BitVec 32 := 0#32
  let v173 : BitVec 1 := Scalar.cmpi .ne v172 c0_i32_69
  let v174 : BitVec 1 := Scalar.andi v171 v173
  let v160 : BitVec 32 := Scalar.divsi v159 c512_i32_64
  let c1_i32_70 : BitVec 32 := 1#32
  let v175 : BitVec 32 := Scalar.subi v160 c1_i32_70
  let v176 : BitVec 32 := Scalar.select v174 v175 v160
  let v213 : BitVec 32 := Scalar.subi v176 v209
  let c1_i32_90 : BitVec 32 := 1#32
  let v215 : BitVec 32 := Scalar.divsi v213 c1_i32_90
  let v216 : BitVec 32 := Scalar.muli v215 c1_i32_90
  let v217 : BitVec 32 := Scalar.addi v209 v216
  let c1_i32_92 : BitVec 32 := 1#32
  let arg16 : BitVec 32 := Scf.iv v217 c1_i32_92 k0_t6
  let c512_i32_104 : BitVec 32 := 512#32
  let v241 : BitVec 32 := Scalar.muli arg16 c512_i32_104
  v241
def k0_off11 (i : grid0.Coords) (k0_t6 : Fin (k0_t6_loop i).trips) : Fin 4 → Nat :=
  let c0_105 : Index := 0#32
  let c0_106 : Index := 0#32
  let arg2 : BitVec 32 := BitVec.ofNat 32 (i 2).val
  let c128_i32 : BitVec 32 := 128#32
  let v0 : BitVec 32 := Scalar.muli arg2 c128_i32
  let c511_i32 : BitVec 32 := 511#32
  let v191 : BitVec 32 := Scalar.subi v0 c511_i32
  let c0_i32_79 : BitVec 32 := 0#32
  let v192 : BitVec 32 := Scalar.maxsi v191 c0_i32_79
  let c0_i32_81 : BitVec 32 := 0#32
  let v194 : BitVec 1 := Scalar.cmpi .sgt v192 c0_i32_81
  let v195 : BitVec 32 := Scalar.extui v194
  let c0_i32_82 : BitVec 32 := 0#32
  let v196 : BitVec 1 := Scalar.cmpi .slt v192 c0_i32_82
  let v197 : BitVec 32 := Scalar.extui v196
  let v198 : BitVec 32 := Scalar.subi v195 v197
  let c512_i32_80 : BitVec 32 := 512#32
  let c0_i32_83 : BitVec 32 := 0#32
  let v199 : BitVec 1 := Scalar.cmpi .sgt c512_i32_80 c0_i32_83
  let v200 : BitVec 32 := Scalar.extui v199
  let c0_i32_84 : BitVec 32 := 0#32
  let v201 : BitVec 1 := Scalar.cmpi .slt c512_i32_80 c0_i32_84
  let v202 : BitVec 32 := Scalar.extui v201
  let v203 : BitVec 32 := Scalar.subi v200 v202
  let v204 : BitVec 1 := Scalar.cmpi .ne v198 v203
  let v205 : BitVec 32 := Scalar.remsi v192 c512_i32_80
  let c0_i32_85 : BitVec 32 := 0#32
  let v206 : BitVec 1 := Scalar.cmpi .ne v205 c0_i32_85
  let v207 : BitVec 1 := Scalar.andi v204 v206
  let v193 : BitVec 32 := Scalar.divsi v192 c512_i32_80
  let c1_i32_86 : BitVec 32 := 1#32
  let v208 : BitVec 32 := Scalar.subi v193 c1_i32_86
  let v209 : BitVec 32 := Scalar.select v207 v208 v193
  let c128_i32_62 : BitVec 32 := 128#32
  let v157 : BitVec 32 := Scalar.addi v0 c128_i32_62
  let c512_i32 : BitVec 32 := 512#32
  let v158 : BitVec 32 := Scalar.addi v157 c512_i32
  let c1_i32_63 : BitVec 32 := 1#32
  let v159 : BitVec 32 := Scalar.subi v158 c1_i32_63
  let c0_i32_65 : BitVec 32 := 0#32
  let v161 : BitVec 1 := Scalar.cmpi .sgt v159 c0_i32_65
  let v162 : BitVec 32 := Scalar.extui v161
  let c0_i32_66 : BitVec 32 := 0#32
  let v163 : BitVec 1 := Scalar.cmpi .slt v159 c0_i32_66
  let v164 : BitVec 32 := Scalar.extui v163
  let v165 : BitVec 32 := Scalar.subi v162 v164
  let c512_i32_64 : BitVec 32 := 512#32
  let c0_i32_67 : BitVec 32 := 0#32
  let v166 : BitVec 1 := Scalar.cmpi .sgt c512_i32_64 c0_i32_67
  let v167 : BitVec 32 := Scalar.extui v166
  let c0_i32_68 : BitVec 32 := 0#32
  let v168 : BitVec 1 := Scalar.cmpi .slt c512_i32_64 c0_i32_68
  let v169 : BitVec 32 := Scalar.extui v168
  let v170 : BitVec 32 := Scalar.subi v167 v169
  let v171 : BitVec 1 := Scalar.cmpi .ne v165 v170
  let v172 : BitVec 32 := Scalar.remsi v159 c512_i32_64
  let c0_i32_69 : BitVec 32 := 0#32
  let v173 : BitVec 1 := Scalar.cmpi .ne v172 c0_i32_69
  let v174 : BitVec 1 := Scalar.andi v171 v173
  let v160 : BitVec 32 := Scalar.divsi v159 c512_i32_64
  let c1_i32_70 : BitVec 32 := 1#32
  let v175 : BitVec 32 := Scalar.subi v160 c1_i32_70
  let v176 : BitVec 32 := Scalar.select v174 v175 v160
  let v213 : BitVec 32 := Scalar.subi v176 v209
  let c1_i32_90 : BitVec 32 := 1#32
  let v215 : BitVec 32 := Scalar.divsi v213 c1_i32_90
  let v216 : BitVec 32 := Scalar.muli v215 c1_i32_90
  let v217 : BitVec 32 := Scalar.addi v209 v216
  let c1_i32_92 : BitVec 32 := 1#32
  let arg16 : BitVec 32 := Scf.iv v217 c1_i32_92 k0_t6
  let c512_i32_104 : BitVec 32 := 512#32
  let v241 : BitVec 32 := Scalar.muli arg16 c512_i32_104
  let v242 : BitVec 32 := v241
  let v243 : Index := Scalar.indexCast v242
  let c0_107 : Index := 0#32
  ![0, 0, v243.toNat, 0]
def k0_off12 (i : grid0.Coords) (k0_t6 : Fin (k0_t6_loop i).trips) : Fin 5 → Nat :=
  let c0_121 : Index := 0#32
  let c0_122 : Index := 0#32
  let arg2 : BitVec 32 := BitVec.ofNat 32 (i 2).val
  let c128_i32 : BitVec 32 := 128#32
  let v0 : BitVec 32 := Scalar.muli arg2 c128_i32
  let c511_i32 : BitVec 32 := 511#32
  let v191 : BitVec 32 := Scalar.subi v0 c511_i32
  let c0_i32_79 : BitVec 32 := 0#32
  let v192 : BitVec 32 := Scalar.maxsi v191 c0_i32_79
  let c0_i32_81 : BitVec 32 := 0#32
  let v194 : BitVec 1 := Scalar.cmpi .sgt v192 c0_i32_81
  let v195 : BitVec 32 := Scalar.extui v194
  let c0_i32_82 : BitVec 32 := 0#32
  let v196 : BitVec 1 := Scalar.cmpi .slt v192 c0_i32_82
  let v197 : BitVec 32 := Scalar.extui v196
  let v198 : BitVec 32 := Scalar.subi v195 v197
  let c512_i32_80 : BitVec 32 := 512#32
  let c0_i32_83 : BitVec 32 := 0#32
  let v199 : BitVec 1 := Scalar.cmpi .sgt c512_i32_80 c0_i32_83
  let v200 : BitVec 32 := Scalar.extui v199
  let c0_i32_84 : BitVec 32 := 0#32
  let v201 : BitVec 1 := Scalar.cmpi .slt c512_i32_80 c0_i32_84
  let v202 : BitVec 32 := Scalar.extui v201
  let v203 : BitVec 32 := Scalar.subi v200 v202
  let v204 : BitVec 1 := Scalar.cmpi .ne v198 v203
  let v205 : BitVec 32 := Scalar.remsi v192 c512_i32_80
  let c0_i32_85 : BitVec 32 := 0#32
  let v206 : BitVec 1 := Scalar.cmpi .ne v205 c0_i32_85
  let v207 : BitVec 1 := Scalar.andi v204 v206
  let v193 : BitVec 32 := Scalar.divsi v192 c512_i32_80
  let c1_i32_86 : BitVec 32 := 1#32
  let v208 : BitVec 32 := Scalar.subi v193 c1_i32_86
  let v209 : BitVec 32 := Scalar.select v207 v208 v193
  let c128_i32_62 : BitVec 32 := 128#32
  let v157 : BitVec 32 := Scalar.addi v0 c128_i32_62
  let c512_i32 : BitVec 32 := 512#32
  let v158 : BitVec 32 := Scalar.addi v157 c512_i32
  let c1_i32_63 : BitVec 32 := 1#32
  let v159 : BitVec 32 := Scalar.subi v158 c1_i32_63
  let c0_i32_65 : BitVec 32 := 0#32
  let v161 : BitVec 1 := Scalar.cmpi .sgt v159 c0_i32_65
  let v162 : BitVec 32 := Scalar.extui v161
  let c0_i32_66 : BitVec 32 := 0#32
  let v163 : BitVec 1 := Scalar.cmpi .slt v159 c0_i32_66
  let v164 : BitVec 32 := Scalar.extui v163
  let v165 : BitVec 32 := Scalar.subi v162 v164
  let c512_i32_64 : BitVec 32 := 512#32
  let c0_i32_67 : BitVec 32 := 0#32
  let v166 : BitVec 1 := Scalar.cmpi .sgt c512_i32_64 c0_i32_67
  let v167 : BitVec 32 := Scalar.extui v166
  let c0_i32_68 : BitVec 32 := 0#32
  let v168 : BitVec 1 := Scalar.cmpi .slt c512_i32_64 c0_i32_68
  let v169 : BitVec 32 := Scalar.extui v168
  let v170 : BitVec 32 := Scalar.subi v167 v169
  let v171 : BitVec 1 := Scalar.cmpi .ne v165 v170
  let v172 : BitVec 32 := Scalar.remsi v159 c512_i32_64
  let c0_i32_69 : BitVec 32 := 0#32
  let v173 : BitVec 1 := Scalar.cmpi .ne v172 c0_i32_69
  let v174 : BitVec 1 := Scalar.andi v171 v173
  let v160 : BitVec 32 := Scalar.divsi v159 c512_i32_64
  let c1_i32_70 : BitVec 32 := 1#32
  let v175 : BitVec 32 := Scalar.subi v160 c1_i32_70
  let v176 : BitVec 32 := Scalar.select v174 v175 v160
  let v213 : BitVec 32 := Scalar.subi v176 v209
  let c1_i32_90 : BitVec 32 := 1#32
  let v215 : BitVec 32 := Scalar.divsi v213 c1_i32_90
  let v216 : BitVec 32 := Scalar.muli v215 c1_i32_90
  let v217 : BitVec 32 := Scalar.addi v209 v216
  let c1_i32_92 : BitVec 32 := 1#32
  let arg16 : BitVec 32 := Scf.iv v217 c1_i32_92 k0_t6
  let v316 : Index := Scalar.indexCast arg16
  let c0_123 : Index := 0#32
  let c0_124 : Index := 0#32
  ![0, 0, v316.toNat, 0, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x1x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4096x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x8x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x4096x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x8x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | "s" => some (((1 / 8) * (Real.log 2)⁻¹ : ℝ) : EReal)
  | _ => none
-- ==== ReferenceIdeal.lean ====
abbrev S4x4096x1024 : Shape := ⟨3, ![4, 4096, 1024]⟩
abbrev S4x4096x48 : Shape := ⟨3, ![4, 4096, 48]⟩
abbrev S4x4x128x64 : Shape := ⟨4, ![4, 4, 128, 64]⟩
abbrev S4x4x4096x64 : Shape := ⟨4, ![4, 4, 4096, 64]⟩
abbrev S64 : Shape := ⟨1, ![64]⟩
abbrev S4x4096x16x64 : Shape := ⟨4, ![4, 4096, 16, 64]⟩
abbrev S_ : Shape := ⟨0, ![]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S4x4096x4x4x3 : Shape := ⟨5, ![4, 4096, 4, 4, 3]⟩
abbrev S4x4096x4x4x64 : Shape := ⟨5, ![4, 4096, 4, 4, 64]⟩
abbrev S4x4x4x4096x64 : Shape := ⟨5, ![4, 4, 4, 4096, 64]⟩
abbrev S4096 : Shape := ⟨1, ![4096]⟩
abbrev S128 : Shape := ⟨1, ![128]⟩
abbrev S4x4x4x4096x128 : Shape := ⟨5, ![4, 4, 4, 4096, 128]⟩
abbrev S1x128 : Shape := ⟨2, ![1, 128]⟩
abbrev S4096x1 : Shape := ⟨2, ![4096, 1]⟩
abbrev S4096x128 : Shape := ⟨2, ![4096, 128]⟩
abbrev S4x4x4x4096 : Shape := ⟨4, ![4, 4, 4, 4096]⟩
abbrev S4x4x4x4096x1 : Shape := ⟨5, ![4, 4, 4, 4096, 1]⟩
abbrev S4x4x4096x128 : Shape := ⟨4, ![4, 4, 4096, 128]⟩
abbrev S4x4x4096x64x2 : Shape := ⟨5, ![4, 4, 4096, 64, 2]⟩
abbrev S1x64 : Shape := ⟨2, ![1, 64]⟩
abbrev S4096x64 : Shape := ⟨2, ![4096, 64]⟩
abbrev S4x4x4096x16 : Shape := ⟨4, ![4, 4, 4096, 16]⟩
abbrev S4x4x4096x16x1 : Shape := ⟨5, ![4, 4, 4096, 16, 1]⟩
abbrev S1x1x1x1x64 : Shape := ⟨5, ![1, 1, 1, 1, 64]⟩
abbrev S4x4x4096x16x64 : Shape := ⟨5, ![4, 4, 4096, 16, 64]⟩
abbrev S1x4096 : Shape := ⟨2, ![1, 4096]⟩
abbrev S4096x4096 : Shape := ⟨2, ![4096, 4096]⟩
abbrev S4x4x4096x64x64 : Shape := ⟨5, ![4, 4, 4096, 64, 64]⟩
abbrev S4x4x4096x4096 : Shape := ⟨4, ![4, 4, 4096, 4096]⟩
abbrev S1x1x4096x4096 : Shape := ⟨4, ![1, 1, 4096, 4096]⟩
abbrev S4x4x4x4096x4096 : Shape := ⟨5, ![4, 4, 4, 4096, 4096]⟩
abbrev S4x4x1x4096x4096 : Shape := ⟨5, ![4, 4, 1, 4096, 4096]⟩
abbrev S4x4x4x4096x3 : Shape := ⟨5, ![4, 4, 4, 4096, 3]⟩
abbrev S16x4x32x128x64 : Shape := ⟨5, ![16, 4, 32, 128, 64]⟩
abbrev S16x32x64x4x128 : Shape := ⟨5, ![16, 32, 64, 4, 128]⟩
abbrev S4x4x32x64x512 : Shape := ⟨5, ![4, 4, 32, 64, 512]⟩

abbrev nBuf : Space → Nat
  | .hbm => 274
  | .vmem => 0
  | .smem => 0
  | _ => 0

abbrev hbmTy0_0 (i : Nat) : BufTy := match i % 128 with
  | 0 => ⟨S4x4096x1024, .f32⟩
  | 1 => ⟨S4x4096x48, .f32⟩
  | 2 => ⟨S4x4x128x64, .f32⟩
  | 3 => ⟨S4x4x128x64, .f32⟩
  | 4 => ⟨S4x4x4096x64, .f32⟩
  | 5 => ⟨S4x4x4096x64, .f32⟩
  | 6 => ⟨S4x4x4096x64, .f32⟩
  | 7 => ⟨S4x4x4096x64, .f32⟩
  | 8 => ⟨S64, .f32⟩
  | 9 => ⟨S4x4096x16x64, .f32⟩
  | 10 => ⟨S4x4096x16x64, .f32⟩
  | 11 => ⟨S_, .f32⟩
  | 12 => ⟨S4x4096x16, .f32⟩
  | 13 => ⟨S4x4096x16x1, .f32⟩
  | 14 => ⟨S_, .f32⟩
  | 15 => ⟨S4x4096x16x1, .f32⟩
  | 16 => ⟨S4x4096x16x1, .f32⟩
  | 17 => ⟨S_, .f32⟩
  | 18 => ⟨S4x4096x16x1, .f32⟩
  | 19 => ⟨S4x4096x16x1, .f32⟩
  | 20 => ⟨S4x4096x16x1, .f32⟩
  | 21 => ⟨S4x4096x16x64, .f32⟩
  | 22 => ⟨S4x4096x16x64, .f32⟩
  | 23 => ⟨S1x1x1x64, .f32⟩
  | 24 => ⟨S4x4096x16x64, .f32⟩
  | 25 => ⟨S4x4096x16x64, .f32⟩
  | 26 => ⟨S4x4096x48, .f32⟩
  | 27 => ⟨S4x4096x48, .f32⟩
  | 28 => ⟨S_, .f32⟩
  | 29 => ⟨S4x4096x48, .f32⟩
  | 30 => ⟨S4x4096x48, .f32⟩
  | 31 => ⟨S_, .f32⟩
  | 32 => ⟨S4x4096x48, .f32⟩
  | 33 => ⟨S4x4096x48, .f32⟩
  | 34 => ⟨S4x4096x4x4x3, .f32⟩
  | 35 => ⟨S4x4096x4x4x64, .f32⟩
  | 36 => ⟨S4x4x4x4096x64, .f32⟩
  | 37 => ⟨S4096, .i32⟩
  | 38 => ⟨S128, .i32⟩
  | 39 => ⟨S_, .i32⟩
  | 40 => ⟨S128, .i32⟩
  | 41 => ⟨S128, .i32⟩
  | 42 => ⟨S_, .i32⟩
  | 43 => ⟨S128, .i32⟩
  | 44 => ⟨S128, .i32⟩
  | 45 => ⟨S_, .i32⟩
  | 46 => ⟨S128, .i32⟩
  | 47 => ⟨S128, .i32⟩
  | 48 => ⟨S4x4x4x4096x128, .f32⟩
  | 49 => ⟨S_, .f32⟩
  | 50 => ⟨S4x4x4x4096x128, .f32⟩
  | 51 => ⟨S4x4x4x4096x128, .f32⟩
  | 52 => ⟨S1x128, .i32⟩
  | 53 => ⟨S4096x1, .i32⟩
  | 54 => ⟨S4096x128, .i32⟩
  | 55 => ⟨S4096x128, .i32⟩
  | 56 => ⟨S4096x128, .i1⟩
  | 57 => ⟨S_, .f32⟩
  | 58 => ⟨S_, .f32⟩
  | 59 => ⟨S4x4x4x4096x128, .i1⟩
  | 60 => ⟨S4x4x4x4096x128, .f32⟩
  | 61 => ⟨S4x4x4x4096x128, .f32⟩
  | 62 => ⟨S_, .f32⟩
  | 63 => ⟨S4x4x4x4096, .f32⟩
  | 64 => ⟨S4x4x4x4096x1, .f32⟩
  | 65 => ⟨S4x4x4x4096x1, .f32⟩
  | 66 => ⟨S_, .f32⟩
  | 67 => ⟨S4x4x4x4096x1, .f32⟩
  | 68 => ⟨S4x4x4x4096x1, .i1⟩
  | 69 => ⟨S_, .f32⟩
  | 70 => ⟨S_, .f32⟩
  | 71 => ⟨S4x4x4x4096x1, .f32⟩
  | 72 => ⟨S4x4x4x4096x1, .f32⟩
  | 73 => ⟨S4x4x4x4096x128, .f32⟩
  | 74 => ⟨S4x4x4x4096x128, .f32⟩
  | 75 => ⟨S4x4x4x4096x128, .f32⟩
  | 76 => ⟨S_, .f32⟩
  | 77 => ⟨S_, .f32⟩
  | 78 => ⟨S4x4x4x4096x128, .i1⟩
  | 79 => ⟨S4x4x4x4096x128, .f32⟩
  | 80 => ⟨S4x4x4x4096x128, .f32⟩
  | 81 => ⟨S_, .f32⟩
  | 82 => ⟨S4x4x4x4096, .f32⟩
  | 83 => ⟨S4x4x4x4096x1, .f32⟩
  | 84 => ⟨S_, .f32⟩
  | 85 => ⟨S4x4x4x4096x1, .f32⟩
  | 86 => ⟨S4x4x4x4096x1, .f32⟩
  | 87 => ⟨S4x4x4x4096x128, .f32⟩
  | 88 => ⟨S4x4x4x4096x128, .f32⟩
  | 89 => ⟨S4x4x4x4096x64, .f32⟩
  | 90 => ⟨S_, .f32⟩
  | 91 => ⟨S4x4x4096x128, .f32⟩
  | 92 => ⟨S4x4x4096x64x2, .f32⟩
  | 93 => ⟨S_, .f32⟩
  | 94 => ⟨S4x4x4096x64, .f32⟩
  | 95 => ⟨S_, .i32⟩
  | 96 => ⟨S_, .i32⟩
  | 97 => ⟨S4096, .i32⟩
  | 98 => ⟨S4096, .i32⟩
  | 99 => ⟨S4096, .i32⟩
  | 100 => ⟨S_, .i32⟩
  | 101 => ⟨S4096, .i32⟩
  | 102 => ⟨S4096, .i1⟩
  | 103 => ⟨S4096, .i32⟩
  | 104 => ⟨S4096, .i32⟩
  | 105 => ⟨S_, .i32⟩
  | 106 => ⟨S4096, .i32⟩
  | 107 => ⟨S4096, .i1⟩
  | 108 => ⟨S4096, .i1⟩
  | 109 => ⟨S_, .i32⟩
  | 110 => ⟨S4096, .i32⟩
  | 111 => ⟨S4096, .i32⟩
  | 112 => ⟨S4096, .i32⟩
  | 113 => ⟨S64, .i32⟩
  | 114 => ⟨S1x64, .i32⟩
  | 115 => ⟨S4096x1, .i32⟩
  | 116 => ⟨S4096x64, .i32⟩
  | 117 => ⟨S4096x64, .i32⟩
  | 118 => ⟨S4096x64, .i1⟩
  | 119 => ⟨S1x64, .i32⟩
  | 120 => ⟨S_, .i32⟩
  | 121 => ⟨S1x64, .i32⟩
  | 122 => ⟨S1x64, .i1⟩
  | 123 => ⟨S1x64, .i32⟩
  | 124 => ⟨S4096x1, .i32⟩
  | 125 => ⟨S4096x64, .i32⟩
  | 126 => ⟨S4096x64, .i32⟩
  | 127 => ⟨S4096x64, .i1⟩
  | _ => ⟨S4x4096x1024, .f32⟩

abbrev hbmTy0_1 (i : Nat) : BufTy := match i % 128 with
  | 0 => ⟨S4096x64, .i1⟩
  | 1 => ⟨S4096x64, .i1⟩
  | 2 => ⟨S1x64, .i32⟩
  | 3 => ⟨S4096x1, .i32⟩
  | 4 => ⟨S_, .i32⟩
  | 5 => ⟨S4096x1, .i32⟩
  | 6 => ⟨S4096x1, .i32⟩
  | 7 => ⟨S4096x64, .i32⟩
  | 8 => ⟨S4096x64, .i32⟩
  | 9 => ⟨S4096x64, .i1⟩
  | 10 => ⟨S4096x64, .i1⟩
  | 11 => ⟨S_, .f32⟩
  | 12 => ⟨S_, .f32⟩
  | 13 => ⟨S4x4x4096x64, .i1⟩
  | 14 => ⟨S4x4x4096x64, .f32⟩
  | 15 => ⟨S4x4x4096x64, .f32⟩
  | 16 => ⟨S_, .f32⟩
  | 17 => ⟨S_, .f32⟩
  | 18 => ⟨S4x4x4096x64, .i1⟩
  | 19 => ⟨S4x4x4096x64, .f32⟩
  | 20 => ⟨S4x4x4096x64, .f32⟩
  | 21 => ⟨S4x4x4096x16, .f32⟩
  | 22 => ⟨S4x4x4096x16, .i32⟩
  | 23 => ⟨S4x4x4096x16x1, .i32⟩
  | 24 => ⟨S1x1x1x1x64, .i32⟩
  | 25 => ⟨S4x4x4096x16x64, .i32⟩
  | 26 => ⟨S4x4x4096x16x64, .i32⟩
  | 27 => ⟨S4x4x4096x16x64, .i1⟩
  | 28 => ⟨S_, .i1⟩
  | 29 => ⟨S4x4x4096x64, .i1⟩
  | 30 => ⟨S4096, .i32⟩
  | 31 => ⟨S1x4096, .i32⟩
  | 32 => ⟨S4096x1, .i32⟩
  | 33 => ⟨S4096x4096, .i32⟩
  | 34 => ⟨S4096x4096, .i32⟩
  | 35 => ⟨S4096x4096, .i1⟩
  | 36 => ⟨S4x4x4096x64x64, .i1⟩
  | 37 => ⟨S4x4x4096x4096, .i1⟩
  | 38 => ⟨S1x1x4096x4096, .i1⟩
  | 39 => ⟨S4x4x4096x4096, .i1⟩
  | 40 => ⟨S4x4x4096x4096, .i1⟩
  | 41 => ⟨S4x4x4x4096x4096, .f32⟩
  | 42 => ⟨S_, .f32⟩
  | 43 => ⟨S4x4x4x4096x4096, .f32⟩
  | 44 => ⟨S4x4x4x4096x4096, .f32⟩
  | 45 => ⟨S4x4x1x4096x4096, .i1⟩
  | 46 => ⟨S_, .f32⟩
  | 47 => ⟨S_, .f32⟩
  | 48 => ⟨S4x4x4x4096x4096, .i1⟩
  | 49 => ⟨S4x4x4x4096x4096, .f32⟩
  | 50 => ⟨S4x4x4x4096x4096, .f32⟩
  | 51 => ⟨S_, .f32⟩
  | 52 => ⟨S4x4x4x4096, .f32⟩
  | 53 => ⟨S4x4x4x4096x1, .f32⟩
  | 54 => ⟨S4x4x4x4096x1, .f32⟩
  | 55 => ⟨S_, .f32⟩
  | 56 => ⟨S4x4x4x4096x1, .f32⟩
  | 57 => ⟨S4x4x4x4096x1, .i1⟩
  | 58 => ⟨S_, .f32⟩
  | 59 => ⟨S_, .f32⟩
  | 60 => ⟨S4x4x4x4096x1, .f32⟩
  | 61 => ⟨S4x4x4x4096x1, .f32⟩
  | 62 => ⟨S4x4x4x4096x4096, .f32⟩
  | 63 => ⟨S4x4x4x4096x4096, .f32⟩
  | 64 => ⟨S4x4x4x4096x4096, .f32⟩
  | 65 => ⟨S_, .f32⟩
  | 66 => ⟨S_, .f32⟩
  | 67 => ⟨S4x4x4x4096x4096, .i1⟩
  | 68 => ⟨S4x4x4x4096x4096, .f32⟩
  | 69 => ⟨S4x4x4x4096x4096, .f32⟩
  | 70 => ⟨S_, .f32⟩
  | 71 => ⟨S4x4x4x4096, .f32⟩
  | 72 => ⟨S4x4x4x4096x1, .f32⟩
  | 73 => ⟨S_, .f32⟩
  | 74 => ⟨S4x4x4x4096x1, .f32⟩
  | 75 => ⟨S4x4x4x4096x1, .f32⟩
  | 76 => ⟨S4x4x4x4096x4096, .f32⟩
  | 77 => ⟨S4x4x4x4096x4096, .f32⟩
  | 78 => ⟨S4x4x4x4096x64, .f32⟩
  | 79 => ⟨S1x4096, .i32⟩
  | 80 => ⟨S4096x1, .i32⟩
  | 81 => ⟨S_, .i32⟩
  | 82 => ⟨S4096x1, .i32⟩
  | 83 => ⟨S4096x1, .i32⟩
  | 84 => ⟨S4096x4096, .i32⟩
  | 85 => ⟨S4096x4096, .i32⟩
  | 86 => ⟨S4096x4096, .i1⟩
  | 87 => ⟨S4096x4096, .i1⟩
  | 88 => ⟨S1x4096, .i32⟩
  | 89 => ⟨S_, .i32⟩
  | 90 => ⟨S1x4096, .i32⟩
  | 91 => ⟨S1x4096, .i1⟩
  | 92 => ⟨S4096x4096, .i1⟩
  | 93 => ⟨S4096x4096, .i1⟩
  | 94 => ⟨S4x4x4x4096x4096, .f32⟩
  | 95 => ⟨S_, .f32⟩
  | 96 => ⟨S4x4x4x4096x4096, .f32⟩
  | 97 => ⟨S4x4x4x4096x4096, .f32⟩
  | 98 => ⟨S_, .f32⟩
  | 99 => ⟨S_, .f32⟩
  | 100 => ⟨S4x4x4x4096x4096, .i1⟩
  | 101 => ⟨S4x4x4x4096x4096, .f32⟩
  | 102 => ⟨S4x4x4x4096x4096, .f32⟩
  | 103 => ⟨S_, .f32⟩
  | 104 => ⟨S4x4x4x4096, .f32⟩
  | 105 => ⟨S4x4x4x4096x1, .f32⟩
  | 106 => ⟨S4x4x4x4096x1, .f32⟩
  | 107 => ⟨S_, .f32⟩
  | 108 => ⟨S4x4x4x4096x1, .f32⟩
  | 109 => ⟨S4x4x4x4096x1, .i1⟩
  | 110 => ⟨S_, .f32⟩
  | 111 => ⟨S_, .f32⟩
  | 112 => ⟨S4x4x4x4096x1, .f32⟩
  | 113 => ⟨S4x4x4x4096x1, .f32⟩
  | 114 => ⟨S4x4x4x4096x4096, .f32⟩
  | 115 => ⟨S4x4x4x4096x4096, .f32⟩
  | 116 => ⟨S4x4x4x4096x4096, .f32⟩
  | 117 => ⟨S_, .f32⟩
  | 118 => ⟨S_, .f32⟩
  | 119 => ⟨S4x4x4x4096x4096, .i1⟩
  | 120 => ⟨S4x4x4x4096x4096, .f32⟩
  | 121 => ⟨S4x4x4x4096x4096, .f32⟩
  | 122 => ⟨S_, .f32⟩
  | 123 => ⟨S4x4x4x4096, .f32⟩
  | 124 => ⟨S4x4x4x4096x1, .f32⟩
  | 125 => ⟨S_, .f32⟩
  | 126 => ⟨S4x4x4x4096x1, .f32⟩
  | 127 => ⟨S4x4x4x4096x1, .f32⟩
  | _ => ⟨S4x4096x1024, .f32⟩

abbrev hbmTy0_2 (i : Nat) : BufTy := match i % 128 with
  | 0 => ⟨S4x4x4x4096x4096, .f32⟩
  | 1 => ⟨S4x4x4x4096x4096, .f32⟩
  | 2 => ⟨S4x4x4x4096x64, .f32⟩
  | 3 => ⟨S4x4x4x4096x3, .f32⟩
  | 4 => ⟨S4x4x4x4096x1, .f32⟩
  | 5 => ⟨S4x4x4x4096x64, .f32⟩
  | 6 => ⟨S4x4x4x4096x64, .f32⟩
  | 7 => ⟨S4x4x4x4096x1, .f32⟩
  | 8 => ⟨S4x4x4x4096x64, .f32⟩
  | 9 => ⟨S4x4x4x4096x64, .f32⟩
  | 10 => ⟨S4x4x4x4096x64, .f32⟩
  | 11 => ⟨S4x4x4x4096x1, .f32⟩
  | 12 => ⟨S4x4x4x4096x64, .f32⟩
  | 13 => ⟨S4x4x4x4096x64, .f32⟩
  | 14 => ⟨S4x4x4x4096x64, .f32⟩
  | 15 => ⟨S16x4x32x128x64, .f32⟩
  | 16 => ⟨S16x32x64x4x128, .f32⟩
  | 17 => ⟨S4x4x32x64x512, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_cst : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_v0 : Ref sig .tc := ⟨.hbm, 61, rfl⟩
abbrev main_call0_cst_0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_cst_1 : Ref sig .tc := ⟨.hbm, 66, rfl⟩
abbrev main_call0_v4 : Ref sig .tc := ⟨.hbm, 67, rfl⟩
abbrev main_call0_v5 : Ref sig .tc := ⟨.hbm, 68, rfl⟩
abbrev main_call0_cst_2 : Ref sig .tc := ⟨.hbm, 69, rfl⟩
abbrev main_call0_call1_v0 : Ref sig .tc := ⟨.hbm, 70, rfl⟩
abbrev main_call0_call1_v1 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_cst_3 : Ref sig .tc := ⟨.hbm, 76, rfl⟩
abbrev main_call0_call2_v0 : Ref sig .tc := ⟨.hbm, 77, rfl⟩
abbrev main_call0_call2_v1 : Ref sig .tc := ⟨.hbm, 78, rfl⟩
abbrev main_call0_call2_v2 : Ref sig .tc := ⟨.hbm, 79, rfl⟩
abbrev main_call0_v10 : Ref sig .tc := ⟨.hbm, 80, rfl⟩
abbrev main_call0_cst_4 : Ref sig .tc := ⟨.hbm, 81, rfl⟩
abbrev main_call0_v11 : Ref sig .tc := ⟨.hbm, 82, rfl⟩
abbrev main_call0_v12 : Ref sig .tc := ⟨.hbm, 83, rfl⟩
abbrev main_call0_cst_5 : Ref sig .tc := ⟨.hbm, 84, rfl⟩
abbrev main_call0_v13 : Ref sig .tc := ⟨.hbm, 85, rfl⟩
abbrev main_call0_v14 : Ref sig .tc := ⟨.hbm, 86, rfl⟩
abbrev main_call0_v15 : Ref sig .tc := ⟨.hbm, 87, rfl⟩
abbrev main_v39 : Ref sig .tc := ⟨.hbm, 88, rfl⟩
abbrev main_v40 : Ref sig .tc := ⟨.hbm, 89, rfl⟩
abbrev main_cst_7 : Ref sig .tc := ⟨.hbm, 90, rfl⟩
abbrev main_v41 : Ref sig .tc := ⟨.hbm, 91, rfl⟩
abbrev main_v42 : Ref sig .tc := ⟨.hbm, 92, rfl⟩
abbrev main_cst_8 : Ref sig .tc := ⟨.hbm, 93, rfl⟩
abbrev main_v43 : Ref sig .tc := ⟨.hbm, 94, rfl⟩
abbrev main_c_9 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_call1_v5 : Ref sig .tc := ⟨.hbm, 101, rfl⟩
abbrev main_call1_v6 : Ref sig .tc := ⟨.hbm, 102, rfl⟩
abbrev main_call1_v7 : Ref sig .tc := ⟨.hbm, 103, rfl⟩
abbrev main_call1_v8 : Ref sig .tc := ⟨.hbm, 104, rfl⟩
abbrev main_call1_c : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_c_0 : Ref sig .tc := ⟨.hbm, 109, rfl⟩
abbrev main_call1_v12 : Ref sig .tc := ⟨.hbm, 110, rfl⟩
abbrev main_call1_v13 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_c_10 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_c_11 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_cst_12 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_v69 : Ref sig .tc := ⟨.hbm, 143, rfl⟩
abbrev main_cst_13 : Ref sig .tc := ⟨.hbm, 144, rfl⟩
abbrev main_call3_v0 : Ref sig .tc := ⟨.hbm, 145, rfl⟩
abbrev main_call3_v1 : Ref sig .tc := ⟨.hbm, 146, rfl⟩
abbrev main_call3_v2 : Ref sig .tc := ⟨.hbm, 147, rfl⟩
abbrev main_v70 : Ref sig .tc := ⟨.hbm, 148, rfl⟩
abbrev main_values : Ref sig .tc := ⟨.hbm, 149, rfl⟩
abbrev main_indices : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_c_14 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_cst_15 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_call4_cst : Ref sig .tc := ⟨.hbm, 174, rfl⟩
abbrev main_call4_call0_v0 : Ref sig .tc := ⟨.hbm, 175, rfl⟩
abbrev main_call4_call0_v1 : Ref sig .tc := ⟨.hbm, 176, rfl⟩
abbrev main_call4_call0_v2 : Ref sig .tc := ⟨.hbm, 177, rfl⟩
abbrev main_call4_v0 : Ref sig .tc := ⟨.hbm, 178, rfl⟩
abbrev main_call4_cst_0 : Ref sig .tc := ⟨.hbm, 179, rfl⟩
abbrev main_call4_v1 : Ref sig .tc := ⟨.hbm, 180, rfl⟩
abbrev main_call4_v2 : Ref sig .tc := ⟨.hbm, 181, rfl⟩
abbrev main_call4_v3 : Ref sig .tc := ⟨.hbm, 182, rfl⟩
abbrev main_call4_cst_1 : Ref sig .tc := ⟨.hbm, 183, rfl⟩
abbrev main_call4_v4 : Ref sig .tc := ⟨.hbm, 184, rfl⟩
abbrev main_call4_v5 : Ref sig .tc := ⟨.hbm, 185, rfl⟩
abbrev main_call4_cst_2 : Ref sig .tc := ⟨.hbm, 186, rfl⟩
abbrev main_call4_call1_v0 : Ref sig .tc := ⟨.hbm, 187, rfl⟩
abbrev main_call4_call1_v1 : Ref sig .tc := ⟨.hbm, 188, rfl⟩
abbrev main_call4_v6 : Ref sig .tc := ⟨.hbm, 189, rfl⟩
abbrev main_call4_v7 : Ref sig .tc := ⟨.hbm, 190, rfl⟩
abbrev main_call4_v8 : Ref sig .tc := ⟨.hbm, 191, rfl⟩
abbrev main_call4_v9 : Ref sig .tc := ⟨.hbm, 192, rfl⟩
abbrev main_call4_cst_3 : Ref sig .tc := ⟨.hbm, 193, rfl⟩
abbrev main_call4_call2_v0 : Ref sig .tc := ⟨.hbm, 194, rfl⟩
abbrev main_call4_call2_v1 : Ref sig .tc := ⟨.hbm, 195, rfl⟩
abbrev main_call4_call2_v2 : Ref sig .tc := ⟨.hbm, 196, rfl⟩
abbrev main_call4_v10 : Ref sig .tc := ⟨.hbm, 197, rfl⟩
abbrev main_call4_cst_4 : Ref sig .tc := ⟨.hbm, 198, rfl⟩
abbrev main_call4_v11 : Ref sig .tc := ⟨.hbm, 199, rfl⟩
abbrev main_call4_v12 : Ref sig .tc := ⟨.hbm, 200, rfl⟩
abbrev main_call4_cst_5 : Ref sig .tc := ⟨.hbm, 201, rfl⟩
abbrev main_call4_v13 : Ref sig .tc := ⟨.hbm, 202, rfl⟩
abbrev main_call4_v14 : Ref sig .tc := ⟨.hbm, 203, rfl⟩
abbrev main_call4_v15 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩
abbrev main_c_16 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_v101 : Ref sig .tc := ⟨.hbm, 215, rfl⟩
abbrev main_v102 : Ref sig .tc := ⟨.hbm, 216, rfl⟩
abbrev main_c_17 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_cst_18 : Ref sig .tc := ⟨.hbm, 223, rfl⟩
abbrev main_v108 : Ref sig .tc := ⟨.hbm, 224, rfl⟩
abbrev main_v109 : Ref sig .tc := ⟨.hbm, 225, rfl⟩
abbrev main_call5_cst : Ref sig .tc := ⟨.hbm, 226, rfl⟩
abbrev main_call5_call0_v0 : Ref sig .tc := ⟨.hbm, 227, rfl⟩
abbrev main_call5_call0_v1 : Ref sig .tc := ⟨.hbm, 228, rfl⟩
abbrev main_call5_call0_v2 : Ref sig .tc := ⟨.hbm, 229, rfl⟩
abbrev main_call5_v0 : Ref sig .tc := ⟨.hbm, 230, rfl⟩
abbrev main_call5_cst_0 : Ref sig .tc := ⟨.hbm, 231, rfl⟩
abbrev main_call5_v1 : Ref sig .tc := ⟨.hbm, 232, rfl⟩
abbrev main_call5_v2 : Ref sig .tc := ⟨.hbm, 233, rfl⟩
abbrev main_call5_v3 : Ref sig .tc := ⟨.hbm, 234, rfl⟩
abbrev main_call5_cst_1 : Ref sig .tc := ⟨.hbm, 235, rfl⟩
abbrev main_call5_v4 : Ref sig .tc := ⟨.hbm, 236, rfl⟩
abbrev main_call5_v5 : Ref sig .tc := ⟨.hbm, 237, rfl⟩
abbrev main_call5_cst_2 : Ref sig .tc := ⟨.hbm, 238, rfl⟩
abbrev main_call5_call1_v0 : Ref sig .tc := ⟨.hbm, 239, rfl⟩
abbrev main_call5_call1_v1 : Ref sig .tc := ⟨.hbm, 240, rfl⟩
abbrev main_call5_v6 : Ref sig .tc := ⟨.hbm, 241, rfl⟩
abbrev main_call5_v7 : Ref sig .tc := ⟨.hbm, 242, rfl⟩
abbrev main_call5_v8 : Ref sig .tc := ⟨.hbm, 243, rfl⟩
abbrev main_call5_v9 : Ref sig .tc := ⟨.hbm, 244, rfl⟩
abbrev main_call5_cst_3 : Ref sig .tc := ⟨.hbm, 245, rfl⟩
abbrev main_call5_call2_v0 : Ref sig .tc := ⟨.hbm, 246, rfl⟩
abbrev main_call5_call2_v1 : Ref sig .tc := ⟨.hbm, 247, rfl⟩
abbrev main_call5_call2_v2 : Ref sig .tc := ⟨.hbm, 248, rfl⟩
abbrev main_call5_v10 : Ref sig .tc := ⟨.hbm, 249, rfl⟩
abbrev main_call5_cst_4 : Ref sig .tc := ⟨.hbm, 250, rfl⟩
abbrev main_call5_v11 : Ref sig .tc := ⟨.hbm, 251, rfl⟩
abbrev main_call5_v12 : Ref sig .tc := ⟨.hbm, 252, rfl⟩
abbrev main_call5_cst_5 : Ref sig .tc := ⟨.hbm, 253, rfl⟩
abbrev main_call5_v13 : Ref sig .tc := ⟨.hbm, 254, rfl⟩
abbrev main_call5_v14 : Ref sig .tc := ⟨.hbm, 255, rfl⟩
abbrev main_call5_v15 : Ref sig .tc := ⟨.hbm, 256, rfl⟩
abbrev main_v110 : Ref sig .tc := ⟨.hbm, 257, rfl⟩
abbrev main_v111 : Ref sig .tc := ⟨.hbm, 258, rfl⟩
abbrev main_v112 : Ref sig .tc := ⟨.hbm, 259, rfl⟩
abbrev main_v113 : Ref sig .tc := ⟨.hbm, 260, rfl⟩
abbrev main_v114 : Ref sig .tc := ⟨.hbm, 261, rfl⟩
abbrev main_v115 : Ref sig .tc := ⟨.hbm, 262, rfl⟩
abbrev main_v116 : Ref sig .tc := ⟨.hbm, 263, rfl⟩
abbrev main_v117 : Ref sig .tc := ⟨.hbm, 264, rfl⟩
abbrev main_v118 : Ref sig .tc := ⟨.hbm, 265, rfl⟩
abbrev main_v119 : Ref sig .tc := ⟨.hbm, 266, rfl⟩
abbrev main_v120 : Ref sig .tc := ⟨.hbm, 267, rfl⟩
abbrev main_v121 : Ref sig .tc := ⟨.hbm, 268, rfl⟩
abbrev main_v122 : Ref sig .tc := ⟨.hbm, 269, rfl⟩
abbrev main_v123 : Ref sig .tc := ⟨.hbm, 270, rfl⟩
abbrev main_v124 : Ref sig .tc := ⟨.hbm, 271, rfl⟩
abbrev main_v125 : Ref sig .tc := ⟨.hbm, 272, rfl⟩
abbrev main_v126 : Ref sig .tc := ⟨.hbm, 273, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048 : Shape := ⟨1, ![2048]⟩
abbrev S2048x9784 : Shape := ⟨2, ![2048, 9784]⟩
abbrev S2048x2048 : Shape := ⟨2, ![2048, 2048]⟩
abbrev S2048x1024 : Shape := ⟨2, ![2048, 1024]⟩
abbrev S2048x512 : Shape := ⟨2, ![2048, 512]⟩
abbrev S2048x1536 : Shape := ⟨2, ![2048, 1536]⟩
abbrev S2048x4 : Shape := ⟨2, ![2048, 4]⟩
abbrev S2048x48 : Shape := ⟨2, ![2048, 48]⟩
abbrev S_ : Shape := ⟨0, ![]⟩
abbrev S2048x72 : Shape := ⟨2, ![2048, 72]⟩
abbrev S2048x9856 : Shape := ⟨2, ![2048, 9856]⟩
abbrev S16384x2048 : Shape := ⟨2, ![16384, 2048]⟩
abbrev S1x2048 : Shape := ⟨2, ![1, 2048]⟩
abbrev S16384x9856 : Shape := ⟨2, ![16384, 9856]⟩
abbrev S1024x2048 : Shape := ⟨2, ![1024, 2048]⟩
abbrev S2048x896 : Shape := ⟨2, ![2048, 896]⟩
abbrev S1024x896 : Shape := ⟨2, ![1024, 896]⟩
abbrev S1024 : Shape := ⟨1, ![1024]⟩
abbrev S1024x1 : Shape := ⟨2, ![1024, 1]⟩

abbrev nBuf : Space → Nat
  | .hbm => 31
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x9784, .f32⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S2048x2048, .bf16⟩
  | .hbm, ⟨7, _⟩ => ⟨S2048x1024, .f32⟩
  | .hbm, ⟨8, _⟩ => ⟨S2048x1024, .bf16⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .bf16⟩
  | .hbm, ⟨13, _⟩ => ⟨S2048x512, .f32⟩
  | .hbm, ⟨14, _⟩ => ⟨S2048x512, .bf16⟩
  | .hbm, ⟨15, _⟩ => ⟨S2048x512, .f32⟩
  | .hbm, ⟨16, _⟩ => ⟨S2048x512, .bf16⟩
  | .hbm, ⟨17, _⟩ => ⟨S2048x1536, .f32⟩
  | .hbm, ⟨18, _⟩ => ⟨S2048x1536, .bf16⟩
  | .hbm, ⟨19, _⟩ => ⟨S2048x4, .f32⟩
  | .hbm, ⟨20, _⟩ => ⟨S2048x4, .bf16⟩
  | .hbm, ⟨21, _⟩ => ⟨S2048x4, .f32⟩
  | .hbm, ⟨22, _⟩ => ⟨S2048x4, .bf16⟩
  | .hbm, ⟨23, _⟩ => ⟨S2048x48, .f32⟩
  | .hbm, ⟨24, _⟩ => ⟨S2048x48, .bf16⟩
  | .hbm, ⟨25, _⟩ => ⟨S_, .bf16⟩
  | .hbm, ⟨26, _⟩ => ⟨S2048x72, .bf16⟩
  | .hbm, ⟨27, _⟩ => ⟨S2048x9856, .bf16⟩
  | .hbm, ⟨28, _⟩ => ⟨S16384x2048, .f32⟩
  | .hbm, ⟨29, _⟩ => ⟨S1x2048, .f32⟩
  | .hbm, ⟨30, _⟩ => ⟨S16384x9856, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x896, .bf16⟩
  | .local _ .vmem, ⟨4, _⟩ => ⟨S2048x896, .bf16⟩
  | .local _ .vmem, ⟨5, _⟩ => ⟨S1024x896, .f32⟩
  | .local _ .vmem, ⟨6, _⟩ => ⟨S1024x896, .f32⟩
  | .local _ .vmem, ⟨7, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x4096x2048 : Shape := ⟨3, ![4, 4096, 2048]⟩
abbrev S2048 : Shape := ⟨1, ![2048]⟩
abbrev S2048x9784 : Shape := ⟨2, ![2048, 9784]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x9784 : Shape := ⟨3, ![4, 4096, 9784]⟩
abbrev S4x4096x512 : Shape := ⟨3, ![4, 4096, 512]⟩
abbrev S4x4096x1024 : Shape := ⟨3, ![4, 4096, 1024]⟩
abbrev S4x4096x4 : Shape := ⟨3, ![4, 4096, 4]⟩
abbrev S4x4096x1536 : Shape := ⟨3, ![4, 4096, 1536]⟩
abbrev S4x4096x48 : Shape := ⟨3, ![4, 4096, 48]⟩
abbrev S4x4096x72 : Shape := ⟨3, ![4, 4096, 72]⟩
abbrev S4x4096x9856 : Shape := ⟨3, ![4, 4096, 9856]⟩
abbrev S16384x9856 : Shape := ⟨2, ![16384, 9856]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x9784, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S4x4096x9784, .f32⟩
  | .hbm, ⟨20, _⟩ => ⟨S4x4096x512, .f32⟩
  | .hbm, ⟨21, _⟩ => ⟨S4x4096x512, .f32⟩
  | .hbm, ⟨22, _⟩ => ⟨S4x4096x1024, .f32⟩
  | .hbm, ⟨23, _⟩ => ⟨S4x4096x4, .f32⟩
  | .hbm, ⟨24, _⟩ => ⟨S4x4096x4, .f32⟩
  | .hbm, ⟨25, _⟩ => ⟨S4x4096x1024, .f32⟩
  | .hbm, ⟨26, _⟩ => ⟨S4x4096x1024, .f32⟩
  | .hbm, ⟨27, _⟩ => ⟨S4x4096x1536, .f32⟩
  | .hbm, ⟨28, _⟩ => ⟨S4x4096x48, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x4096x72, .f32⟩
  | .hbm, ⟨33, _⟩ => ⟨S4x4096x9856, .f32⟩
  | .hbm, ⟨34, _⟩ => ⟨S16384x9856, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel3.lean ====
abbrev S4x4096x2048 : Shape := ⟨3, ![4, 4096, 2048]⟩
abbrev S16384x9856 : Shape := ⟨2, ![16384, 9856]⟩
abbrev S4x4096x1024 : Shape := ⟨3, ![4, 4096, 1024]⟩
abbrev S1024x2048 : Shape := ⟨2, ![1024, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S16384x2048 : Shape := ⟨2, ![16384, 2048]⟩
abbrev S16384x1024 : Shape := ⟨2, ![16384, 1024]⟩
abbrev S2048x36 : Shape := ⟨2, ![2048, 36]⟩
abbrev S_ : Shape := ⟨0, ![]⟩
abbrev S2048x128 : Shape := ⟨2, ![2048, 128]⟩
abbrev S36 : Shape := ⟨1, ![36]⟩
abbrev S128 : Shape := ⟨1, ![128]⟩
abbrev S1x128 : Shape := ⟨2, ![1, 128]⟩
abbrev S1x2048 : Shape := ⟨2, ![1, 2048]⟩
abbrev S16384x128 : Shape := ⟨2, ![16384, 128]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 32
  | .vmem => 22
  | .smem => 0
  | _ => 0

abbrev bufTy : (tb : Table) → Fin (tcTables nBuf tb) → BufTy
  | .hbm, ⟨0, _⟩ => ⟨S4x4096x2048, .f32⟩
  | .hbm, ⟨1, _⟩ => ⟨S16384x9856, .f32⟩
  | .hbm, ⟨2, _⟩ => ⟨S4x4096x1024, .f32⟩
  | .hbm, ⟨3, _⟩ => ⟨S4x4096x1024, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S2048x32, .f32⟩
  | .hbm, ⟨11, _⟩ => ⟨S32, .f32⟩
  | .hbm, ⟨12, _⟩ => ⟨S16384x2048, .f32⟩
  | .hbm, ⟨13, _⟩ => ⟨S16384x1024, .f32⟩
  | .hbm, ⟨14, _⟩ => ⟨S16384x1024, .f32⟩
  | .hbm, ⟨15, _⟩ => ⟨S2048x36, .f32⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S2048x128, .bf16⟩
  | .hbm, ⟨20, _⟩ => ⟨S36, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S1024x2048, .bf16⟩
  | .hbm, ⟨26, _⟩ => ⟨S1024x2048, .bf16⟩
  | .hbm, ⟨27, _⟩ => ⟨S2048x2048, .bf16⟩
  | .hbm, ⟨28, _⟩ => ⟨S1x2048, .f32⟩
  | .hbm, ⟨29, _⟩ => ⟨S16384x2048, .f32⟩
  | .hbm, ⟨30, _⟩ => ⟨S16384x2048, .f32⟩
  | .hbm, ⟨31, _⟩ => ⟨S16384x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S2048x128, .bf16⟩
  | .local _ .vmem, ⟨15, _⟩ => ⟨S1x128, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x128, .f32⟩
  | .local _ .vmem, ⟨21, _⟩ => ⟨S256x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_call1_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S4x4096x2048 : Shape := ⟨3, ![4, 4096, 2048]⟩
abbrev S16384x9856 : Shape := ⟨2, ![16384, 9856]⟩
abbrev S4x4096x1024 : Shape := ⟨3, ![4, 4096, 1024]⟩
abbrev S1024x2048 : Shape := ⟨2, ![1024, 2048]⟩
abbrev S2048x2048 : Shape := ⟨2, ![2048, 2048]⟩
abbrev S2048 : Shape := ⟨1, ![2048]⟩
abbrev S2048x4 : Shape := ⟨2, ![2048, 4]⟩
abbrev S4 : Shape := ⟨1, ![4]⟩
abbrev S2048x32 : Shape := ⟨2, ![2048, 32]⟩
abbrev S32 : Shape := ⟨1, ![32]⟩
abbrev S16384x2048 : Shape := ⟨2, ![16384, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x4 : Shape := ⟨2, ![16384, 4]⟩
abbrev S1x4 : Shape := ⟨2, ![1, 4]⟩
abbrev S16384x32 : Shape := ⟨2, ![16384, 32]⟩
abbrev S1x32 : Shape := ⟨2, ![1, 32]⟩
abbrev S16384x92 : Shape := ⟨2, ![16384, 92]⟩
abbrev S16384x128 : Shape := ⟨2, ![16384, 128]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S16384x9856, .f32⟩
  | .hbm, ⟨2, _⟩ => ⟨S4x4096x1024, .f32⟩
  | .hbm, ⟨3, _⟩ => ⟨S4x4096x1024, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S2048x4, .f32⟩
  | .hbm, ⟨9, _⟩ => ⟨S4, .f32⟩
  | .hbm, ⟨10, _⟩ => ⟨S2048x32, .f32⟩
  | .hbm, ⟨11, _⟩ => ⟨S32, .f32⟩
  | .hbm, ⟨12, _⟩ => ⟨S16384x2048, .f32⟩
  | .hbm, ⟨13, _⟩ => ⟨S4x4096x2048, .f32⟩
  | .hbm, ⟨14, _⟩ => ⟨S16384x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S4x4096x1, .f32⟩
  | .hbm, ⟨50, _⟩ => ⟨S4x4096x2048, .f32⟩
  | .hbm, ⟨51, _⟩ => ⟨S4x4096x2048, .f32⟩
  | .hbm, ⟨52, _⟩ => ⟨S1x1x2048, .f32⟩
  | .hbm, ⟨53, _⟩ => ⟨S4x4096x2048, .f32⟩
  | .hbm, ⟨54, _⟩ => ⟨S4x4096x2048, .f32⟩
  | .hbm, ⟨55, _⟩ => ⟨S16384x2048, .f32⟩
  | .hbm, ⟨56, _⟩ => ⟨S16384x4, .f32⟩
  | .hbm, ⟨57, _⟩ => ⟨S1x4, .f32⟩
  | .hbm, ⟨58, _⟩ => ⟨S16384x4, .f32⟩
  | .hbm, ⟨59, _⟩ => ⟨S16384x4, .f32⟩
  | .hbm, ⟨60, _⟩ => ⟨S16384x32, .f32⟩
  | .hbm, ⟨61, _⟩ => ⟨S1x32, .f32⟩
  | .hbm, ⟨62, _⟩ => ⟨S16384x32, .f32⟩
  | .hbm, ⟨63, _⟩ => ⟨S16384x32, .f32⟩
  | .hbm, ⟨64, _⟩ => ⟨S16384x2048, .f32⟩
  | .hbm, ⟨65, _⟩ => ⟨S_, .f32⟩
  | .hbm, ⟨66, _⟩ => ⟨S16384x92, .f32⟩
  | .hbm, ⟨67, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Kernel4.lean ====
abbrev S41216x2048 : Shape := ⟨2, ![41216, 2048]⟩
abbrev S41216 : Shape := ⟨1, ![41216]⟩
abbrev S161 : Shape := ⟨1, ![161]⟩
abbrev S32x2048x512 : Shape := ⟨3, ![32, 2048, 512]⟩
abbrev S32x512x2048 : Shape := ⟨3, ![32, 512, 2048]⟩
abbrev S41216x1 : Shape := ⟨2, ![41216, 1]⟩
abbrev S256x2048 : Shape := ⟨2, ![256, 2048]⟩
abbrev S1x2048x512 : Shape := ⟨3, ![1, 2048, 512]⟩
abbrev S1 : Shape := ⟨1, ![1]⟩
abbrev S1x512x2048 : Shape := ⟨3, ![1, 512, 2048]⟩
abbrev S256x1 : Shape := ⟨2, ![256, 1]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 8
  | .vmem => 15
  | .smem => 1
  | _ => 0

abbrev bufTy : (tb : Table) → Fin (tcTables nBuf tb) → BufTy
  | .hbm, ⟨0, _⟩ => ⟨S41216x2048, .f32⟩
  | .hbm, ⟨1, _⟩ => ⟨S41216, .f32⟩
  | .hbm, ⟨2, _⟩ => ⟨S32x2048x512, .f32⟩
  | .hbm, ⟨3, _⟩ => ⟨S32x2048x512, .f32⟩
  | .hbm, ⟨4, _⟩ => ⟨S32x512x2048, .f32⟩
  | .hbm, ⟨5, _⟩ => ⟨S41216x2048, .bf16⟩
  | .hbm, ⟨6, _⟩ => ⟨S41216x1, .f32⟩
  | .hbm, ⟨7, _⟩ => ⟨S41216x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S256x1, .f32⟩
  | .local _ .vmem, ⟨9, _⟩ => ⟨S256x1, .f32⟩
  | .local _ .vmem, ⟨10, _⟩ => ⟨S256x2048, .f32⟩
  | .local _ .vmem, ⟨11, _⟩ => ⟨S256x2048, .f32⟩
  | .local _ .vmem, ⟨12, _⟩ => ⟨S2048x512, .bf16⟩
  | .local _ .vmem, ⟨13, _⟩ => ⟨S2048x512, .bf16⟩
  | .local _ .vmem, ⟨14, _⟩ => ⟨S512x2048, .bf16⟩
  | .local _ .smem, ⟨0, _⟩ => ⟨S161, .i32⟩
  | _, _ => ⟨S41216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![161], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S161.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S161) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S41216x2048 : Shape := ⟨2, ![41216, 2048]⟩
abbrev S41216 : Shape := ⟨1, ![41216]⟩
abbrev S161 : Shape := ⟨1, ![161]⟩
abbrev S32x2048x512 : Shape := ⟨3, ![32, 2048, 512]⟩
abbrev S32x512x2048 : Shape := ⟨3, ![32, 512, 2048]⟩
abbrev S161x256x2048 : Shape := ⟨3, ![161, 256, 2048]⟩
abbrev S_ : Shape := ⟨0, ![]⟩
abbrev S161x1 : Shape := ⟨2, ![161, 1]⟩
abbrev S161x2048x512 : Shape := ⟨3, ![161, 2048, 512]⟩
abbrev S161x256x512 : Shape := ⟨3, ![161, 256, 512]⟩
abbrev S161x512x2048 : Shape := ⟨3, ![161, 512, 2048]⟩
abbrev S41216x1 : Shape := ⟨2, ![41216, 1]⟩

abbrev nBuf : Space → Nat
  | .hbm => 51
  | .vmem => 0
  | .smem => 0
  | _ => 0

abbrev bufTy : (tb : Table) → Fin (tcTables nBuf tb) → BufTy
  | .hbm, ⟨0, _⟩ => ⟨S41216x2048, .f32⟩
  | .hbm, ⟨1, _⟩ => ⟨S41216, .f32⟩
  | .hbm, ⟨2, _⟩ => ⟨S161, .i32⟩
  | .hbm, ⟨3, _⟩ => ⟨S32x2048x512, .f32⟩
  | .hbm, ⟨4, _⟩ => ⟨S32x2048x512, .f32⟩
  | .hbm, ⟨5, _⟩ => ⟨S32x512x2048, .f32⟩
  | .hbm, ⟨6, _⟩ => ⟨S161x256x2048, .f32⟩
  | .hbm, ⟨7, _⟩ => ⟨S_, .i32⟩
  | .hbm, ⟨8, _⟩ => ⟨S161, .i32⟩
  | .hbm, ⟨9, _⟩ => ⟨S161, .i1⟩
  | .hbm, ⟨10, _⟩ => ⟨S_, .i32⟩
  | .hbm, ⟨11, _⟩ => ⟨S161, .i32⟩
  | .hbm, ⟨12, _⟩ => ⟨S161, .i32⟩
  | .hbm, ⟨13, _⟩ => ⟨S161, .i32⟩
  | .hbm, ⟨14, _⟩ => ⟨S161x1, .i32⟩
  | .hbm, ⟨15, _⟩ => ⟨S161x2048x512, .f32⟩
  | .hbm, ⟨16, _⟩ => ⟨S161x256x512, .f32⟩
  | .hbm, ⟨17, _⟩ => ⟨S_, .i32⟩
  | .hbm, ⟨18, _⟩ => ⟨S161, .i32⟩
  | .hbm, ⟨19, _⟩ => ⟨S161, .i1⟩
  | .hbm, ⟨20, _⟩ => ⟨S_, .i32⟩
  | .hbm, ⟨21, _⟩ => ⟨S161, .i32⟩
  | .hbm, ⟨22, _⟩ => ⟨S161, .i32⟩
  | .hbm, ⟨23, _⟩ => ⟨S161, .i32⟩
  | .hbm, ⟨24, _⟩ => ⟨S161x1, .i32⟩
  | .hbm, ⟨25, _⟩ => ⟨S161x2048x512, .f32⟩
  | .hbm, ⟨26, _⟩ => ⟨S161x256x512, .f32⟩
  | .hbm, ⟨27, _⟩ => ⟨S161x256x512, .f32⟩
  | .hbm, ⟨28, _⟩ => ⟨S161x256x512, .f32⟩
  | .hbm, ⟨29, _⟩ => ⟨S_, .f32⟩
  | .hbm, ⟨30, _⟩ => ⟨S161x256x512, .f32⟩
  | .hbm, ⟨31, _⟩ => ⟨S161x256x512, .f32⟩
  | .hbm, ⟨32, _⟩ => ⟨S_, .f32⟩
  | .hbm, ⟨33, _⟩ => ⟨S161x256x512, .f32⟩
  | .hbm, ⟨34, _⟩ => ⟨S161x256x512, .f32⟩
  | .hbm, ⟨35, _⟩ => ⟨S161x256x512, .f32⟩
  | .hbm, ⟨36, _⟩ => ⟨S161x256x512, .f32⟩
  | .hbm, ⟨37, _⟩ => ⟨S_, .i32⟩
  | .hbm, ⟨38, _⟩ => ⟨S161, .i32⟩
  | .hbm, ⟨39, _⟩ => ⟨S161, .i1⟩
  | .hbm, ⟨40, _⟩ => ⟨S_, .i32⟩
  | .hbm, ⟨41, _⟩ => ⟨S161, .i32⟩
  | .hbm, ⟨42, _⟩ => ⟨S161, .i32⟩
  | .hbm, ⟨43, _⟩ => ⟨S161, .i32⟩
  | .hbm, ⟨44, _⟩ => ⟨S161x1, .i32⟩
  | .hbm, ⟨45, _⟩ => ⟨S161x512x2048, .f32⟩
  | .hbm, ⟨46, _⟩ => ⟨S161x256x2048, .f32⟩
  | .hbm, ⟨47, _⟩ => ⟨S41216x2048, .f32⟩
  | .hbm, ⟨48, _⟩ => ⟨S41216x1, .f32⟩
  | .hbm, ⟨49, _⟩ => ⟨S41216x2048, .f32⟩
  | .hbm, ⟨50, _⟩ => ⟨S41216x2048, .f32⟩
  | _, _ => ⟨S41216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Proof.Trips.lean ====
module

public import proofs.«01_k».proof.Proof.Gen.KernelIdeal.Frame
public import Idealize.ShloMosaic.Lib.Pointwise

@[expose] public section

set_option maxRecDepth 8192
set_option maxHeartbeats 4000000

noncomputable section

namespace Cert.KernelIdeal.Opened

open Cert.KernelIdeal Cert.KernelIdeal.Gen
open Idealize.ShloMosaic Idealize.ShloMosaic.TcCoe Idealize.ShloMosaic.Tactic

variable {F : FTy → Type} [FloatOps F] [Named F]

/-! ## One chunk of the running softmax, as both attention loops compute it -/

/-- The masked scores of one head: its 128 columns of the chunk's scores, with the chunk's bias added. -/
def headScore (o : ℕ) (h : S512x512.Slices ![0, o] S512x128) (sk : FVec F S512x512 .f32) (bias : FVec F S512x128 .f32) :
    FVec F S512x128 .f32 := addf (extractStridedSlice S512x128 ![0, o] sk h) bias

/-- One head's new running maximum. -/
def headMax (o : ℕ) (h : S512x512.Slices ![0, o] S512x128) (h' : S1x512.Slices ![0, o] S1x128)
    (sk : FVec F S512x512 .f32) (bias : FVec F S512x128 .f32) (m : FVec F S1x512 .f32) : FVec F S1x128 .f32 :=
  maximumf (extractStridedSlice S1x128 ![0, o] m h')
    (shapeCast S1x128 (multiReduction .maximumf [0] S128 (headScore o h sk bias) 0xFF800000#32 reduces_S512x128_S128 (.inl rfl) rfl)
      shapeCasts_S128_S1x128)

/-- One head's weights against its new running maximum. -/
def headProb (o : ℕ) (h : S512x512.Slices ![0, o] S512x128) (h' : S1x512.Slices ![0, o] S1x128)
    (sk : FVec F S512x512 .f32) (bias : FVec F S512x128 .f32) (m : FVec F S1x512 .f32) : FVec F S512x128 .f32 :=
  exp2 (subf (headScore o h sk bias) (broadcastTo S512x128 (headMax o h h' sk bias m) broadcasts_S1x128_S512x128))

/-- The sum of one head's weights over the chunk. -/
def headSum (o : ℕ) (h : S512x512.Slices ![0, o] S512x128) (h' : S1x512.Slices ![0, o] S1x128)
    (sk : FVec F S512x512 .f32) (bias : FVec F S512x128 .f32) (m : FVec F S1x512 .f32) : FVec F S1x128 .f32 :=
  shapeCast S1x128 (multiReduction .add [0] S128 (headProb o h h' sk bias m) 0x00000000#32 reduces_S512x128_S128 (.inl rfl) rfl)
    shapeCasts_S128_S1x128

/-- The new running maxima of the four heads. -/
def stepMax (sk : FVec F S512x512 .f32) (bias : FVec F S512x128 .f32) (m : FVec F S1x512 .f32) : FVec F S1x512 .f32 :=
  concatenate S1x512 1 [⟨S1x128, headMax 0 slices_S512x512_o0_0_S512x128 slices_S1x512_o0_0_S1x128 sk bias m⟩,
    ⟨S1x128, headMax 128 slices_S512x512_o0_128_S512x128 slices_S1x512_o0_128_S1x128 sk bias m⟩,
    ⟨S1x128, headMax 256 slices_S512x512_o0_256_S512x128 slices_S1x512_o0_256_S1x128 sk bias m⟩,
    ⟨S1x128, headMax 384 slices_S512x512_o0_384_S512x128 slices_S1x512_o0_384_S1x128 sk bias m⟩]
    concatenates_S1x128_S1x128_S1x128_S1x128_S1x512_d1

/-- The factor that carries the old sums over to the new maxima. -/
def stepScale (sk : FVec F S512x512 .f32) (bias : FVec F S512x128 .f32) (m : FVec F S1x512 .f32) : FVec F S1x512 .f32 :=
  exp2 (subf m (stepMax sk bias m))

/-- The new running sums of weights. -/
def stepSum (sk : FVec F S512x512 .f32) (bias : FVec F S512x128 .f32) (m l : FVec F S1x512 .f32) : FVec F S1x512 .f32 :=
  addf (mulf (stepScale sk bias m) l)
    (concatenate S1x512 1 [⟨S1x128, headSum 0 slices_S512x512_o0_0_S512x128 slices_S1x512_o0_0_S1x128 sk bias m⟩,
      ⟨S1x128, headSum 128 slices_S512x512_o0_128_S512x128 slices_S1x512_o0_128_S1x128 sk bias m⟩,
      ⟨S1x128, headSum 256 slices_S512x512_o0_256_S512x128 slices_S1x512_o0_256_S1x128 sk bias m⟩,
      ⟨S1x128, headSum 384 slices_S512x512_o0_384_S512x128 slices_S1x512_o0_384_S1x128 sk bias m⟩]
      concatenates_S1x128_S1x128_S1x128_S1x128_S1x512_d1)

/-- The four heads' weights side by side. -/
def stepProb (sk : FVec F S512x512 .f32) (bias : FVec F S512x128 .f32) (m : FVec F S1x512 .f32) : FVec F S512x512 .bf16 :=
  concatenate S512x512 1 [⟨S512x128, truncf .bf16 (headProb 0 slices_S512x512_o0_0_S512x128 slices_S1x512_o0_0_S1x128 sk bias m) bitsLt_bf16_f32⟩,
    ⟨S512x128, truncf .bf16 (headProb 128 slices_S512x512_o0_128_S512x128 slices_S1x512_o0_128_S1x128 sk bias m) bitsLt_bf16_f32⟩,
    ⟨S512x128, truncf .bf16 (headProb 256 slices_S512x512_o0_256_S512x128 slices_S1x512_o0_256_S1x128 sk bias m) bitsLt_bf16_f32⟩,
    ⟨S512x128, truncf .bf16 (headProb 384 slices_S512x512_o0_384_S512x128 slices_S1x512_o0_384_S1x128 sk bias m) bitsLt_bf16_f32⟩]
    concatenates_S512x128_S512x128_S512x128_S512x128_S512x512_d1

/-- The new running weighted sums of values, from the chunk's transposed values. -/
def stepAcc (sk : FVec F S512x512 .f32) (bias : FVec F S512x128 .f32) (v : Vec F S1x1x1x64x512 .bf16) (m : FVec F S1x512 .f32)
    (acc : FVec F S64x512 .f32) : FVec F S64x512 .f32 :=
  addf (mulf (broadcastTo S64x512 (stepScale sk bias m) broadcasts_S1x512_S64x512) acc)
    (matmul dot_S64x512_S512x512_S64x512_1_0_0_1_n_n none (shapeCast S64x512 v shapeCasts_S1x1x1x64x512_S64x512)
      (stepProb sk bias m) (constant S64x512 .f32 0x00000000#32))

/-- One chunk: maxima, sums of weights, weighted sums of values. -/
def step (sk : FVec F S512x512 .f32) (bias : FVec F S512x128 .f32) (v : Vec F S1x1x1x64x512 .bf16)
    (a : FVec F S1x512 .f32 × FVec F S1x512 .f32 × FVec F S64x512 .f32) :
    FVec F S1x512 .f32 × FVec F S1x512 .f32 × FVec F S64x512 .f32 :=
  (stepMax sk bias a.1, stepSum sk bias a.1 a.2.1, stepAcc sk bias v a.1 a.2.2)

variable (𝒱 : Variants) (c : Dev nD) (bd : Option 𝒱.V) (i : grid0.Coords) (arg3 : Memref sig .tc .vmem S1x1x1x64x512 .f32) (harg3 : arg3.IsWhole) (arg4 : Memref sig .tc .vmem S64x1 .f32) (harg4 : arg4.IsWhole) (arg5 : Memref sig .tc .vmem S1x1x1x3x512 .f32) (harg5 : arg5.IsWhole) (arg6 : Memref sig .tc .vmem S1x1x128x64 .bf16) (harg6 : arg6.IsWhole) (arg7 : Memref sig .tc .vmem S1x1x64x128 .bf16) (harg7 : arg7.IsWhole) (arg8 : Memref sig .tc .vmem S1x1x4096x64 .bf16) (harg8 : arg8.IsWhole) (arg9 : Memref sig .tc .vmem S1x1x8x64x512 .bf16) (harg9 : arg9.IsWhole) (arg10 : Memref sig .tc .vmem S1x1x4096x64 .bf16) (harg10 : arg10.IsWhole) (arg11 : Memref sig .tc .vmem S1x1x8x64x512 .bf16) (harg11 : arg11.IsWhole) (arg12 : Memref sig .tc .vmem S1x1x1x64x512 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S128x128 .f32) (harg15 : arg15.IsWhole)

/-- One trip of the ranking loop. -/
theorem trip1 (v0 : BitVec 32) (v71 : IVec S64x128 32) (v99 : IVec S64x128 1) (v111 : FVec F S64x128 .f32) (v116 : BitVec 32) (c64_i32_43 : BitVec 32) (v117 : BitVec 32) (v119 : BitVec 32) (X_arg13 : BufTy.Contents (Elt F) arg13.view.ty) (k : Fin (k0_t1_loop i).trips) (acc : FVec F S64x128 .f32) :
    tripR_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 v0 v71 v99 v111 v116 c64_i32_43 v117 v119 X_arg13 k acc
      = k0_pay99 i v71 v111 k acc (View.readAt (Elt F) arg13.view (Rect.unit (s := S64x128) (k0_off1 i k) S1x128.size (k0_off1_inb i k)).toLoadRect X_arg13) := by
  unfold tripR_k0_t1 trip_k0_t1
  dsimp only

/-- Row `8k + r` of the selection, as the selected attention's loop reads it. -/
abbrev selRow (k : Fin (k0_t3_loop i).trips) (X : BufTy.Contents (Elt F) arg14.view.ty) (r : Fin 8) : Vec F S1x128 .f32 :=
  View.readAt (Elt F) arg14.view (Rect.unit (s := S64x128) (k0_off4 i k (BitVec.ofNat 32 r.val)) S1x128.size (k0_off4_inb i k r)).toLoadRect X

/-- The bias of one chunk of the selected attention, from the eight rows of the selection it reads. -/
def selBias (v153 : IVec S512x128 32) (v156 : IVec S1x128 32) (k : Fin (k0_t3_loop i).trips) (row : Fin 8 → Vec F S1x128 .f32) : FVec F S512x128 .f32 :=
  k0_pay8 v156 (k0_pay3 i v153 0#32 1#32 k) (k0_pay4 (row 0)) (k0_pay5 (row 1)) (k0_pay6 (row 2)) (k0_pay7 (row 3))
    (row 4) (row 5) (row 6) (row 7)

/-- One trip of the window attention's loop. -/
theorem trip5 (v19 : FVec F S64x512 .bf16) (v57 : FVec F S64x512 .f32) (v153 : IVec S512x128 32) (v156 : IVec S1x128 32) (v176 : BitVec 32) (v190 : FVec F S64x512 .f32) (v192 : BitVec 32) (c512_i32_80 : BitVec 32) (v193 : BitVec 32) (v198 : BitVec 32) (v209 : BitVec 32) (X_arg10 : BufTy.Contents (Elt F) arg10.view.ty) (X_arg11 : BufTy.Contents (Elt F) arg11.view.ty) (k : Fin (k0_t5_loop i).trips) (acc : FVec F S1x512 .f32 × FVec F S1x512 .f32 × FVec F S64x512 .f32) :
    tripR_k0_t5 (F := F) 𝒱 c bd i arg3 harg3 arg4 harg4 arg5 harg5 arg6 harg6 arg7 harg7 arg8 harg8 arg9 harg9 arg10 harg10 arg11 harg11 arg12 harg12 arg13 harg13 arg14 harg14 arg15 harg15 v19 v57 v153 v156 v176 v190 v192 c512_i32_80 v193 v198 v209 X_arg10 X_arg11 k acc
      = step (k0_pay56 v19 (View.readAt (Elt F) arg10.view (Rect.unit (s := S1x1x4096x64) (k0_off9 i k) S1x1x512x64.size (k0_off9_inb i k)).toLoadRect X_arg10))
          (k0_pay57 i v153 v156 v209 1#32 k)
          (View.readAt (Elt F) arg11.view (Rect.unit (s := S1x1x8x64x512) (k0_off10 i k) S1x1x1x64x512.size (k0_off10_inb i k)).toLoadRect X_arg11) acc := by
  unfold tripR_k0_t5 trip_k0_t5
  dsimp only
  sl_unfold_run_names
  rfl

/-- One trip of the selected attention's loop. -/
theorem trip3 (v0 : BitVec 32) (v19 : FVec F S64x512 .bf16) (v153 : IVec S512x128 32) (v156 : IVec S1x128 32) (v158 : BitVec 32) (c1_i32_63 : BitVec 32) (X_arg8 : BufTy.Contents (Elt F) arg8.view.ty) (X_arg9 : BufTy.Contents (Elt F) arg9.view.ty) (X_arg14 : BufTy.Contents (Elt F) arg14.view.ty) (k : Fin (k0_t3_loop i).trips) (acc : FVec F S1x512 .f32 × FVec F S1x512 .f32 × FVec F S64x512 .f32) :
    tripR_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 v0 v19 v153 v156 v158 c1_i32_63 X_arg8 X_arg9 X_arg14 k acc
      = step (k0_pay2 v19 (View.readAt (Elt F) arg8.view (Rect.unit (s := S1x1x4096x64) (k0_off3 i k) S1x1x512x64.size (k0_off3_inb i k)).toLoadRect X_arg8))
          (selBias i v153 v156 k (selRow i arg14 k X_arg14))
          (View.readAt (Elt F) arg9.view (Rect.unit (s := S1x1x8x64x512) (k0_off5 i k) S1x1x1x64x512.size (k0_off5_inb i k)).toLoadRect X_arg9) acc := by
  unfold tripR_k0_t3 trip_k0_t3
  dsimp only
  sl_unfold_run_names
  rfl

end Cert.KernelIdeal.Opened
end
-- ==== Proof.Body.lean ====
module

public import proofs.«01_k».proof.Proof.Trips

@[expose] public section

set_option maxRecDepth 8192
set_option maxHeartbeats 4000000

noncomputable section

namespace Cert.KernelIdeal.Opened

open Cert.KernelIdeal Cert.KernelIdeal.Gen
open Idealize.ShloMosaic Idealize.ShloMosaic.TcCoe Idealize.ShloMosaic.Tactic

variable {F : FTy → Type} [FloatOps F] [Named F]

/-- The value after `n` trips of a loop of `N` trips. -/
def upTo {α : Type} (N : ℕ) (f : Fin N → α → α) (a : α) : ℕ → α
  | 0 => a
  | n + 1 => if h : n < N then f ⟨n, h⟩ (upTo N f a n) else upTo N f a n

/-! ## The stages of one block, in the order in which the body runs them -/

/-- The first position of the block's queries. -/
abbrev base (i : grid0.Coords) : BitVec 32 := Scalar.muli (BitVec.ofNat 32 (i 2).val) 128#32

/-- The numbers of the selectable blocks. -/
abbrev blkNo : IVec S64x128 32 := iota .tc S64x128 32 [0] iota_S64x128_d0_w32

/-- The places of the keys in their chunk. -/
abbrev keyNo : IVec S512x128 32 := iota .tc S512x128 32 [0] iota_S512x128_d0_w32

/-- The probabilities over the compressed keys, summed over the four heads. -/
def headSums (i : grid0.Coords) (x0 : Vec F S1x1x1x64x512 .f32) (x1 : Vec F S64x1 .f32) (x3 : Vec F S1x1x128x64 .bf16) : FVec F S128x128 .f32 :=
  k0_pay90 (k0_pay85 x0 x1 x3) (k0_pay86 i) k0_pay87

/-- The importance of each selectable block: the two compressed blocks it holds, added. -/
def importance (hs : FVec F S128x128 .f32) : FVec F S64x128 .f32 :=
  k0_pay91 (fun y => hs ((⟨![0, 0], S64x128.size, ![2, 1], inb_S128x128_S64x128_0_0_s_2_1⟩ : LoadRect S128x128).idx y))
    (fun y => hs ((⟨![1, 0], S64x128.size, ![2, 1], inb_S128x128_S64x128_1_0_s_2_1⟩ : LoadRect S128x128).idx y))

/-- The scores by which blocks are ranked. -/
def score (i : grid0.Coords) (imp : FVec F S64x128 .f32) : FVec F S64x128 .f32 :=
  k0_pay96 imp blkNo (k0_pay92 (base i)) 64#32 (k0_pay93 (base i))

/-- The rank of each block: how many of the live blocks beat it. -/
def rank (i : grid0.Coords) (sc : FVec F S64x128 .f32) : FVec F S64x128 .f32 :=
  upTo (k0_t1_loop i).trips (fun k acc => k0_pay99 i blkNo sc k acc
    (View.ld sc (Rect.unit (s := S64x128) (k0_off1 i k) S1x128.size (k0_off1_inb i k)))) k0_pay98 (k0_t1_loop i).trips

/-- The selection: nought at a selected block, the mask elsewhere. -/
def selection (i : grid0.Coords) (sc : FVec F S64x128 .f32) : FVec F S64x128 .f32 :=
  k0_pay101 (k0_pay95 blkNo (k0_pay92 (base i)) 64#32 (k0_pay93 (base i))) (rank i sc)

/-- The selected attention's running softmax over its chunks. -/
def selChunks (i : grid0.Coords) (q : FVec F S64x512 .bf16) (sel : FVec F S64x128 .f32) (x5 : Vec F S1x1x4096x64 .bf16)
    (x6 : Vec F S1x1x8x64x512 .bf16) (n : ℕ) : FVec F S1x512 .f32 × FVec F S1x512 .f32 × FVec F S64x512 .f32 :=
  upTo (k0_t3_loop i).trips (fun k acc => step
    (k0_pay2 q (View.ld x5 (Rect.unit (s := S1x1x4096x64) (k0_off3 i k) S1x1x512x64.size (k0_off3_inb i k))))
    (selBias i keyNo (k0_pay102 (base i)) k fun r => View.ld sel (Rect.unit (s := S64x128) (k0_off4 i k (BitVec.ofNat 32 r.val)) S1x128.size (k0_off4_inb i k r)))
    (View.ld x6 (Rect.unit (s := S1x1x8x64x512) (k0_off5 i k) S1x1x1x64x512.size (k0_off5_inb i k))) acc)
    (k0_pay103, k0_pay104, k0_pay105) n

/-- The window attention's running softmax over its chunks. -/
def winChunks (i : grid0.Coords) (q : FVec F S64x512 .bf16) (x7 : Vec F S1x1x4096x64 .bf16) (x8 : Vec F S1x1x8x64x512 .bf16) (n : ℕ) :
    FVec F S1x512 .f32 × FVec F S1x512 .f32 × FVec F S64x512 .f32 :=
  upTo (k0_t5_loop i).trips (fun k acc => step
    (k0_pay56 q (View.ld x7 (Rect.unit (s := S1x1x4096x64) (k0_off9 i k) S1x1x512x64.size (k0_off9_inb i k))))
    (k0_pay57 i keyNo (k0_pay102 (base i)) (kernelRun0_A.sl.v209 i) 1#32 k)
    (View.ld x8 (Rect.unit (s := S1x1x8x64x512) (k0_off10 i k) S1x1x1x64x512.size (k0_off10_inb i k))) acc)
    (k0_pay109, k0_pay110, k0_pay111) n

/-- What the body stores at the end, from the blocks it reads. -/
def block (i : grid0.Coords) (x0 : Vec F S1x1x1x64x512 .f32) (x1 : Vec F S64x1 .f32) (x2 : Vec F S1x1x1x3x512 .f32) (x3 : Vec F S1x1x128x64 .bf16) (x4 : Vec F S1x1x64x128 .bf16) (x5 : Vec F S1x1x4096x64 .bf16) (x6 : Vec F S1x1x8x64x512 .bf16) (x7 : Vec F S1x1x4096x64 .bf16) (x8 : Vec F S1x1x8x64x512 .bf16) : FVec F S64x512 .f32 :=
  let q := k0_pay84 x0 x1
  let sel := selection i (score i (importance (headSums i x0 x1 x3)))
  let s := selChunks i q sel x5 x6 (k0_t3_loop i).trips
  let w := winChunks i q x7 x8 (k0_t5_loop i).trips
  k0_pay130 (k0_pay89 (k0_pay85 x0 x1 x3) (k0_pay86 i) k0_pay87 x4) (k0_pay108 s.2.1 s.2.2) w.2.1 w.2.2 x2

/-! ## The body is those stages -/

/-- A recursion that follows a loop's trips is the loop. -/
theorem upTo_eq {α : Type} {N : ℕ} {f : Fin N → α → α} {a : α} (g : ℕ → α) (h0 : g 0 = a) (hs : ∀ k : Fin N, g (k.val + 1) = f k (g k.val)) :
    ∀ n, n ≤ N → g n = upTo N f a n
  | 0, _ => h0
  | n + 1, h => by
      rw [hs ⟨n, h⟩, upTo_eq g h0 hs n (Nat.le_of_succ_le h)]
      show _ = if h : n < N then f ⟨n, h⟩ (upTo N f a n) else upTo N f a n
      rw [dif_pos (show n < N from h)]

theorem zeros2 : (![0, 0] : Fin 2 → Nat) = fun _ => 0 := funext fun a => by fin_cases a <;> rfl
theorem zeros4 : (![0, 0, 0, 0] : Fin 4 → Nat) = fun _ => 0 := funext fun a => by fin_cases a <;> rfl
theorem zeros5 : (![0, 0, 0, 0, 0] : Fin 5 → Nat) = fun _ => 0 := funext fun a => by fin_cases a <;> rfl

section
variable (𝒱 : Variants) (c : Dev nD) (bd : Option 𝒱.V) (i : grid0.Coords) (arg3 : Memref sig .tc .vmem S1x1x1x64x512 .f32) (harg3 : arg3.IsWhole) (arg4 : Memref sig .tc .vmem S64x1 .f32) (harg4 : arg4.IsWhole) (arg5 : Memref sig .tc .vmem S1x1x1x3x512 .f32) (harg5 : arg5.IsWhole) (arg6 : Memref sig .tc .vmem S1x1x128x64 .bf16) (harg6 : arg6.IsWhole) (arg7 : Memref sig .tc .vmem S1x1x64x128 .bf16) (harg7 : arg7.IsWhole) (arg8 : Memref sig .tc .vmem S1x1x4096x64 .bf16) (harg8 : arg8.IsWhole) (arg9 : Memref sig .tc .vmem S1x1x8x64x512 .bf16) (harg9 : arg9.IsWhole) (arg10 : Memref sig .tc .vmem S1x1x4096x64 .bf16) (harg10 : arg10.IsWhole) (arg11 : Memref sig .tc .vmem S1x1x8x64x512 .bf16) (harg11 : arg11.IsWhole) (arg12 : Memref sig .tc .vmem S1x1x1x64x512 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S128x128 .f32) (harg15 : arg15.IsWhole)

/-- The ranking loop. -/
theorem loop1 (v0 : BitVec 32) (v71 : IVec S64x128 32) (v99 : IVec S64x128 1) (v111 : FVec F S64x128 .f32) (v116 a b d : BitVec 32) (X : BufTy.Contents (Elt F) arg13.view.ty) (init : FVec F S64x128 .f32) :
    st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 v0 v71 v99 v111 v116 a b d X init (Scf.trips (k0_t1_loop i).lb (k0_t1_loop i).ub (k0_t1_loop i).st)
      = upTo (k0_t1_loop i).trips (fun k acc => k0_pay99 i v71 v111 k acc
          (View.ld (arg13.view.read (Elt F) X) (Rect.unit (s := S64x128) (k0_off1 i k) S1x128.size (k0_off1_inb i k)))) init (k0_t1_loop i).trips :=
  upTo_eq (st_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 v0 v71 v99 v111 v116 a b d X init) (st_k0_t1_zero ..)
    (fun k => (st_k0_t1_succ ..).trans (trip1 ..)) _ le_rfl

/-- The rest of the ranking loop has no trips. -/
theorem loop2 (v0 : BitVec 32) (v71 : IVec S64x128 32) (v99 : IVec S64x128 1) (v111 : FVec F S64x128 .f32) (v116 a b d : BitVec 32) (X : BufTy.Contents (Elt F) arg13.view.ty) (init : FVec F S64x128 .f32) :
    st_k0_t2 (F := F) 𝒱 c bd i arg3 harg3 arg4 harg4 arg5 harg5 arg6 harg6 arg7 harg7 arg8 harg8 arg9 harg9 arg10 harg10 arg11 harg11 arg12 harg12 arg13 harg13 arg14 harg14 arg15 harg15 v0 v71 v99 v111 v116 a b d X init (Scf.trips (k0_t2_loop i).lb (k0_t2_loop i).ub (k0_t2_loop i).st) = init := by
  rw [show Scf.trips (k0_t2_loop i).lb (k0_t2_loop i).ub (k0_t2_loop i).st = 0 from Nat.le_zero.mp (k0_t2_abs i).2.1, st_k0_t2_zero]

/-- The selected attention's loop. -/
theorem loop3 (v0 : BitVec 32) (q : FVec F S64x512 .bf16) (v153 : IVec S512x128 32) (v156 : IVec S1x128 32) (a b : BitVec 32)
    (X8 : BufTy.Contents (Elt F) arg8.view.ty) (X9 : BufTy.Contents (Elt F) arg9.view.ty) (X14 : BufTy.Contents (Elt F) arg14.view.ty)
    (init : FVec F S1x512 .f32 × FVec F S1x512 .f32 × FVec F S64x512 .f32) :
    st_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 v0 q v153 v156 a b X8 X9 X14 init (Scf.trips (k0_t3_loop i).lb (k0_t3_loop i).ub (k0_t3_loop i).st)
      = upTo (k0_t3_loop i).trips (fun k acc => step
          (k0_pay2 q (View.ld (arg8.view.read (Elt F) X8) (Rect.unit (s := S1x1x4096x64) (k0_off3 i k) S1x1x512x64.size (k0_off3_inb i k))))
          (selBias i v153 v156 k fun r => View.ld (arg14.view.read (Elt F) X14) (Rect.unit (s := S64x128) (k0_off4 i k (BitVec.ofNat 32 r.val)) S1x128.size (k0_off4_inb i k r)))
          (View.ld (arg9.view.read (Elt F) X9) (Rect.unit (s := S1x1x8x64x512) (k0_off5 i k) S1x1x1x64x512.size (k0_off5_inb i k))) acc) init (k0_t3_loop i).trips :=
  upTo_eq (st_k0_t3 (F := F) 𝒱 c bd i arg3 harg3 arg4 harg4 arg5 harg5 arg6 harg6 arg7 harg7 arg8 harg8 arg9 harg9 arg10 harg10 arg11 harg11 arg12 harg12 arg13 harg13 arg14 harg14 arg15 harg15 v0 q v153 v156 a b X8 X9 X14 init) (st_k0_t3_zero ..)
    (fun k => (st_k0_t3_succ ..).trans (trip3 ..)) _ le_rfl

/-- The rest of that loop has no trips. -/
theorem loop4 (v0 : BitVec 32) (q : FVec F S64x512 .bf16) (v153 : IVec S512x128 32) (v156 : IVec S1x128 32) (a b d : BitVec 32)
    (X8 : BufTy.Contents (Elt F) arg8.view.ty) (X9 : BufTy.Contents (Elt F) arg9.view.ty) (X14 : BufTy.Contents (Elt F) arg14.view.ty)
    (init : FVec F S1x512 .f32 × FVec F S1x512 .f32 × FVec F S64x512 .f32) :
    st_k0_t4 (F := F) 𝒱 c bd i arg3 harg3 arg4 harg4 arg5 harg5 arg6 harg6 arg7 harg7 arg8 harg8 arg9 harg9 arg10 harg10 arg11 harg11 arg12 harg12 arg13 harg13 arg14 harg14 arg15 harg15 v0 q v153 v156 a b d X8 X9 X14 init (Scf.trips (k0_t4_loop i).lb (k0_t4_loop i).ub (k0_t4_loop i).st) = init := by
  rw [show Scf.trips (k0_t4_loop i).lb (k0_t4_loop i).ub (k0_t4_loop i).st = 0 from Nat.le_zero.mp (k0_t4_abs i).2.1, st_k0_t4_zero]

/-- The window attention's loop. -/
theorem loop5 (q : FVec F S64x512 .bf16) (v57 : FVec F S64x512 .f32) (v153 : IVec S512x128 32) (v156 : IVec S1x128 32) (v176 : BitVec 32) (v190 : FVec F S64x512 .f32) (v192 a v193 v198 v209 : BitVec 32)
    (X10 : BufTy.Contents (Elt F) arg10.view.ty) (X11 : BufTy.Contents (Elt F) arg11.view.ty)
    (init : FVec F S1x512 .f32 × FVec F S1x512 .f32 × FVec F S64x512 .f32) :
    st_k0_t5 (F := F) 𝒱 c bd i arg3 harg3 arg4 harg4 arg5 harg5 arg6 harg6 arg7 harg7 arg8 harg8 arg9 harg9 arg10 harg10 arg11 harg11 arg12 harg12 arg13 harg13 arg14 harg14 arg15 harg15 q v57 v153 v156 v176 v190 v192 a v193 v198 v209 X10 X11 init (Scf.trips (k0_t5_loop i).lb (k0_t5_loop i).ub (k0_t5_loop i).st)
      = upTo (k0_t5_loop i).trips (fun k acc => step
          (k0_pay56 q (View.ld (arg10.view.read (Elt F) X10) (Rect.unit (s := S1x1x4096x64) (k0_off9 i k) S1x1x512x64.size (k0_off9_inb i k))))
          (k0_pay57 i v153 v156 v209 1#32 k)
          (View.ld (arg11.view.read (Elt F) X11) (Rect.unit (s := S1x1x8x64x512) (k0_off10 i k) S1x1x1x64x512.size (k0_off10_inb i k))) acc) init (k0_t5_loop i).trips :=
  upTo_eq (st_k0_t5 (F := F) 𝒱 c bd i arg3 harg3 arg4 harg4 arg5 harg5 arg6 harg6 arg7 harg7 arg8 harg8 arg9 harg9 arg10 harg10 arg11 harg11 arg12 harg12 arg13 harg13 arg14 harg14 arg15 harg15 q v57 v153 v156 v176 v190 v192 a v193 v198 v209 X10 X11 init) (st_k0_t5_zero ..)
    (fun k => (st_k0_t5_succ ..).trans (trip5 ..)) _ le_rfl

/-- The rest of that loop has no trips. -/
theorem loop6 (q : FVec F S64x512 .bf16) (v57 : FVec F S64x512 .f32) (v153 : IVec S512x128 32) (v156 : IVec S1x128 32) (v176 : BitVec 32) (v190 : FVec F S64x512 .f32) (v192 a v193 v198 v217 : BitVec 32)
    (X10 : BufTy.Contents (Elt F) arg10.view.ty) (X11 : BufTy.Contents (Elt F) arg11.view.ty)
    (init : FVec F S1x512 .f32 × FVec F S1x512 .f32 × FVec F S64x512 .f32) :
    st_k0_t6 (F := F) 𝒱 c bd i arg3 harg3 arg4 harg4 arg5 harg5 arg6 harg6 arg7 harg7 arg8 harg8 arg9 harg9 arg10 harg10 arg11 harg11 arg12 harg12 arg13 harg13 arg14 harg14 arg15 harg15 q v57 v153 v156 v176 v190 v192 a v193 v198 v217 X10 X11 init (Scf.trips (k0_t6_loop i).lb (k0_t6_loop i).ub (k0_t6_loop i).st) = init := by
  rw [show Scf.trips (k0_t6_loop i).lb (k0_t6_loop i).ub (k0_t6_loop i).st = 0 from Nat.le_zero.mp (k0_t6_abs i).2.1, st_k0_t6_zero]
end

/-- The scores stored for the ranking loop are the scores. -/
theorem score_stored (a : FVec F S64x128 .f32) (b d : IVec S64x128 32) (x : BitVec 32) (e : IVec S64x128 32) :
    k0_pay97 a b d x e = k0_pay96 a b d x e := shapeCast_self ..

section
variable (c : Dev nD) (i : grid0.Coords) (arg3 : Memref sig .tc .vmem S1x1x1x64x512 .f32) (harg3 : arg3.IsWhole) (arg4 : Memref sig .tc .vmem S64x1 .f32) (harg4 : arg4.IsWhole) (arg5 : Memref sig .tc .vmem S1x1x1x3x512 .f32) (harg5 : arg5.IsWhole) (arg6 : Memref sig .tc .vmem S1x1x128x64 .bf16) (harg6 : arg6.IsWhole) (arg7 : Memref sig .tc .vmem S1x1x64x128 .bf16) (harg7 : arg7.IsWhole) (arg8 : Memref sig .tc .vmem S1x1x4096x64 .bf16) (harg8 : arg8.IsWhole) (arg9 : Memref sig .tc .vmem S1x1x8x64x512 .bf16) (harg9 : arg9.IsWhole) (arg10 : Memref sig .tc .vmem S1x1x4096x64 .bf16) (harg10 : arg10.IsWhole) (arg11 : Memref sig .tc .vmem S1x1x8x64x512 .bf16) (harg11 : arg11.IsWhole) (arg12 : Memref sig .tc .vmem S1x1x1x64x512 .f32) (harg12 : arg12.IsWhole) (arg13 : Memref sig .tc .vmem S64x128 .f32) (harg13 : arg13.IsWhole) (arg14 : Memref sig .tc .vmem S64x128 .f32) (harg14 : arg14.IsWhole) (arg15 : Memref sig .tc .vmem S128x128 .f32) (harg15 : arg15.IsWhole)
 (x0 : Vec F S1x1x1x64x512 .f32) (x1 : Vec F S64x1 .f32) (x2 : Vec F S1x1x1x3x512 .f32) (x3 : Vec F S1x1x128x64 .bf16) (x4 : Vec F S1x1x64x128 .bf16) (x5 : Vec F S1x1x4096x64 .bf16) (x6 : Vec F S1x1x8x64x512 .bf16) (x7 : Vec F S1x1x4096x64 .bf16) (x8 : Vec F S1x1x8x64x512 .bf16)

/-- What the body leaves in its output block. -/
theorem out_eq : out0_A_9 (F := F) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8
    = k0_pay1 (block i x0 x1 x2 x3 x4 x5 x6 x7 x8) := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8)]
  unfold kernelRun0_A
  dsimp only
  rw [View.canon_unit_zero zeros5]
  congr 1
  sl_unfold_run_names
  rw [loop6, loop5, loop4, loop3, loop2, loop1]
  simp only [View.readAt_eq_ld, harg3.read_unread, harg4.read_unread, harg5.read_unread, harg6.read_unread, harg7.read_unread, harg8.read_unread,
    harg9.read_unread, harg10.read_unread, harg11.read_unread, View.ld_unit_zero (S := S1x1x1x64x512) zeros5, View.ld_unit_zero (S := S1x1x1x3x512) zeros5,
    View.ld_unit_zero (S := S1x1x128x64) zeros4, View.ld_unit_zero (S := S1x1x64x128) zeros4, View.ld_unit_zero (S := S64x1) zeros2,
    View.readCov_eq_canon', View.read_writes_junk_eq_canon, View.canon_unit_zero (S := S64x128) zeros2, View.canon_unit_zero (S := S128x128) zeros2, score_stored]
  unfold block selChunks winChunks selection rank score importance headSums
  sl_unfold_run_names
  dsimp only
end

end Cert.KernelIdeal.Opened
end
-- ==== Proof.Online.lean ====
module

public import Idealize.ShloMosaic.PureOps.Ideal.Laws

@[expose] public section

noncomputable section

namespace Cert.Soft

open Idealize.ShloMosaic

/-! ## Sums and scalings of extended reals -/

/-- Multiplying by a finite number that is not negative distributes over a sum. -/
theorem mul_sum' {ι : Type} {a : EReal} (h0 : 0 ≤ a) (ht : a ≠ ⊤) (f : ι → EReal) (S : Finset ι) :
    a * ∑ k ∈ S, f k = ∑ k ∈ S, a * f k := by
  classical
  induction S using Finset.induction_on with
  | empty => simp
  | insert k S hk ih => rw [Finset.sum_insert hk, Finset.sum_insert hk, EReal.left_distrib_of_nonneg_of_ne_top h0 ht, ih]

theorem sum_mul' {ι : Type} {a : EReal} (h0 : 0 ≤ a) (ht : a ≠ ⊤) (f : ι → EReal) (S : Finset ι) :
    (∑ k ∈ S, f k) * a = ∑ k ∈ S, f k * a := by
  rw [mul_comm, mul_sum' h0 ht]
  exact Finset.sum_congr rfl fun k _ => mul_comm _ _

theorem sub_top' (x : EReal) : x - ⊤ = ⊥ := by rw [sub_eq_add_neg, EReal.neg_top, EReal.add_bot]

theorem bot_sub' (x : EReal) : ⊥ - x = ⊥ := by rw [sub_eq_add_neg, EReal.bot_add]

theorem exp2_nonneg (x : EReal) : 0 ≤ Ideal.exp2 x := by
  induction x with
  | bot => simp
  | top => simp
  | coe r => rw [Ideal.exp2_coe]; exact EReal.coe_nonneg.mpr (Real.rpow_nonneg (by norm_num) r)

theorem exp_nonneg' (x : EReal) : 0 ≤ Ideal.exp x := by
  induction x with
  | bot => simp
  | top => simp
  | coe r => rw [Ideal.exp_coe]; exact EReal.coe_nonneg.mpr (Real.exp_pos r).le

/-- The weight of a larger maximum against a smaller one is finite. -/
theorem exp2_sub_ne_top {a b : EReal} (h : a ≤ b) : Ideal.exp2 (a - b) ≠ ⊤ := by
  induction b with
  | top => rw [sub_top']; simp
  | bot => rw [le_bot_iff.mp h, bot_sub']; simp
  | coe r =>
    induction a with
    | top => exact absurd h (by simp)
    | bot => rw [bot_sub']; simp
    | coe s => rw [← EReal.coe_sub, Ideal.exp2_coe]; exact EReal.coe_ne_top _

/-- Weights chain: from a score to a maximum, and on to a larger one. -/
theorem exp2_chain {x m m' : EReal} (h : x ≤ m) (h' : m ≤ m') :
    Ideal.exp2 (m - m') * Ideal.exp2 (x - m) = Ideal.exp2 (x - m') := by
  induction m' with
  | top => rw [sub_top', sub_top']; simp
  | bot => rw [le_bot_iff.mp h'] at h ⊢; rw [le_bot_iff.mp h, bot_sub']; simp
  | coe r =>
    induction m with
    | top => exact absurd h' (by simp)
    | bot => rw [le_bot_iff.mp h, bot_sub', bot_sub']; simp
    | coe s =>
      induction x with
      | top => exact absurd h (by simp)
      | bot => rw [bot_sub', bot_sub']; simp
      | coe t =>
        rw [← EReal.coe_sub, ← EReal.coe_sub, ← EReal.coe_sub, Ideal.exp2_coe, Ideal.exp2_coe, Ideal.exp2_coe, ← EReal.coe_mul]
        congr 1
        show (2 : ℝ) ^ (s - r) * (2 : ℝ) ^ (t - s) = (2 : ℝ) ^ (t - r)
        rw [← Real.rpow_add (by norm_num)]; congr 1; ring

/-! ## The running softmax -/

/-- The weighted sum over a set of keys, each weighed against the set's greatest score. -/
def wsum (x v : ℕ → EReal) (S : Finset ℕ) : EReal := ∑ k ∈ S, v k * Ideal.exp2 (x k - S.sup x)

/-- One chunk more: the old sum carried over to the new maximum, and the chunk's own sum. -/
theorem wsum_step (x v : ℕ → EReal) {S T : Finset ℕ} (hd : Disjoint S T) :
    Ideal.exp2 (S.sup x - max (S.sup x) (T.sup x)) * wsum x v S + ∑ k ∈ T, v k * Ideal.exp2 (x k - max (S.sup x) (T.sup x))
      = wsum x v (S ∪ T) := by
  unfold wsum
  rw [Finset.sup_union, Finset.sum_union hd, mul_sum' (exp2_nonneg _) (exp2_sub_ne_top le_sup_left)]
  refine congrArg (· + _) (Finset.sum_congr rfl fun k hk => ?_)
  rw [mul_left_comm]
  exact congrArg (v k * ·) (exp2_chain (Finset.le_sup hk) le_sup_left)

/-- A key that is masked weighs nothing. -/
theorem exp2_masked {x m : EReal} (h : x = ⊥) : Ideal.exp2 (x - m) = 0 := by rw [h, bot_sub', Ideal.exp2_bot]

/-- Leaving out masked keys changes neither the maximum … -/
theorem sup_subset (x : ℕ → EReal) {S U : Finset ℕ} (hS : S ⊆ U) (h : ∀ k ∈ U, k ∉ S → x k = ⊥) : S.sup x = U.sup x := by
  refine le_antisymm (Finset.sup_mono hS) (Finset.sup_le fun k hk => ?_)
  by_cases hkS : k ∈ S
  · exact Finset.le_sup hkS
  · rw [h k hk hkS]; exact bot_le

/-- … nor the weighted sum. -/
theorem wsum_subset (x v : ℕ → EReal) {S U : Finset ℕ} (hS : S ⊆ U) (h : ∀ k ∈ U, k ∉ S → x k = ⊥) : wsum x v S = wsum x v U := by
  unfold wsum
  rw [sup_subset x hS h]
  exact Finset.sum_subset hS fun k hk hkS => by rw [exp2_masked (h k hk hkS), mul_zero]

/-! ## Softmax, and its value against a list of values -/

/-- The weights of a family of scores against their greatest. -/
def wt {n : ℕ} (y : Fin n → EReal) (k : Fin n) : EReal := Ideal.exp (y k - Finset.univ.sup y)

/-- The probabilities, the sum of weights kept from nought. -/
def prob {n : ℕ} (ε : EReal) (y : Fin n → EReal) (k : Fin n) : EReal := Ideal.div (wt y k) (max (∑ k, wt y k) ε)

/-- The attention of one query: the values weighed by the probabilities. -/
def attn {n : ℕ} (ε : EReal) (y v : Fin n → EReal) : EReal := ∑ k, prob ε y k * v k

theorem inv_ok {D : EReal} (h : 0 < D) : 0 ≤ D⁻¹ ∧ D⁻¹ ≠ ⊤ := by
  induction D with
  | bot => exact absurd h (by simp)
  | top => simp
  | coe r =>
    rw [← EReal.coe_inv]
    exact ⟨EReal.coe_nonneg.mpr (inv_nonneg.mpr (EReal.coe_pos.mp h).le), EReal.coe_ne_top _⟩

theorem div_pos' {D : EReal} (h : 0 < D) (x : EReal) : Ideal.div x D = x * D⁻¹ := if_neg h.ne'

/-- Dividing the weighted sum is weighing by the divided weights. -/
theorem attn_eq_div {n : ℕ} {ε : EReal} (hε : 0 < ε) (y v : Fin n → EReal) :
    Ideal.div (∑ k, v k * wt y k) (max (∑ k, wt y k) ε) = attn ε y v := by
  have hD : 0 < max (∑ k, wt y k) ε := lt_max_of_lt_right hε
  unfold attn prob
  rw [div_pos' hD, sum_mul' (inv_ok hD).1 (inv_ok hD).2]
  refine Finset.sum_congr rfl fun k _ => ?_
  rw [div_pos' hD, mul_assoc, mul_comm]

/-- The base-2 weights of scores that carry the factor 1/log 2 are the weights. -/
theorem exp2_scaled {x y : EReal} : Ideal.exp2 (x * (((Real.log 2)⁻¹ : ℝ) : EReal) - y * (((Real.log 2)⁻¹ : ℝ) : EReal)) = Ideal.exp (x - y) := by
  have hl : 0 < (Real.log 2)⁻¹ := inv_pos.mpr (Real.log_pos (by norm_num))
  have h : ∀ z : EReal, Ideal.exp2 (z * (((Real.log 2)⁻¹ : ℝ) : EReal)) = Ideal.exp z := by
    intro z
    induction z with
    | bot => rw [EReal.bot_mul_coe_of_pos hl]; rfl
    | top => rw [EReal.top_mul_coe_of_pos hl]; rfl
    | coe r =>
      rw [← EReal.coe_mul, Ideal.exp2_coe, Ideal.exp_coe]
      congr 1
      show (2 : ℝ) ^ (r * (Real.log 2)⁻¹) = Real.exp r
      rw [Real.rpow_def_of_pos (by norm_num)]
      congr 1
      have : Real.log 2 ≠ 0 := (Real.log_pos (by norm_num)).ne'
      field_simp
  rw [← h, sub_eq_add_neg, sub_eq_add_neg,
    EReal.right_distrib_of_nonneg_of_ne_top (EReal.coe_nonneg.mpr hl.le) (EReal.coe_ne_top _), EReal.neg_mul]

/-- The greatest of scaled scores is the greatest score, scaled. -/
theorem sup_scaled {ι : Type} (S : Finset ι) (y : ι → EReal) :
    S.sup (fun k => y k * (((Real.log 2)⁻¹ : ℝ) : EReal)) = S.sup y * (((Real.log 2)⁻¹ : ℝ) : EReal) := by
  have hl : 0 < (Real.log 2)⁻¹ := inv_pos.mpr (Real.log_pos (by norm_num))
  refine (Finset.apply_sup_eq_sup_comp_of_linearOrder (g := fun z : EReal => z * (((Real.log 2)⁻¹ : ℝ) : EReal))
    (fun a b hab => mul_le_mul_of_nonneg_right hab (EReal.coe_nonneg.mpr hl.le)) ?_).symm
  exact EReal.bot_mul_coe_of_pos hl

/-- The base-2 weights against the greatest scaled score are the weights. -/
theorem exp2_sup_scaled {n : ℕ} (y : Fin n → EReal) (k : Fin n) :
    Ideal.exp2 (y k * (((Real.log 2)⁻¹ : ℝ) : EReal) - Finset.univ.sup fun k => y k * (((Real.log 2)⁻¹ : ℝ) : EReal)) = wt y k := by
  rw [sup_scaled, exp2_scaled]; rfl

/-! ## The two ways of guarding against an empty or an unbounded row -/

/-- A weight against a greatest score that is not a number is nought. -/
theorem wt_of_not_finite {n : ℕ} (y : Fin n → EReal) (h : Finset.univ.sup y = ⊥ ∨ Finset.univ.sup y = ⊤) (k : Fin n) : wt y k = 0 := by
  unfold wt
  rcases h with h | h
  · have : y k = ⊥ := le_bot_iff.mp (h ▸ Finset.le_sup (f := y) (Finset.mem_univ k))
    rw [this, bot_sub', Ideal.exp_bot]
  · rw [h, sub_top', Ideal.exp_bot]

/-- The greatest score, or nought in place of one that is not a number. -/
def top0 (M : EReal) : EReal := if max M (-M) < ⊤ then M else 0

theorem top0_coe (r : ℝ) : top0 (r : EReal) = r := if_pos (max_lt (EReal.coe_lt_top r) (by rw [← EReal.coe_neg]; exact EReal.coe_lt_top _))
theorem top0_bot : top0 ⊥ = 0 := if_neg (by simp)
theorem top0_top : top0 ⊤ = 0 := if_neg (by simp)

/-- The probabilities as the reference writes them: the greatest score replaced by nought where it is not a number, the weights of masked
    keys nought by a selection. -/
theorem prob_guarded {n : ℕ} {ε : EReal} (hε : 0 < ε) (mask : Fin n → Prop) [DecidablePred mask] (s : Fin n → EReal) (k : Fin n) :
    (fun e : Fin n → EReal => Ideal.div (e k) (max (∑ k, e k) ε))
      (fun k => if mask k then Ideal.exp ((if mask k then s k else ⊥) - top0 (Finset.univ.sup fun k => if mask k then s k else ⊥)) else 0)
      = prob ε (fun k => if mask k then s k else ⊥) k := by
  generalize hy : (fun k => if mask k then s k else ⊥) = y
  have hyk : ∀ k, (if mask k then s k else ⊥) = y k := fun k => congrFun hy k
  simp only [hyk]
  have hm : ∀ k, ¬ mask k → y k = ⊥ := fun k h => (hyk k).symm.trans (if_neg h)
  rcases eq_or_ne (Finset.univ.sup y) ⊤ with ht | ht
  · -- some score is unbounded: all is nought on both sides
    have hw := wt_of_not_finite y (.inr ht)
    rw [ht, top0_top]
    obtain ⟨k₀, -, hk₀⟩ := Finset.exists_mem_eq_sup Finset.univ ⟨k, Finset.mem_univ k⟩ y
    have hk₀' : y k₀ = ⊤ := hk₀ ▸ ht
    have hm₀ : mask k₀ := by
      by_contra h
      rw [hm k₀ h] at hk₀'; exact absurd hk₀' (by simp)
    have hsum : (∑ k, if mask k then Ideal.exp (y k - 0) else 0) = ⊤ := by
      refine top_le_iff.mp ?_
      have h1 : (⊤ : EReal) = (fun k => if mask k then Ideal.exp (y k - 0) else 0) k₀ := by
        simp [hm₀, hk₀']
      rw [h1]
      exact Finset.single_le_sum (f := fun k => if mask k then Ideal.exp (y k - 0) else 0) (fun k _ => by
        split_ifs
        · exact exp_nonneg' _
        · exact le_rfl) (Finset.mem_univ k₀)
    have hD : max (⊤ : EReal) ε = ⊤ := max_eq_left le_top
    unfold prob
    simp only [hw, Finset.sum_const_zero]
    rw [hsum, hD, div_pos' (by simp), div_pos' (lt_max_of_lt_right hε), EReal.inv_top, mul_zero, zero_mul]
  · have he : ∀ k, (if mask k then Ideal.exp (y k - top0 (Finset.univ.sup y)) else 0) = wt y k := by
      intro k
      by_cases hk : mask k
      · rw [if_pos hk]
        rcases eq_or_ne (Finset.univ.sup y) ⊥ with hb | hb
        · have : y k = ⊥ := le_bot_iff.mp (hb ▸ Finset.le_sup (f := y) (Finset.mem_univ k))
          rw [wt_of_not_finite y (.inl hb), this, bot_sub', Ideal.exp_bot]
        · unfold wt
          lift Finset.univ.sup y to ℝ using ⟨ht, hb⟩ with M
          rw [top0_coe]
      · rw [if_neg hk]; unfold wt; rw [hm k hk, bot_sub', Ideal.exp_bot]
    simp only [he]
    rfl

/-- The weights as the kernel writes them on its compressed branch. -/
theorem exp2_guarded {n : ℕ} (mask : Fin n → Prop) [DecidablePred mask] (s : Fin n → EReal) (k : Fin n) :
    (if mask k then Ideal.exp2 ((if mask k then s k else ⊥)
        - (if ⊥ < Finset.univ.sup (fun k => if mask k then s k else ⊥) then Finset.univ.sup (fun k => if mask k then s k else ⊥) else 0)) else 0)
      = Ideal.exp2 ((if mask k then s k else ⊥) - Finset.univ.sup fun k => if mask k then s k else ⊥) := by
  generalize hy : (fun k => if mask k then s k else ⊥) = y
  have hyk : ∀ k, (if mask k then s k else ⊥) = y k := fun k => congrFun hy k
  simp only [hyk]
  have hm : ∀ k, ¬ mask k → y k = ⊥ := fun k h => (hyk k).symm.trans (if_neg h)
  by_cases hk : mask k
  · rw [if_pos hk]
    rcases eq_or_ne (Finset.univ.sup y) ⊥ with hb | hb
    · have : y k = ⊥ := le_bot_iff.mp (hb ▸ Finset.le_sup (f := y) (Finset.mem_univ k))
      rw [this, bot_sub', bot_sub']
    · rw [if_pos (bot_lt_iff_ne_bot.mpr hb)]
  · rw [if_neg hk, exp2_masked (hm k hk)]

/-! ## Chunks of keys -/

/-- The places of one chunk of `n` keys from `o` on. -/
def chunkEmb (o n : ℕ) : Fin n ↪ ℕ := ⟨fun k => o + k.val, fun _ _ h => Fin.ext (Nat.add_left_cancel h)⟩

theorem map_chunk (o n : ℕ) : Finset.univ.map (chunkEmb o n) = Finset.Ico o (o + n) := by
  ext k
  simp only [Finset.mem_map, Finset.mem_univ, true_and, Finset.mem_Ico]
  constructor
  · rintro ⟨a, rfl⟩; exact ⟨Nat.le_add_right _ _, Nat.add_lt_add_left a.isLt o⟩
  · rintro ⟨h1, h2⟩; exact ⟨⟨k - o, by omega⟩, by show o + (k - o) = k; omega⟩

theorem sum_chunk (o n : ℕ) (f : ℕ → EReal) : ∑ k ∈ Finset.Ico o (o + n), f k = ∑ k : Fin n, f (o + k.val) := by
  rw [← map_chunk, Finset.sum_map]; rfl

theorem sup_chunk (o n : ℕ) (f : ℕ → EReal) : (Finset.Ico o (o + n)).sup f = Finset.univ.sup fun k : Fin n => f (o + k.val) := by
  rw [← map_chunk, Finset.sup_map]; rfl

end Cert.Soft
end
-- ==== Proof.Chunk.lean ====
module

public import proofs.«01_k».proof.Proof.Body
public import proofs.«01_k».proof.Proof.Online

@[expose] public section

set_option maxRecDepth 8192
set_option maxHeartbeats 1000000

/-! # One chunk of the running softmax, read at one column of queries -/

noncomputable section

namespace Cert.KernelIdeal.Opened

open Cert.KernelIdeal Cert.KernelIdeal.Gen Cert.Soft
open Idealize.ShloMosaic Idealize.ShloMosaic.TcCoe Idealize.ShloMosaic.Tactic

theorem neg_inf : Ideal.ofBits .f32 0xFF800000#32 = ⊥ := by simp [Ideal.ofBits, Ideal.ieee]

/-- A greatest element, taken from the least number on. -/
theorem fold_max {n : ℕ} (f : Fin n → EReal) : Finset.fold max (Ideal.ofBits .f32 0xFF800000#32) f Finset.univ = Finset.univ.sup f := by
  rw [neg_inf]; rfl

/-- The query of a column, in its block of 128. -/
abbrev place (l : Fin 512) : Fin 128 := ⟨l.val % 128, Nat.mod_lt _ (by decide)⟩

variable (sk : FVec Ideal S512x512 .f32) (bias : FVec Ideal S512x128 .f32) (m s : FVec Ideal S1x512 .f32)

/-- The biased score of a chunk's key at a column. -/
def biased (l k : Fin 512) : EReal := sk (ix2 k l) + bias (ix2 k (place l))

/-- The new maximum at a column. -/
def newMax (l : Fin 512) : EReal := max (m (ix2 0 l)) (Finset.univ.sup (biased sk bias l))

section
variable (o : ℕ) (h : S512x512.Slices ![0, o] S512x128) (h' : S1x512.Slices ![0, o] S1x128) (ho : o % 128 = 0) (r : Fin 128) (l : Fin 512)
  (hl : l.val = o + r.val)
include ho hl

theorem headScore_at (k : Fin 512) : headScore (F := Ideal) o h sk bias (ix2 k r) = biased sk bias l k := by
  have e : (place l) = r := Fin.ext (by show l.val % 128 = r.val; omega)
  unfold biased
  rw [e]
  pointwise [headScore]
  exact congrArg (fun c => sk (ix2 k c) + _) (Fin.ext hl.symm)

theorem headMax_at : headMax (F := Ideal) o h h' sk bias m (ix2 0 r) = newMax sk bias m l := by
  pointwise [headMax]
  rw [fold_max]
  simp only [headScore_at sk bias o h ho r l hl]
  exact congrArg (fun c => max (m (ix2 0 c)) _) (Fin.ext hl.symm)

theorem headProb_at (k : Fin 512) :
    headProb (F := Ideal) o h h' sk bias m (ix2 k r) = Ideal.exp2 (biased sk bias l k - newMax sk bias m l) := by
  pointwise [headProb]
  rw [headScore_at sk bias o h ho r l hl, headMax_at sk bias m o h h' ho r l hl]
  rfl

theorem headSum_at :
    headSum (F := Ideal) o h h' sk bias m (ix2 0 r) = ∑ k, Ideal.exp2 (biased sk bias l k - newMax sk bias m l) := by
  pointwise [headSum]
  exact Finset.sum_congr rfl fun k _ => headProb_at sk bias m o h h' ho r l hl k
end

theorem stepMax_at (l : Fin 512) : stepMax (F := Ideal) sk bias m (ix2 0 l) = newMax sk bias m l := by
  pointwise [stepMax]
  split_ifs <;> exact headMax_at sk bias m _ _ _ (by decide) _ l (by simp only; omega)

theorem stepProb_at (l k : Fin 512) :
    stepProb (F := Ideal) sk bias m (ix2 k l) = Ideal.exp2 (biased sk bias l k - newMax sk bias m l) := by
  pointwise [stepProb]
  split_ifs <;> exact headProb_at sk bias m _ _ _ (by decide) _ l (by simp only; omega) k

theorem stepSum_at (l : Fin 512) :
    stepSum (F := Ideal) sk bias m s (ix2 0 l) = Ideal.exp2 (m (ix2 0 l) - newMax sk bias m l) * s (ix2 0 l)
      + ∑ k, Ideal.exp2 (biased sk bias l k - newMax sk bias m l) := by
  pointwise [stepSum, stepScale]
  rw [stepMax_at]
  refine congrArg₂ (· + ·) rfl ?_
  split_ifs <;> exact headSum_at sk bias m _ _ _ (by decide) _ l (by simp only; omega)

theorem stepAcc_at (v : Vec Ideal S1x1x1x64x512 .bf16) (acc : FVec Ideal S64x512 .f32) (d : Fin 64) (l : Fin 512) :
    stepAcc (F := Ideal) sk bias v m acc (ix2 d l) = Ideal.exp2 (m (ix2 0 l) - newMax sk bias m l) * acc (ix2 d l)
      + ∑ k : Fin 512, v (ix5 0 0 0 d k) * Ideal.exp2 (biased sk bias l k - newMax sk bias m l) := by
  pointwise [stepAcc, stepScale]
  rw [stepMax_at]
  simp only [stepProb_at]
  rfl

/-! ## What the running softmax holds -/

/-- The three running arrays. -/
abbrev Run : Type := FVec Ideal S1x512 .f32 × FVec Ideal S1x512 .f32 × FVec Ideal S64x512 .f32

/-- At column `l` and row `d`, the arrays hold the softmax of the scores `x` and the values `v` over the keys `S`. -/
structure Holds (x v : ℕ → EReal) (d : Fin 64) (l : Fin 512) (a : Run) (S : Finset ℕ) : Prop where
  max : a.1 (ix2 0 l) = S.sup x
  sum : a.2.1 (ix2 0 l) = wsum x (fun _ => 1) S
  acc : a.2.2 (ix2 d l) = wsum x v S

/-- One chunk: if its biased scores and its values are those of the keys from `o` on, these keys are added. -/
theorem Holds.step {x v : ℕ → EReal} {d : Fin 64} {l : Fin 512} {a : Run} {S : Finset ℕ} (ha : Holds x v d l a S) {o : ℕ}
    (hd : Disjoint S (Finset.Ico o (o + 512))) (w : Vec Ideal S1x1x1x64x512 .bf16)
    (hx : ∀ k : Fin 512, biased sk bias l k = x (o + k.val)) (hv : ∀ k : Fin 512, w (ix5 0 0 0 d k) = v (o + k.val)) :
    Holds x v d l (step (F := Ideal) sk bias w a) (S ∪ Finset.Ico o (o + 512)) := by
  have hs : Finset.univ.sup (biased sk bias l) = (Finset.Ico o (o + 512)).sup x := by
    rw [sup_chunk]; exact congrArg _ (funext hx)
  have hm : newMax sk bias a.1 l = Max.max (S.sup x) ((Finset.Ico o (o + 512)).sup x) := by rw [newMax, hs, ha.max]
  refine ⟨?_, ?_, ?_⟩
  · show stepMax sk bias a.1 (ix2 0 l) = _
    rw [stepMax_at, hm, Finset.sup_union]
  · show stepSum sk bias a.1 a.2.1 (ix2 0 l) = _
    rw [stepSum_at, hm, ha.max, ha.sum, ← wsum_step x _ hd, sum_chunk]
    refine congrArg (HAdd.hAdd (α := EReal) _) (Finset.sum_congr rfl fun k _ => ?_)
    rw [hx k, one_mul]
  · show stepAcc sk bias w a.1 a.2.2 (ix2 d l) = _
    rw [stepAcc_at, hm, ha.max, ha.acc, ← wsum_step x _ hd, sum_chunk]
    refine congrArg (HAdd.hAdd (α := EReal) _) (Finset.sum_congr rfl fun k _ => ?_)
    rw [hx k, hv k]

/-- A loop over chunks, from chunk `lo` on. -/
theorem holds_upTo {x v : ℕ → EReal} {d : Fin 64} {l : Fin 512} (lo N : ℕ) (f : Fin N → Run → Run) (a : Run) (ha : Holds x v d l a ∅)
    (hf : ∀ (k : Fin N) (b : Run) (S : Finset ℕ), Holds x v d l b S → Disjoint S (Finset.Ico (512 * (lo + k.val)) (512 * (lo + k.val) + 512)) →
      Holds x v d l (f k b) (S ∪ Finset.Ico (512 * (lo + k.val)) (512 * (lo + k.val) + 512))) :
    ∀ n, n ≤ N → Holds x v d l (upTo N f a n) (Finset.Ico (512 * lo) (512 * (lo + n)))
  | 0, _ => by rw [Nat.add_zero, Finset.Ico_self]; exact ha
  | n + 1, hn => by
      have h := hf ⟨n, hn⟩ _ _ (holds_upTo lo N f a ha hf n (Nat.le_of_succ_le hn)) (Finset.Ico_disjoint_Ico_consecutive _ _ _)
      rw [Finset.Ico_union_Ico_eq_Ico (by show 512 * lo ≤ 512 * (lo + n); omega) (by show 512 * (lo + n) ≤ 512 * (lo + n) + 512; omega)] at h
      show Holds x v d l (if h : n < N then f ⟨n, h⟩ (upTo N f a n) else upTo N f a n) _
      rw [dif_pos (show n < N from hn), show 512 * (lo + (n + 1)) = 512 * (lo + n) + 512 by omega]
      exact h

end Cert.KernelIdeal.Opened
end
-- ==== Proof.Words.lean ====
module

public import proofs.«01_k».proof.Defs
public import Idealize.ShloMosaic.Lib.WordCmp
public import Idealize.ShloMosaic.Lib.Pointwise

@[expose] public section

/-! # Words that hold positions: their sums, quotients and comparisons as those of the numbers -/

namespace Cert.Word

open Idealize.ShloMosaic Idealize.ShloMosaic.WordCmp

theorem addi_num (a b : ℕ) : IntOp.addi (BitVec.ofNat 32 a) (BitVec.ofNat 32 b) = BitVec.ofNat 32 (a + b) := (BitVec.ofNat_add a b).symm

theorem muli_num (a b : ℕ) : IntOp.muli (BitVec.ofNat 32 a) (BitVec.ofNat 32 b) = BitVec.ofNat 32 (a * b) := (BitVec.ofNat_mul a b).symm

theorem scalar_muli_num (a b : ℕ) : Scalar.muli (BitVec.ofNat 32 a) (BitVec.ofNat 32 b) = BitVec.ofNat 32 (a * b) := muli_num a b

/-- The place of a column in its head. -/
theorem andi_127 (l : Fin 512) : IntOp.andi (BitVec.ofNat 32 l.val) 127#32 = BitVec.ofNat 32 (l.val % 128) := by
  revert l; decide

/-- Dividing by the length of a selectable block. -/
theorem divsi_64 (u : ArithUnit) {a : ℕ} (h : a < 4096) : IntOp.divsi u (BitVec.ofNat 32 a) 64#32 = BitVec.ofNat 32 (a / 64) := by
  have h1 : (BitVec.ofNat 32 a).msb = false := by
    rw [BitVec.msb_eq_decide, BitVec.toNat_ofNat, Nat.mod_eq_of_lt (by omega)]
    exact decide_eq_false (by omega)
  rw [IntOp.divsi, if_neg (by simp [IntOp.SDivCorner]), BitVec.sdiv_eq, h1, show (64#32).msb = false from by decide]
  apply BitVec.eq_of_toNat_eq
  show ((BitVec.ofNat 32 a) / 64#32).toNat = _
  rw [BitVec.toNat_udiv, BitVec.toNat_ofNat, BitVec.toNat_ofNat, BitVec.toNat_ofNat, Nat.mod_eq_of_lt (show a < 2 ^ 32 by omega),
    Nat.mod_eq_of_lt (show a / 64 < 2 ^ 32 by omega)]

/-- The difference of two numbers, not negative. -/
theorem subi_num {a b : ℕ} (h : b ≤ a) (ha : a < 2 ^ 31) : IntOp.subi (BitVec.ofNat 32 a) (BitVec.ofNat 32 b) = BitVec.ofNat 32 (a - b) := by
  apply BitVec.eq_of_toNat_eq
  show ((BitVec.ofNat 32 a) - BitVec.ofNat 32 b).toNat = _
  rw [BitVec.toNat_sub, BitVec.toNat_ofNat, BitVec.toNat_ofNat, BitVec.toNat_ofNat]
  omega

/-- Is `n` the number one below `m`? The words agree just when the numbers do. -/
theorem eq_pred {n m : ℕ} (hn : n < 64) (hm : m < 64) :
    IntOp.cmpi .eq (BitVec.ofNat 32 n) (IntOp.subi (BitVec.ofNat 32 m) 1#32) = BitVec.ofBool (decide (n + 1 = m)) := by
  rw [cmpi_eq_eq_toNat]
  refine congrArg _ (decide_eq_decide.mpr ?_)
  show _ = ((BitVec.ofNat 32 m) - 1#32).toNat ↔ _
  rw [BitVec.toNat_sub, BitVec.toNat_ofNat, BitVec.toNat_ofNat, BitVec.toNat_ofNat]
  omega

/-- Is position `p` later than `512` before position `t`? -/
theorem gt_back {p t : ℕ} (hp : p < 8192) (ht : t < 8192) :
    IntOp.cmpi .sgt (BitVec.ofNat 32 p) (IntOp.subi (BitVec.ofNat 32 t) 512#32) = BitVec.ofBool (decide (t < p + 512)) := by
  have e : IntOp.cmpi .sgt (BitVec.ofNat 32 p) (IntOp.subi (BitVec.ofNat 32 t) 512#32)
      = BitVec.ofBool (decide (((BitVec.ofNat 32 t) - 512#32).toInt < (BitVec.ofNat 32 p).toInt)) := rfl
  rw [e]
  refine congrArg _ (decide_eq_decide.mpr ?_)
  rw [BitVec.toInt_sub, toInt_ofNat_of_lt (show t < 2 ^ (32 - 1) by omega), toInt_ofNat_of_lt (show p < 2 ^ (32 - 1) by omega),
    toInt_ofNat_of_lt (show 512 < 2 ^ (32 - 1) by omega), Int.bmod_eq_of_le (by omega) (by omega)]
  omega

/-- Division rounded down, the correction for unlike signs included, at positions. -/
theorem floor_64 (u : ArithUnit) {a : ℕ} (h : a < 4096) (s : BitVec 32) (c : BitVec 1) (hs : a ≠ 0 → IntOp.cmpi .ne s 1#32 = 0#1) :
    Scalar.select (IntOp.andi (IntOp.cmpi .ne s 1#32) (IntOp.cmpi .ne (IntOp.remsi u (BitVec.ofNat 32 a) 64#32) 0#32))
      (IntOp.subi (IntOp.divsi u (BitVec.ofNat 32 a) 64#32) 1#32) (IntOp.divsi u (BitVec.ofNat 32 a) 64#32) = BitVec.ofNat 32 (a / 64) := by
  rw [divsi_64 u h]
  by_cases h0 : a = 0
  · subst h0
    have hr : IntOp.cmpi .ne (IntOp.remsi u (BitVec.ofNat 32 0) 64#32) 0#32 = 0#1 := by
      rw [IntOp.remsi, if_neg (by simp [IntOp.SDivCorner])]; decide
    rw [hr, show IntOp.andi (IntOp.cmpi .ne s 1#32) 0#1 = 0#1 from BitVec.and_zero]; rfl
  · rw [hs h0, show ∀ x : BitVec 1, IntOp.andi 0#1 x = 0#1 from fun x => BitVec.zero_and]; rfl

end Cert.Word
end
-- ==== Proof.Counts.lean ====
module

public import proofs.«01_k».proof.Proof.Body
public import proofs.«01_k».proof.Proof.Words

@[expose] public section

set_option maxRecDepth 8192
set_option maxHeartbeats 1000000

/-! # How often the loops run, and where their chunks lie -/

noncomputable section

namespace Cert.KernelIdeal.Opened

open Cert.KernelIdeal Cert.KernelIdeal.Gen
open Idealize.ShloMosaic Idealize.ShloMosaic.TcCoe Idealize.ShloMosaic.Tactic

variable (i : grid0.Coords)

/-- The number of the block of queries. -/
abbrev blk : ℕ := (i 2).val

theorem blk_lt : blk i < 32 := (i 2).isLt

/-- The first chunk that the window attention reads. -/
abbrev firstChunk : ℕ := (128 * blk i - 511) / 512

theorem trips1 : (k0_t1_loop i).trips = 2 * blk i + 2 := by
  have h := blk_lt i
  unfold k0_t1_loop
  unfold blk at *
  generalize (i 2).val = j at *
  interval_cases j <;> decide

theorem trips3 : (k0_t3_loop i).trips = (128 * blk i + 639) / 512 := by
  have h := blk_lt i
  unfold k0_t3_loop
  unfold blk at *
  generalize (i 2).val = j at *
  interval_cases j <;> decide

theorem start5 : kernelRun0_A.sl.v209 i = BitVec.ofNat 32 (firstChunk i) := by
  have h := blk_lt i
  sl_unfold_run_names
  unfold firstChunk blk at *
  generalize (i 2).val = j at *
  interval_cases j <;> decide

theorem trips5 : (k0_t5_loop i).trips = (128 * blk i + 639) / 512 - firstChunk i := by
  have h := blk_lt i
  unfold k0_t5_loop
  unfold firstChunk blk at *
  generalize (i 2).val = j at *
  interval_cases j <;> decide

/-- A counter that steps by one. -/
theorem iv_num (a k : ℕ) : Scf.iv (BitVec.ofNat 32 a) 1#32 k = BitVec.ofNat 32 (a + k) := by
  rw [Scf.iv, BitVec.mul_one, ← BitVec.ofNat_add]

theorem off9_eq (k : Fin (k0_t5_loop i).trips) : k0_off9 i k = ![0, 0, 512 * (firstChunk i + k.val), 0] := by
  have e : k0_off9 i k = ![0, 0, (Scalar.muli (Scf.iv (kernelRun0_A.sl.v209 i) 1#32 k) 512#32).toNat, 0] := by
    sl_unfold_run_names
    rfl
  have hk := lt_of_lt_of_eq k.isLt (trips5 i)
  have h := blk_lt i
  rw [e, start5, iv_num, Cert.Word.scalar_muli_num, BitVec.toNat_ofNat, Nat.mod_eq_of_lt (by unfold firstChunk at *; omega), Nat.mul_comm]

theorem off10_eq (k : Fin (k0_t5_loop i).trips) : k0_off10 i k = ![0, 0, firstChunk i + k.val, 0, 0] := by
  have e : k0_off10 i k = ![0, 0, (Scf.iv (kernelRun0_A.sl.v209 i) 1#32 k).toNat, 0, 0] := by
    sl_unfold_run_names
    rfl
  have hk := lt_of_lt_of_eq k.isLt (trips5 i)
  have h := blk_lt i
  rw [e, start5, iv_num, BitVec.toNat_ofNat, Nat.mod_eq_of_lt (by unfold firstChunk at *; omega)]

/-- A load through a rectangle whose offsets are given another way. -/
theorem ld_off {α : EltTy → Type} {e : EltTy} {s : Shape} (X : s.Idx → α e) {off off' : Fin s.rank → ℕ} (size : Fin s.rank → ℕ)
    (h : ∀ a, off a + size a ≤ s.size a) (e' : off = off') :
    View.ld (Val := α) X (Rect.unit off size h) = View.ld (Val := α) X (Rect.unit off' size (e' ▸ h)) := by
  subst e'; rfl

end Cert.KernelIdeal.Opened
end
-- ==== Proof.TopRank.lean ====
module

public import Idealize.ShloMosaic.Lib.SortPrefix
public import Idealize.ShloMosaic.Lib.SortFacts
public import Idealize.ShloMosaic.PureOps.Ideal.Laws

@[expose] public section

namespace Cert.Rank

open Idealize.ShloMosaic

variable {n : ℕ}

/-- One entry beats another: a greater key, or the same key at an earlier place. -/
def beats (key : Fin n → EReal) (a b : Fin n) : Prop := key b < key a ∨ (key a = key b ∧ a < b)

noncomputable instance (key : Fin n → EReal) (a b : Fin n) : Decidable (beats key a b) := Classical.propDecidable _

/-- How many entries beat this one. -/
noncomputable def rankOf (key : Fin n → EReal) (p : Fin n) : ℕ := (Finset.univ.filter fun a => beats key a p).card

theorem beats_strict (key : Fin n → EReal) : StrictTotalBefore fun a b => decide (beats key a b) where
  irrefl a := by simp [beats]
  trans a b c hab hbc := by
    refine decide_eq_true ?_
    rcases of_decide_eq_true hab with hab | ⟨eab, lab⟩ <;> rcases of_decide_eq_true hbc with hbc | ⟨ebc, lbc⟩
    · exact .inl (hbc.trans hab)
    · exact .inl (ebc ▸ hab)
    · exact .inl (eab ▸ hbc)
    · exact .inr ⟨eab.trans ebc, lab.trans lbc⟩
  total a b hne := by
    rcases lt_trichotomy (key a) (key b) with h | h | h
    · exact .inr (decide_eq_true (.inl h))
    · rcases lt_or_gt_of_ne hne with hl | hl
      · exact .inl (decide_eq_true (.inr ⟨h, hl⟩))
      · exact .inr (decide_eq_true (.inr ⟨h.symm, hl⟩))
    · exact .inl (decide_eq_true (.inl h))

/-- A stable sort by the key alone is the sort by the key and then the place. -/
theorem stableSort_key (key : Fin n → EReal) (R : Fin n → Fin n → Bool) (hR : ∀ a b, R a b = true ↔ key b < key a) :
    ∀ l : List (Fin n), l.Pairwise (· < ·) → stableSort R l = stableSort (fun a b => decide (beats key a b)) l
  | [], _ => rfl
  | a :: l, h => by
    rw [List.pairwise_cons] at h
    show insertBefore R a (stableSort R l) = insertBefore _ a (stableSort _ l)
    rw [stableSort_key key R hR l h.2]
    refine insertBefore_congr _ _ a _ fun b hb => ?_
    have hb' : a < b := h.1 b ((perm_stableSort _ l).mem_iff.mp hb)
    refine Bool.eq_iff_iff.mpr ?_
    rw [hR, decide_eq_true_eq]
    exact ⟨.inl, fun h => h.elim id fun h => absurd h.2 (not_lt.mpr hb'.le)⟩

theorem sortedFrom_key (key : Fin n → EReal) (R : Fin n → Fin n → Bool) (hR : ∀ a b, R a b = true ↔ key b < key a) :
    sortedFrom R = sortedFrom fun a b => decide (beats key a b) := by
  have h : sortPositions n R = sortPositions n fun a b => decide (beats key a b) :=
    stableSort_key key R hR _ (List.pairwise_lt_finRange n)
  funext k
  unfold sortedFrom
  exact List.getElem_of_eq h _

/-- The entry that a sort puts at place `k` is beaten by `k` entries. -/
theorem rankOf_sortedFrom (key : Fin n → EReal) (k : Fin n) : rankOf key (sortedFrom (fun a b => decide (beats key a b)) k) = k.val := by
  classical
  set B : Fin n → Fin n → Bool := fun a b => decide (beats key a b) with hB
  have st := beats_strict key
  have hinj := sortedFrom_injective B
  have hlt : ∀ i j : Fin n, i < j → beats key (sortedFrom B i) (sortedFrom B j) := by
    intro i j hij
    have h1 : B (sortedFrom B j) (sortedFrom B i) = false :=
      sortedFrom_noInversion B B (fun a b h => st.asymm a b h) (fun _ _ h => h) (fun a b c h h' => st.negTrans a b c h h') i j hij
    rcases st.total (sortedFrom B i) (sortedFrom B j) (fun h => hij.ne (hinj h)) with h | h
    · exact of_decide_eq_true h
    · exact absurd (h1.symm.trans h) (by simp)
  have hset : (Finset.univ.filter fun a => beats key a (sortedFrom B k)) = (Finset.univ.filter fun i : Fin n => i < k).image (sortedFrom B) := by
    ext a
    simp only [Finset.mem_filter, Finset.mem_univ, true_and, Finset.mem_image]
    obtain ⟨i, rfl⟩ := sortedFrom_surjective B a
    constructor
    · intro h
      refine ⟨i, ?_, rfl⟩
      by_contra hik
      rcases lt_or_eq_of_le (not_lt.mp hik) with hki | hki
      · have h2 := st.asymm _ _ (show B _ _ = true from decide_eq_true (hlt k i hki))
        have h3 : B (sortedFrom B i) (sortedFrom B k) = true := decide_eq_true h
        exact absurd (h2.symm.trans h3) (by simp)
      · subst hki
        have h2 := st.irrefl (sortedFrom B k)
        rw [show decide (beats key (sortedFrom B k) (sortedFrom B k)) = true from decide_eq_true h] at h2
        exact absurd h2 (by simp)
    · rintro ⟨i', hi', he⟩
      rw [← he]; exact hlt _ _ hi'
  unfold rankOf
  rw [hset, Finset.card_image_of_injective _ hinj]
  rw [show (Finset.univ.filter fun i : Fin n => i < k) = Finset.Iio k from by ext; simp, Fin.card_Iio]

/-- An entry is among the first `m` of the sort exactly when fewer than `m` entries beat it. -/
theorem mem_top_iff {m : ℕ} (hm : m ≤ n) (key : Fin n → EReal) (R : Fin n → Fin n → Bool) (hR : ∀ a b, R a b = true ↔ key b < key a) (p : Fin n) :
    (∃ i : Fin m, sortedFrom R (i.castLE hm) = p) ↔ rankOf key p < m := by
  rw [sortedFrom_key key R hR]
  constructor
  · rintro ⟨i, rfl⟩
    rw [rankOf_sortedFrom]; exact i.isLt
  · intro h
    obtain ⟨k, rfl⟩ := sortedFrom_surjective (fun a b => decide (beats key a b)) p
    rw [rankOf_sortedFrom] at h
    exact ⟨⟨k.val, h⟩, rfl⟩

end Cert.Rank
end
-- ==== Proof.Spec.lean ====
module

public import proofs.«01_k».proof.Proof.Online
public import proofs.«01_k».proof.Proof.TopRank

@[expose] public section

/-! # The attention of one query, in numbers

One query position `t`, the four heads of its group, and the group's compressed keys, keys and values. -/

noncomputable section

namespace Cert.Spec

open Idealize.ShloMosaic Cert.Soft Cert.Rank

/-- The least sum of weights a softmax divides by. -/
def eps : EReal := Ideal.ofBits .f32 0x0DA24260#32

/-- A query vector, brought to unit mean square and scaled by its gains. -/
def nrm (q g : Fin 64 → EReal) (d : Fin 64) : EReal :=
  q d * Ideal.rsqrt (Ideal.div (∑ x, q x * q x) (Ideal.ofBits .f32 0x42800000#32) + Ideal.ofBits .f32 0x358637BD#32) * g d

/-- The score of a key. -/
def raw (q g k : Fin 64 → EReal) : EReal := (∑ d, nrm q g d * k d) * Ideal.ofBits .f32 0x3E000000#32

/-- The scores of the compressed keys: those whose 32 positions end by `t`. -/
def cmpScore (t : ℕ) (q g : Fin 64 → EReal) (kc : Fin 128 → Fin 64 → EReal) (c : Fin 128) : EReal :=
  if 32 * c.val + 31 ≤ t then raw q g (kc c) else ⊥

/-- The importance of a selectable block: the probabilities of its two compressed keys, over the four heads. -/
def imp (t : ℕ) (q : Fin 4 → Fin 64 → EReal) (g : Fin 64 → EReal) (kc : Fin 128 → Fin 64 → EReal) (n : Fin 64) : EReal :=
  (∑ h, prob eps (cmpScore t (q h) g kc) ⟨2 * n.val, by omega⟩) + ∑ h, prob eps (cmpScore t (q h) g kc) ⟨1 + 2 * n.val, by omega⟩

/-- What blocks are ranked by: those not begun yet last; the first, the current and the one before always ahead. -/
def key (t : ℕ) (q : Fin 4 → Fin 64 → EReal) (g : Fin 64 → EReal) (kc : Fin 128 → Fin 64 → EReal) (n : Fin 64) : EReal :=
  if n.val ≤ t / 64 then
    if (n.val = 0 ∨ n.val = t / 64) ∨ n.val + 1 = t / 64 then Ideal.ofBits .f32 0x461C4000#32 else imp t q g kc n
  else ⊥

/-- The scores of the keys of the sixteen selected blocks, up to `t`. -/
def selScore (t : ℕ) (q g : Fin 64 → EReal) (ks : Fin 4096 → Fin 64 → EReal) (ky : Fin 64 → EReal) (k : Fin 4096) : EReal :=
  if rankOf ky ⟨k.val / 64, by omega⟩ < 16 ∧ k.val ≤ t then raw q g (ks k) else ⊥

/-- The scores of the 512 keys up to `t`. -/
def winScore (t : ℕ) (q g : Fin 64 → EReal) (kw : Fin 4096 → Fin 64 → EReal) (k : Fin 4096) : EReal :=
  if k.val ≤ t ∧ t < k.val + 512 then raw q g (kw k) else ⊥

/-- One head's output: the three attentions, each by its gate. -/
def out (t : ℕ) (q : Fin 4 → Fin 64 → EReal) (g : Fin 64 → EReal) (gate : Fin 3 → EReal) (kc vc : Fin 128 → Fin 64 → EReal)
    (ks vs kw vw : Fin 4096 → Fin 64 → EReal) (h : Fin 4) (d : Fin 64) : EReal :=
  Ideal.logistic (gate 0) * attn eps (cmpScore t (q h) g kc) (fun c => vc c d)
    + Ideal.logistic (gate 1) * attn eps (selScore t (q h) g ks (key t q g kc)) (fun k => vs k d)
    + Ideal.logistic (gate 2) * attn eps (winScore t (q h) g kw) (fun k => vw k d)

/-! ## The numbers the constants stand for -/

theorem eps_pos : 0 < eps := by
  have h : eps = ((10633824 * (2 ^ 123)⁻¹ : ℝ) : EReal) := by
    simp [eps, Ideal.ofBits, Ideal.ieee, -EReal.coe_mul]
  rw [h]
  exact EReal.coe_pos.mpr (by positivity)

/-- The kernel scales the query, and by the logarithm's base too, where the score is scaled by an eighth. -/
theorem raw_scaled (q g k : Fin 64 → EReal) :
    ∑ d, k d * (nrm q g d * ((((1 / 8) * (Real.log 2)⁻¹ : ℝ)) : EReal)) = raw q g k * (((Real.log 2)⁻¹ : ℝ) : EReal) := by
  have hl : 0 < (Real.log 2)⁻¹ := inv_pos.mpr (Real.log_pos (by norm_num))
  have h8 : Ideal.ofBits .f32 0x3E000000#32 = ((1 / 8 : ℝ) : EReal) := by
    simp [Ideal.ofBits, Ideal.ieee, -EReal.coe_mul]
    norm_num
  rw [raw, h8, mul_assoc, ← EReal.coe_mul, sum_mul' (EReal.coe_nonneg.mpr (by positivity)) (EReal.coe_ne_top _)]
  refine Finset.sum_congr rfl fun d _ => ?_
  rw [← mul_assoc, mul_comm (k d)]

end Cert.Spec
end
-- ==== Proof.Loops.lean ====
module

public import proofs.«01_k».proof.Proof.Chunk
public import proofs.«01_k».proof.Proof.Counts
public import proofs.«01_k».proof.Proof.Spec

@[expose] public section

set_option maxRecDepth 8192
set_option maxHeartbeats 1000000

/-! # The two attention loops, read at one query -/

noncomputable section

namespace Cert.KernelIdeal.Opened

open Cert.KernelIdeal Cert.KernelIdeal.Gen Cert.Soft Cert.Spec Cert.Word
open Idealize.ShloMosaic Idealize.ShloMosaic.TcCoe Idealize.ShloMosaic.Tactic Idealize.ShloMosaic.WordCmp

/-! ## The blocks, as queries, keys and values -/

/-- The query of a column. -/
abbrev qcol (x0 : Vec Ideal S1x1x1x64x512 .f32) (l : Fin 512) (d : Fin 64) : EReal := x0 (ix5 0 0 0 d l)

/-- The gains. -/
abbrev gcol (x1 : Vec Ideal S64x1 .f32) (d : Fin 64) : EReal := x1 (ix2 d 0)

/-- The keys. -/
abbrev keys (x : Vec Ideal S1x1x4096x64 .bf16) (k : Fin 4096) (d : Fin 64) : EReal := x (ix4 0 0 k d)

/-- The values, which lie in chunks of 512, transposed. -/
abbrev vals (x : Vec Ideal S1x1x8x64x512 .bf16) (k : Fin 4096) (d : Fin 64) : EReal :=
  x (ix5 0 0 ⟨k.val / 512, by omega⟩ d ⟨k.val % 512, Nat.mod_lt _ (by decide)⟩)

/-- The position of a column's query. -/
abbrev posn (i : grid0.Coords) (l : Fin 512) : ℕ := 128 * blk i + l.val % 128

theorem posn_lt (i : grid0.Coords) (l : Fin 512) : posn i l < 4096 := by
  have := blk_lt i
  unfold posn; omega

/-- The scale the kernel gives its queries. -/
abbrev scl : EReal := (((1 / 8) * (Real.log 2)⁻¹ : ℝ) : EReal)

/-- The reciprocal of the logarithm of two. -/
abbrev lg : EReal := (((Real.log 2)⁻¹ : ℝ) : EReal)

theorem named_scl : Named.named (F := Ideal) κ "s" (φ := .f32) 0x3E38AA3B#32 = scl := IdealRules.named_const.ideal_named_scalar _ _ _ _ rfl

theorem named_mask : Named.named (F := Ideal) κ "mask" (φ := .f32) 0xF149F2CA#32 = (⊥ : EReal) := IdealRules.named_const.ideal_named_scalar _ _ _ _ rfl

theorem qn_at (x0 : Vec Ideal S1x1x1x64x512 .f32) (x1 : Vec Ideal S64x1 .f32) (d : Fin 64) (l : Fin 512) :
    k0_pay84 (F := Ideal) x0 x1 (ix2 d l) = nrm (qcol x0 l) (gcol x1) d * scl := by
  pointwise [k0_pay84]
  rw [named_scl]
  rfl

/-- A function on the 4096 keys, on all numbers. -/
def ext (f : Fin 4096 → EReal) (k : ℕ) : EReal := if h : k < 4096 then f ⟨k, h⟩ else ⊥

theorem ext_of_lt (f : Fin 4096 → EReal) {k : ℕ} (h : k < 4096) : ext f k = f ⟨k, h⟩ := dif_pos h

theorem bot_lg : (⊥ : EReal) * lg = ⊥ := EReal.bot_mul_coe_of_pos (inv_pos.mpr (Real.log_pos (by norm_num)))

/-! ## What the loops leave -/

/-- Running arrays that hold all keys that are not masked give the attention. -/
theorem holds_attn {y w : Fin 4096 → EReal} {d : Fin 64} {l : Fin 512} {a : Run} {lo hi : ℕ} (hhi : hi ≤ 8)
    (ha : Holds (ext fun k => y k * lg) (ext w) d l a (Finset.Ico (512 * lo) (512 * hi)))
    (hy : ∀ k : Fin 4096, k.val < 512 * lo ∨ 512 * hi ≤ k.val → y k = ⊥) :
    Ideal.div (a.2.2 (ix2 d l)) (max (a.2.1 (ix2 0 l)) eps) = attn eps y w := by
  have hS : Finset.Ico (512 * lo) (512 * hi) ⊆ Finset.Ico 0 (0 + 4096) := Finset.Ico_subset_Ico (by omega) (by omega)
  have hm : ∀ k ∈ Finset.Ico 0 (0 + 4096), k ∉ Finset.Ico (512 * lo) (512 * hi) → ext (fun k => y k * lg) k = ⊥ := by
    intro k hk hkS
    rw [Finset.mem_Ico] at hk hkS
    rw [ext_of_lt _ (show k < 4096 by omega), hy ⟨k, by omega⟩ (by show k < _ ∨ _ ≤ k; omega), bot_lg]
  have key : ∀ v : ℕ → EReal, wsum (ext fun k => y k * lg) v (Finset.Ico (512 * lo) (512 * hi)) = ∑ k : Fin 4096, v k.val * wt y k := by
    intro v
    rw [wsum_subset _ v hS hm, wsum, sum_chunk, sup_chunk]
    have he : ∀ k : Fin 4096, ext (fun k => y k * lg) (0 + k.val) = y k * lg := fun k => by
      rw [ext_of_lt _ (show 0 + k.val < 4096 by omega)]
      exact congrArg (fun k => y k * lg) (Fin.ext (Nat.zero_add _))
    simp only [he, exp2_sup_scaled]
    exact Finset.sum_congr rfl fun k _ => by rw [Nat.zero_add]
  rw [ha.acc, ha.sum, key, key, ← attn_eq_div eps_pos]
  refine congrArg₂ Ideal.div (Finset.sum_congr rfl fun k _ => ?_) (congrArg (max · eps) (Finset.sum_congr rfl fun k _ => one_mul _))
  rw [ext_of_lt _ k.isLt]

/-- The biased score of a chunk's key, when its bias is nought or masks it. -/
theorem biased_eq {q g k : Fin 64 → EReal} {sk : FVec Ideal S512x512 .f32} {bias : FVec Ideal S512x128 .f32} {l kk : Fin 512} (p : Prop) [Decidable p]
    (hs : sk (ix2 kk l) = ∑ d, k d * (nrm q g d * scl)) (hb : bias (ix2 kk (place l)) = if p then 0 else ⊥) :
    biased sk bias l kk = (if p then raw q g k else ⊥) * lg := by
  rw [biased, hs, hb, raw_scaled]
  split_ifs
  · exact add_zero _
  · rw [bot_lg]; exact EReal.add_bot _

/-! ## The window attention -/

section
variable (i : grid0.Coords) (x0 : Vec Ideal S1x1x1x64x512 .f32) (x1 : Vec Ideal S64x1 .f32) (l : Fin 512) (d : Fin 64)

/-- The scores of a chunk of keys loaded from key `o` on. -/
theorem chunkScore_at (x : Vec Ideal S1x1x4096x64 .bf16) {off : Fin 4 → ℕ} (h : ∀ a, off a + S1x1x512x64.size a ≤ S1x1x4096x64.size a) (o : ℕ)
    (e : off = ![0, 0, o, 0]) (kk : Fin 512) (ho : o + kk.val < 4096) :
    k0_pay2 (F := Ideal) (k0_pay84 x0 x1) (View.ld (Val := Elt Ideal) x (Rect.unit (s := S1x1x4096x64) off S1x1x512x64.size h)) (ix2 kk l)
      = ∑ d, keys x ⟨o + kk.val, ho⟩ d * (nrm (qcol x0 l) (gcol x1) d * scl) := by
  subst e
  pointwise [k0_pay2]
  simp only [qn_at]

/-- The values of a chunk. -/
theorem chunkVal_at (x : Vec Ideal S1x1x8x64x512 .bf16) {off : Fin 5 → ℕ} (h : ∀ a, off a + S1x1x1x64x512.size a ≤ S1x1x8x64x512.size a) (o : ℕ)
    (e : off = ![0, 0, o, 0, 0]) (kk : Fin 512) (ho : 512 * o + kk.val < 4096) :
    View.ld (Val := Elt Ideal) x (Rect.unit (s := S1x1x8x64x512) off S1x1x1x64x512.size h) (ix5 0 0 0 d kk) = vals x ⟨512 * o + kk.val, ho⟩ d := by
  subst e
  pointwise
  exact congrArg₂ (fun a b => x (ix5 0 0 a d b)) (Fin.ext (by show o = (512 * o + kk.val) / 512; omega))
    (Fin.ext (by show kk.val = (512 * o + kk.val) % 512; omega))

/-- The window's bias. -/
theorem winBias_at (k : Fin (k0_t5_loop i).trips) (kk : Fin 512) :
    k0_pay57 (F := Ideal) i keyNo (k0_pay102 (base i)) (kernelRun0_A.sl.v209 i) 1#32 k (ix2 kk (place l))
      = if 512 * (firstChunk i + k.val) + kk.val ≤ posn i l ∧ posn i l < 512 * (firstChunk i + k.val) + kk.val + 512 then 0 else ⊥ := by
  have hk := lt_of_lt_of_eq k.isLt (trips5 i)
  have hj := blk_lt i
  have hp := posn_lt i l
  pointwise [k0_pay57, k0_pay102, keyNo]
  rw [named_mask, start5, iv_num, scalar_muli_num, addi_num, base, scalar_muli_num, addi_num, Nat.mul_comm _ 512, Nat.mul_comm _ 128]
  have hc : 512 * (firstChunk i + k.val) + kk.val < 8192 := by unfold firstChunk at *; omega
  change Scalar.select (IntOp.andi (IntOp.cmpi .sle _ (BitVec.ofNat 32 (posn i l))) (IntOp.cmpi .sgt _ (IntOp.subi (BitVec.ofNat 32 (posn i l)) 512#32))) _ _ = _
  rw [cmpi_sle_ofNat (by omega) (by omega), gt_back hc (by omega), andi_ofBool, ← Bool.decide_and, select_decide]

/-- The window attention. -/
theorem win_at (x7 : Vec Ideal S1x1x4096x64 .bf16) (x8 : Vec Ideal S1x1x8x64x512 .bf16) :
    (fun a : Run => Ideal.div (a.2.2 (ix2 d l)) (max (a.2.1 (ix2 0 l)) eps))
        (winChunks i (k0_pay84 (F := Ideal) x0 x1) x7 x8 (k0_t5_loop i).trips)
      = attn eps (winScore (posn i l) (qcol x0 l) (gcol x1) (keys x7)) (fun k => vals x8 k d) := by
  have hj := blk_lt i
  have ht : (k0_t5_loop i).trips = (128 * blk i + 639) / 512 - firstChunk i := trips5 i
  refine holds_attn (lo := firstChunk i) (hi := firstChunk i + (k0_t5_loop i).trips) (by unfold firstChunk at *; omega) ?_ ?_
  · refine holds_upTo (firstChunk i) _ _ _ ⟨named_mask, Ideal.ofBits_zero_f32, Ideal.ofBits_zero_f32⟩ ?_ _ le_rfl
    intro k b S hb hd
    have hk := lt_of_lt_of_eq k.isLt ht
    have ho : ∀ kk : Fin 512, 512 * (firstChunk i + k.val) + kk.val < 4096 := fun kk => by unfold firstChunk at *; omega
    refine hb.step _ _ hd _ (fun kk => ?_) (fun kk => ?_)
    · rw [ext_of_lt _ (ho kk)]
      exact biased_eq _ (chunkScore_at x0 x1 l x7 _ _ (off9_eq i k) kk (ho kk)) (winBias_at i l k kk)
    · rw [ext_of_lt _ (ho kk)]
      exact chunkVal_at d x8 _ _ (off10_eq i k) kk (ho kk)
  · intro k hk
    refine if_neg ?_
    unfold posn firstChunk at *
    omega

/-! ## The selected attention -/

/-- The bias of the selected attention: the row of the key's block, up to the query. -/
theorem selBias_at (row : Fin 8 → Vec Ideal S1x128 .f32) (k : Fin (k0_t3_loop i).trips) (kk : Fin 512) (r : Fin 128) :
    selBias (F := Ideal) i keyNo (k0_pay102 (base i)) k row (ix2 kk r)
      = if 512 * k.val + kk.val ≤ 128 * blk i + r.val then row ⟨kk.val / 64, by omega⟩ (ix2 0 r) else ⊥ := by
  have hk := lt_of_lt_of_eq k.isLt (trips3 i)
  have hj := blk_lt i
  have hrow : ∀ n : Fin 8, kk.val / 64 = n.val → row n (ix2 0 r) = row ⟨kk.val / 64, by omega⟩ (ix2 0 r) :=
    fun n hn => congrArg (fun n => row n (ix2 0 r)) (Fin.ext hn.symm)
  pointwise [selBias, k0_pay8, k0_pay3, k0_pay4, k0_pay5, k0_pay6, k0_pay7, k0_pay102, keyNo]
  rw [named_mask, iv_num, scalar_muli_num, addi_num, base, scalar_muli_num, addi_num, Nat.mul_comm _ 512, Nat.mul_comm _ 128, Nat.zero_add]
  change Scalar.select (IntOp.cmpi .sle _ (BitVec.ofNat 32 (128 * blk i + r.val))) _ _ = _
  rw [cmpi_sle_ofNat (by omega) (by omega), select_decide]
  refine if_congr Iff.rfl ?_ rfl
  split_ifs
  · exact hrow 0 (by show _ = 0; omega)
  · exact hrow 1 (by show _ = 1; omega)
  · exact hrow 2 (by show _ = 2; omega)
  · exact hrow 3 (by show _ = 3; omega)
  · exact hrow 4 (by show _ = 4; omega)
  · exact hrow 5 (by show _ = 5; omega)
  · exact hrow 6 (by show _ = 6; omega)
  · exact hrow 7 (by show _ = 7; omega)

/-- A row of an array of rows. -/
theorem row_at (X : Vec Ideal S64x128 .f32) {off : Fin 2 → ℕ} (h : ∀ a, off a + S1x128.size a ≤ S64x128.size a) (n : ℕ) (hn : n < 64)
    (e : off = ![n, 0]) (r : Fin 128) :
    View.ld (Val := Elt Ideal) (e' := EltTy.f32) X (Rect.unit (s := S64x128) off S1x128.size h) (ix2 0 r) = X (ix2 ⟨n, hn⟩ r) := by
  subst e
  pointwise

/-- The selected attention, given what the selection is at the column's query. -/
theorem sel_at (x5 : Vec Ideal S1x1x4096x64 .bf16) (x6 : Vec Ideal S1x1x8x64x512 .bf16) (sel : FVec Ideal S64x128 .f32) (ky : Fin 64 → EReal)
    (hsel : ∀ n : Fin 64, sel (ix2 n (place l)) = if n.val ≤ posn i l / 64 ∧ Cert.Rank.rankOf ky n < 16 then 0 else ⊥) :
    (fun a : Run => Ideal.div (a.2.2 (ix2 d l)) (max (a.2.1 (ix2 0 l)) eps))
        (selChunks i (k0_pay84 (F := Ideal) x0 x1) sel x5 x6 (k0_t3_loop i).trips)
      = attn eps (selScore (posn i l) (qcol x0 l) (gcol x1) (keys x5) ky) (fun k => vals x6 k d) := by
  have hj := blk_lt i
  have ht : (k0_t3_loop i).trips = (128 * blk i + 639) / 512 := trips3 i
  refine holds_attn (lo := 0) (hi := 0 + (k0_t3_loop i).trips) (by omega) ?_ ?_
  · refine holds_upTo 0 _ _ _ ⟨named_mask, Ideal.ofBits_zero_f32, Ideal.ofBits_zero_f32⟩ ?_ _ le_rfl
    intro k b S hb hd
    have hk := lt_of_lt_of_eq k.isLt ht
    rw [Nat.zero_add] at hd ⊢
    have ho : ∀ kk : Fin 512, 512 * k.val + kk.val < 4096 := fun kk => by omega
    refine hb.step _ _ hd _ (fun kk => ?_) (fun kk => ?_)
    · rw [ext_of_lt _ (ho kk)]
      refine biased_eq _ (chunkScore_at x0 x1 l x5 _ _ (k0_off3_eq i k) kk (ho kk)) ?_
      refine (selBias_at i _ k kk (place l)).trans ?_
      rw [row_at sel _ _ (by omega) (k0_off4_eq i k ⟨kk.val / 64, by omega⟩), hsel]
      have hn : (⟨8 * k.val + kk.val / 64, by omega⟩ : Fin 64) = ⟨(512 * k.val + kk.val) / 64, by omega⟩ := Fin.ext (by show 8 * k.val + kk.val / 64 = (512 * k.val + kk.val) / 64; omega)
      rw [hn]
      by_cases h : 512 * k.val + kk.val ≤ posn i l
      · rw [if_pos h]
        exact if_congr ⟨fun h' => ⟨h'.2, h⟩, fun h' => ⟨Nat.div_le_div_right h, h'.1⟩⟩ rfl rfl
      · rw [if_neg h, if_neg fun h' => h h'.2]
    · rw [ext_of_lt _ (ho kk)]
      exact chunkVal_at d x6 _ _ (k0_off5_eq i k) kk (ho kk)
  · intro k hk
    refine if_neg ?_
    unfold posn at *
    omega

end

end Cert.KernelIdeal.Opened
end
-- ==== Proof.Compressed.lean ====
module

public import proofs.«01_k».proof.Proof.Loops

@[expose] public section

set_option maxRecDepth 8192
set_option maxHeartbeats 1000000

/-! # The attention over the compressed keys, and the importance of the selectable blocks, at one query -/

noncomputable section

namespace Cert.KernelIdeal.Opened

open Cert.KernelIdeal Cert.KernelIdeal.Gen Cert.Soft Cert.Spec Cert.Word
open Idealize.ShloMosaic Idealize.ShloMosaic.TcCoe Idealize.ShloMosaic.Tactic Idealize.ShloMosaic.WordCmp

/-- The compressed keys. -/
abbrev ckeys (x3 : Vec Ideal S1x1x128x64 .bf16) (c : Fin 128) (d : Fin 64) : EReal := x3 (ix4 0 0 c d)

/-- The compressed values. -/
abbrev cvals (x4 : Vec Ideal S1x1x64x128 .bf16) (c : Fin 128) (d : Fin 64) : EReal := x4 (ix4 0 0 d c)

/-! ## The softmax over the compressed keys -/

/-- The weights, before they are divided: the greatest score guarded against a row without keys. -/
theorem weights_eq {n : ℕ} (mask : Fin n → Prop) [DecidablePred mask] (s : Fin n → EReal) (k : Fin n) :
    (if mask k then Ideal.exp2 ((if mask k then s k * lg else ⊥)
        - (if ⊥ < Finset.univ.sup (fun k => if mask k then s k * lg else ⊥) then Finset.univ.sup (fun k => if mask k then s k * lg else ⊥) else 0)) else 0)
      = wt (fun k => if mask k then s k else ⊥) k := by
  rw [exp2_guarded mask (fun k => s k * lg) k, ← exp2_sup_scaled]
  have e : ∀ k, (if mask k then s k * lg else ⊥) = (if mask k then s k else ⊥) * lg := fun k => by
    split_ifs
    · rfl
    · exact bot_lg.symm
  simp only [e]

section
variable (v : FVec Ideal S128x512 .f32) (b : IVec S128x512 1) (l : Fin 512) (mask : Fin 128 → Prop) [DecidablePred mask] (s : Fin 128 → EReal)
  (hv : ∀ k, v (ix2 k l) = s k * lg) (hb : ∀ k, b (ix2 k l) = BitVec.ofBool (decide (mask k)))
include hv hb

theorem prob_at (k : Fin 128) : k0_pay88 (F := Ideal) v b k0_pay87 (ix2 k l) = prob eps (fun k => if mask k then s k else ⊥) k := by
  pointwise [k0_pay88, k0_pay87]
  simp only [fold_max, hv, hb, select_decide, neg_inf, Ideal.ofBits_zero_f32]
  have h := weights_eq mask s
  simp only [show ∀ x : EReal, FloatOps.exp2 (F := Ideal) (φ := .f32) x = Ideal.exp2 x from fun _ => rfl, h]
  rfl

theorem attn_at (x4 : Vec Ideal S1x1x64x128 .bf16) (d : Fin 64) :
    k0_pay89 (F := Ideal) v b k0_pay87 x4 (ix2 d l) = attn eps (fun k => if mask k then s k else ⊥) (fun c => cvals x4 c d) := by
  pointwise [k0_pay89]
  refine Finset.sum_congr rfl fun k _ => ?_
  rw [prob_at v b l mask s hv hb, mul_comm]
end

section
variable (i : grid0.Coords) (x0 : Vec Ideal S1x1x1x64x512 .f32) (x1 : Vec Ideal S64x1 .f32) (x3 : Vec Ideal S1x1x128x64 .bf16)

theorem cscore_at (k : Fin 128) (l : Fin 512) : k0_pay85 (F := Ideal) x0 x1 x3 (ix2 k l) = raw (qcol x0 l) (gcol x1) (ckeys x3 k) * lg := by
  pointwise [k0_pay85]
  simp only [qn_at]
  exact raw_scaled _ _ _

theorem cmask_at (k : Fin 128) (l : Fin 512) : k0_pay86 i (ix2 k l) = BitVec.ofBool (decide (32 * k.val + 31 ≤ posn i l)) := by
  have hp := posn_lt i l
  pointwise [k0_pay86]
  rw [andi_127, muli_num, addi_num, scalar_muli_num, addi_num, Nat.mul_comm _ 128, Nat.mul_comm _ 32]
  exact cmpi_sle_ofNat (by omega) (show posn i l < _ by omega)

theorem cprob_at (k : Fin 128) (l : Fin 512) :
    k0_pay88 (F := Ideal) (k0_pay85 x0 x1 x3) (k0_pay86 i) k0_pay87 (ix2 k l) = prob eps (cmpScore (posn i l) (qcol x0 l) (gcol x1) (ckeys x3)) k :=
  prob_at _ _ l (fun k => 32 * k.val + 31 ≤ posn i l) _ (fun k => cscore_at x0 x1 x3 k l) (fun k => cmask_at i k l) k

/-- The compressed attention. -/
theorem cmp_at (x4 : Vec Ideal S1x1x64x128 .bf16) (d : Fin 64) (l : Fin 512) :
    k0_pay89 (F := Ideal) (k0_pay85 x0 x1 x3) (k0_pay86 i) k0_pay87 x4 (ix2 d l)
      = attn eps (cmpScore (posn i l) (qcol x0 l) (gcol x1) (ckeys x3)) (fun c => cvals x4 c d) :=
  attn_at _ _ l (fun k => 32 * k.val + 31 ≤ posn i l) _ (fun k => cscore_at x0 x1 x3 k l) (fun k => cmask_at i k l) x4 d

/-! ## The importance -/

/-- The queries of the four heads, at a place of the block. -/
abbrev qheads (r : Fin 128) (h : Fin 4) : Fin 64 → EReal := qcol x0 ⟨128 * h.val + r.val, by omega⟩

/-- The importance of a selectable block. -/
theorem imp_at (n : Fin 64) (r : Fin 128) :
    importance (F := Ideal) (headSums i x0 x1 x3) (ix2 n r) = imp (128 * blk i + r.val) (qheads x0 r) (gcol x1) (ckeys x3) n := by
  have hq : ∀ (k : Fin 128) (h : Fin 4), k0_pay88 (F := Ideal) (k0_pay85 x0 x1 x3) (k0_pay86 i) k0_pay87 (ix2 k ⟨128 * h.val + r.val, by omega⟩)
      = prob eps (cmpScore (128 * blk i + r.val) (qheads x0 r h) (gcol x1) (ckeys x3)) k := fun k h => by
    rw [cprob_at]
    have e : posn i ⟨128 * h.val + r.val, by omega⟩ = 128 * blk i + r.val := by
      show 128 * blk i + (128 * h.val + r.val) % 128 = _
      omega
    rw [e]
  unfold imp
  rw [Fin.sum_univ_four, Fin.sum_univ_four]
  simp only [← hq]
  pointwise [importance, headSums, k0_pay91, k0_pay90]
end

end Cert.KernelIdeal.Opened
end
-- ==== Proof.Select.lean ====
module

public import proofs.«01_k».proof.Proof.Compressed

@[expose] public section

set_option maxRecDepth 8192
set_option maxHeartbeats 1000000

/-! # The scores by which blocks are ranked, their ranks, and the selection, at one query -/

noncomputable section

namespace Cert.KernelIdeal.Opened

open Cert.KernelIdeal Cert.KernelIdeal.Gen Cert.Soft Cert.Spec Cert.Word Cert.Rank
open Idealize.ShloMosaic Idealize.ShloMosaic.TcCoe Idealize.ShloMosaic.Tactic Idealize.ShloMosaic.WordCmp

variable (i : grid0.Coords)

/-- A positive word's sign is one. -/
theorem sign_pos {a : ℕ} (h : a < 4096) (h0 : a ≠ 0) :
    IntOp.cmpi .ne (IntOp.subi ((IntOp.cmpi .sgt (BitVec.ofNat 32 a) 0#32).setWidth 32) ((IntOp.cmpi .slt (BitVec.ofNat 32 a) 0#32).setWidth 32)) 1#32 = 0#1 := by
  rw [show (0#32) = BitVec.ofNat 32 0 from rfl, cmpi_sgt_ofNat (by omega) (by omega), cmpi_slt_ofNat (by omega) (by omega),
    decide_eq_true (show 0 < a by omega), decide_eq_false (show ¬ a < 0 by omega)]
  decide

theorem word_eq (r : Fin 128) : IntOp.addi (base i) (BitVec.ofNat 32 r.val) = BitVec.ofNat 32 (128 * blk i + r.val) := by
  rw [base, scalar_muli_num, addi_num, Nat.mul_comm]

theorem sign_64 : Scalar.subi (Scalar.extui (Scalar.cmpi .sgt 64#32 0#32)) (Scalar.extui (Scalar.cmpi .slt 64#32 0#32)) = 1#32 := by decide

/-- Which blocks have begun at the query. -/
theorem valid_at (n : Fin 64) (r : Fin 128) :
    k0_pay95 blkNo (k0_pay92 (base i)) 64#32 (k0_pay93 (base i)) (ix2 n r) = BitVec.ofBool (decide (n.val ≤ (128 * blk i + r.val) / 64)) := by
  have hj := blk_lt i
  have h : 128 * blk i + r.val < 4096 := by omega
  pointwise [k0_pay95, k0_pay92, k0_pay93, k0_pay94, blkNo]
  rw [word_eq, sign_64, floor_64 _ h _ 0#1 (sign_pos h), cmpi_sle_ofNat (by omega) (by omega)]

theorem score_at (im : FVec Ideal S64x128 .f32) (n : Fin 64) (r : Fin 128) :
    score i im (ix2 n r) = if n.val ≤ (128 * blk i + r.val) / 64 then
      if (n.val = 0 ∨ n.val = (128 * blk i + r.val) / 64) ∨ n.val + 1 = (128 * blk i + r.val) / 64 then Ideal.ofBits .f32 0x461C4000#32 else im (ix2 n r) else ⊥ := by
  have hj := blk_lt i
  have h : 128 * blk i + r.val < 4096 := by omega
  pointwise [score, k0_pay96, k0_pay95, k0_pay92, k0_pay93, k0_pay94, blkNo]
  rw [word_eq, sign_64, floor_64 _ h _ 0#1 (sign_pos h), cmpi_sle_ofNat (by omega) (by omega), eq_pred n.isLt (by omega),
    cmpi_eq_ofNat (show n.val < 2 ^ 32 by omega) (show 0 < 2 ^ 32 by omega), cmpi_eq_ofNat (by omega) (by omega), ori_ofBool, ori_ofBool,
    ← Bool.decide_or, ← Bool.decide_or, select_decide, select_decide, neg_inf]

/-- The scores are the keys by which blocks are ranked. -/
theorem key_at (x0 : Vec Ideal S1x1x1x64x512 .f32) (x1 : Vec Ideal S64x1 .f32) (x3 : Vec Ideal S1x1x128x64 .bf16) (n : Fin 64) (r : Fin 128) :
    score i (importance (headSums i x0 x1 x3)) (ix2 n r) = key (128 * blk i + r.val) (qheads x0 r) (gcol x1) (ckeys x3) n := by
  rw [score_at, imp_at]; rfl

/-! ## The rank -/

/-- One if block `a` beats block `p`, and nought otherwise; nought when there is no block `a`. -/
def beat (ky : Fin 64 → EReal) (p : Fin 64) (a : ℕ) : ℕ := if h : a < 64 then (if beats ky ⟨a, h⟩ p then 1 else 0) else 0

/-- The blocks up to `N` beat `p` as often as all do, if none beyond does. -/
theorem rank_sum (ky : Fin 64 → EReal) (p : Fin 64) (N : ℕ) (hN : N ≤ 64) (h : ∀ a : Fin 64, N ≤ a.val → ¬ beats ky a p) :
    ∑ a ∈ Finset.range N, beat ky p a = rankOf ky p := by
  classical
  have e : rankOf ky p = ∑ a ∈ Finset.range 64, beat ky p a := by
    rw [rankOf, Finset.card_filter, Finset.sum_range]
    refine Finset.sum_congr rfl fun a _ => ?_
    rw [beat, dif_pos a.isLt]
  rw [e]
  refine Finset.sum_subset (Finset.range_subset_range.mpr hN) fun a ha ha' => ?_
  rw [Finset.mem_range] at ha ha'
  rw [beat, dif_pos ha, if_neg (h ⟨a, ha⟩ (by show N ≤ a; omega))]

theorem rank_step (sc : FVec Ideal S64x128 .f32) (k : Fin (k0_t1_loop i).trips) (acc : FVec Ideal S64x128 .f32) (n : Fin 64) (r : Fin 128) :
    k0_pay99 i blkNo sc k acc (View.ld sc (Rect.unit (s := S64x128) (k0_off1 i k) S1x128.size (k0_off1_inb i k))) (ix2 n r)
      = acc (ix2 n r) + (beat (fun n => sc (ix2 n r)) n k.val : EReal) := by
  have hk := lt_of_lt_of_eq k.isLt (trips1 i)
  have hj := blk_lt i
  have hr := row_at sc (k0_off1_inb i k) k.val (by omega) (k0_off1_eq i k) r
  generalize View.ld (Val := Elt Ideal) (e' := EltTy.f32) sc (Rect.unit (s := S64x128) (k0_off1 i k) S1x128.size (k0_off1_inb i k)) = row at hr ⊢
  pointwise [k0_pay99, blkNo]
  rw [show Scf.iv 0#32 1#32 k.val = BitVec.ofNat 32 k.val from (iv_num 0 k.val).trans (by rw [Nat.zero_add]), cmpi_slt_ofNat (by omega) (by omega), andi_ofBool, ori_ofBool, ← Bool.decide_and, ← Bool.decide_or, select_decide, hr]
  refine congrArg (HAdd.hAdd (α := EReal) _) ?_
  rw [beat, dif_pos (show k.val < 64 by omega), Nat.cast_ite, Nat.cast_one, Nat.cast_zero]
  exact if_congr Iff.rfl rfl rfl

/-- The rank of a block that has begun. -/
theorem rank_at (sc : FVec Ideal S64x128 .f32) (n : Fin 64) (r : Fin 128)
    (hs : ∀ a : Fin 64, (128 * blk i + r.val) / 64 < a.val → sc (ix2 a r) = ⊥) (hn : n.val ≤ (128 * blk i + r.val) / 64) :
    rank i sc (ix2 n r) = (rankOf (fun n => sc (ix2 n r)) n : EReal) := by
  have hj := blk_lt i
  have ht := trips1 i
  have h : ∀ m, m ≤ (k0_t1_loop i).trips → upTo (k0_t1_loop i).trips (fun k acc => k0_pay99 i blkNo sc k acc
      (View.ld sc (Rect.unit (s := S64x128) (k0_off1 i k) S1x128.size (k0_off1_inb i k)))) k0_pay98 m (ix2 n r)
      = ((∑ a ∈ Finset.range m, beat (fun n => sc (ix2 n r)) n a : ℕ) : EReal) := by
    intro m
    induction m with
    | zero => intro _; rw [Finset.sum_range_zero, Nat.cast_zero]; exact Ideal.ofBits_zero_f32
    | succ m ih =>
      intro hm
      rw [upTo, dif_pos (show m < _ from hm), rank_step, ih (Nat.le_of_succ_le hm), Finset.sum_range_succ, Nat.cast_add]
  rw [rank, h _ le_rfl, ht, rank_sum _ _ _ (by omega)]
  intro a ha hb
  have hb' : sc (ix2 a r) = ⊥ := hs a (by omega)
  rcases hb with hb | hb
  · have hb : sc (ix2 n r) < sc (ix2 a r) := hb
    rw [hb'] at hb
    exact not_lt_bot hb
  · exact absurd (Fin.lt_def.mp hb.2) (by omega)

/-! ## The selection -/

theorem sixteen (c : ℕ) : (c : EReal) < Ideal.ofBits .f32 0x41800000#32 ↔ c < 16 := by
  have h : Ideal.ofBits .f32 0x41800000#32 = ((16 : ℕ) : EReal) := by
    rw [← EReal.coe_natCast]
    simp [Ideal.ofBits, Ideal.ieee, -EReal.coe_mul]
    norm_num
  rw [h, EReal.natCast_lt_iff]

theorem selection_at (sc : FVec Ideal S64x128 .f32) (n : Fin 64) (r : Fin 128)
    (hs : ∀ a : Fin 64, (128 * blk i + r.val) / 64 < a.val → sc (ix2 a r) = ⊥) :
    selection i sc (ix2 n r) = if n.val ≤ (128 * blk i + r.val) / 64 ∧ rankOf (fun n => sc (ix2 n r)) n < 16 then 0 else ⊥ := by
  pointwise [selection, k0_pay101]
  rw [valid_at, andi_ofBool, ← Bool.decide_and, select_decide, named_mask]
  refine if_congr (and_congr_right fun hn => ?_) rfl rfl
  rw [rank_at i sc n r hs hn]
  exact sixteen _

/-- The selection at a query: the blocks begun whose rank is among the first sixteen. -/
theorem selected_at (x0 : Vec Ideal S1x1x1x64x512 .f32) (x1 : Vec Ideal S64x1 .f32) (x3 : Vec Ideal S1x1x128x64 .bf16) (n : Fin 64) (r : Fin 128) :
    selection i (score i (importance (headSums i x0 x1 x3))) (ix2 n r)
      = if n.val ≤ (128 * blk i + r.val) / 64 ∧ rankOf (key (128 * blk i + r.val) (qheads x0 r) (gcol x1) (ckeys x3)) n < 16 then 0 else ⊥ := by
  rw [selection_at]
  · simp only [key_at]
  · intro a ha
    rw [key_at, key, if_neg (by omega)]

end Cert.KernelIdeal.Opened
end
-- ==== Proof.Block.lean ====
module

public import proofs.«01_k».proof.Proof.Select

@[expose] public section

set_option maxRecDepth 8192
set_option maxHeartbeats 1000000

/-! # What one block of the output holds -/

noncomputable section

namespace Cert.KernelIdeal.Opened

open Cert.KernelIdeal Cert.KernelIdeal.Gen Cert.Soft Cert.Spec Cert.Word Cert.Rank
open Idealize.ShloMosaic Idealize.ShloMosaic.TcCoe Idealize.ShloMosaic.Tactic Idealize.ShloMosaic.WordCmp

variable (i : grid0.Coords) (x0 : Vec Ideal S1x1x1x64x512 .f32) (x1 : Vec Ideal S64x1 .f32) (x2 : Vec Ideal S1x1x1x3x512 .f32) (x3 : Vec Ideal S1x1x128x64 .bf16) (x4 : Vec Ideal S1x1x64x128 .bf16) (x5 : Vec Ideal S1x1x4096x64 .bf16) (x6 : Vec Ideal S1x1x8x64x512 .bf16) (x7 : Vec Ideal S1x1x4096x64 .bf16) (x8 : Vec Ideal S1x1x8x64x512 .bf16)

/-- The three gated attentions, added. -/
theorem gated_at (c a a' : FVec Ideal S64x512 .f32) (v v' : FVec Ideal S1x512 .f32) (d : Fin 64) (l : Fin 512) :
    k0_pay130 (F := Ideal) c (k0_pay108 v a) v' a' x2 (ix2 d l)
      = Ideal.logistic (x2 (ix5 0 0 0 0 l)) * c (ix2 d l) + Ideal.logistic (x2 (ix5 0 0 0 1 l)) * Ideal.div (a (ix2 d l)) (max (v (ix2 0 l)) eps)
        + Ideal.logistic (x2 (ix5 0 0 0 2 l)) * Ideal.div (a' (ix2 d l)) (max (v' (ix2 0 l)) eps) := by
  pointwise [k0_pay130, k0_pay108]
  rfl

/-- One element of the block: the attention's output of its head and query. -/
theorem block_at (d : Fin 64) (h : Fin 4) (r : Fin 128) :
    k0_pay1 (F := Ideal) (block i x0 x1 x2 x3 x4 x5 x6 x7 x8) (ix5 0 0 0 d ⟨128 * h.val + r.val, by omega⟩)
      = out (128 * blk i + r.val) (qheads x0 r) (gcol x1) (fun b => x2 (ix5 0 0 0 b ⟨128 * h.val + r.val, by omega⟩)) (ckeys x3) (cvals x4)
          (keys x5) (vals x6) (keys x7) (vals x8) h d := by
  have e : k0_pay1 (F := Ideal) (block i x0 x1 x2 x3 x4 x5 x6 x7 x8) (ix5 0 0 0 d ⟨128 * h.val + r.val, by omega⟩)
      = block i x0 x1 x2 x3 x4 x5 x6 x7 x8 (ix2 d ⟨128 * h.val + r.val, by omega⟩) := by
    generalize block i x0 x1 x2 x3 x4 x5 x6 x7 x8 = b
    pointwise [k0_pay1]
  have hp : place ⟨128 * h.val + r.val, by omega⟩ = r := Fin.ext (by show (128 * h.val + r.val) % 128 = r.val; omega)
  have ht : posn i ⟨128 * h.val + r.val, by omega⟩ = 128 * blk i + r.val := congrArg (fun r : Fin 128 => 128 * blk i + r.val) hp
  have hs := sel_at i x0 x1 ⟨128 * h.val + r.val, by omega⟩ d x5 x6 (selection i (score i (importance (headSums i x0 x1 x3))))
    (key (128 * blk i + r.val) (qheads x0 r) (gcol x1) (ckeys x3)) (fun n => by rw [hp, ht]; exact selected_at i x0 x1 x3 n r)
  have hw := win_at i x0 x1 ⟨128 * h.val + r.val, by omega⟩ d x7 x8
  have hc := cmp_at i x0 x1 x3 x4 d ⟨128 * h.val + r.val, by omega⟩
  rw [ht] at hs hw hc
  beta_reduce at hs hw
  rw [e]
  unfold block
  rw [gated_at, hc, hs, hw]
  rfl

end Cert.KernelIdeal.Opened
end
-- ==== Proof.Host.lean ====
module

public import proofs.«01_k».proof.Proof.Block
public import proofs.«01_k».proof.Proof.Gen.KernelIdeal.Value
public import Idealize.ShloMosaic.Lib.Pipeline.ValueKit
public import Idealize.ShloMosaic.Lib.Pipeline.Covers

@[expose] public section

set_option maxRecDepth 16384
set_option maxHeartbeats 1000000

/-! # The blocks that the kernel is given, as the arguments' entries -/

noncomputable section

namespace Cert.KernelIdeal.Opened

open Cert.KernelIdeal Cert.KernelIdeal.Gen Cert.Spec
open Idealize.ShloMosaic Idealize.ShloMosaic.TcCoe Idealize.ShloMosaic.Tactic

variable (m : (ℓ : Loc nD τ sig) → Buf (Elt Ideal) ℓ) (c : Dev nD) (t : Fin cfg0.N)

theorem num {n k : ℕ} (h : n < k) (hk : k ≤ 32) : (BitVec.ofNat 32 n).toNat = n := by
  rw [BitVec.toNat_ofNat, Nat.mod_eq_of_lt (by omega)]

/-- The batch, the group and the block of positions of a point. -/
abbrev pb : Fin 4 := grid0.coords t 0
abbrev pg : Fin 4 := grid0.coords t 1
abbrev pj : Fin 32 := grid0.coords t 2

section
variable (i : grid0.Coords)

theorem num4 (a : Fin 4) : (BitVec.ofNat 32 a.val).toNat = a.val := by rw [BitVec.toNat_ofNat, Nat.mod_eq_of_lt (by omega)]
theorem num32 (a : Fin 32) : (BitVec.ofNat 32 a.val).toNat = a.val := by rw [BitVec.toNat_ofNat, Nat.mod_eq_of_lt (by omega)]

/-- The index of a block among the arrays with an axis of blocks of positions. -/
theorem place3 : (![(BitVec.ofNat 32 (i 0).val).toNat, (BitVec.ofNat 32 (i 1).val).toNat, (BitVec.ofNat 32 (i 2).val).toNat, (0#32).toNat, (0#32).toNat] : Fin 5 → ℕ)
    = ![(i 0).val, (i 1).val, (i 2).val, 0, 0] := by
  rw [num4 (i 0), num4 (i 1), num32 (i 2)]; rfl

/-- The index of a group's block, of four axes. -/
theorem place2 : (![(BitVec.ofNat 32 (i 0).val).toNat, (BitVec.ofNat 32 (i 1).val).toNat, (0#32).toNat, (0#32).toNat] : Fin 4 → ℕ)
    = ![(i 0).val, (i 1).val, 0, 0] := by
  rw [num4 (i 0), num4 (i 1)]; rfl

/-- The index of a group's block, of five axes. -/
theorem place2' : (![(BitVec.ofNat 32 (i 0).val).toNat, (BitVec.ofNat 32 (i 1).val).toNat, (0#32).toNat, (0#32).toNat, (0#32).toNat] : Fin 5 → ℕ)
    = ![(i 0).val, (i 1).val, 0, 0, 0] := by
  rw [num4 (i 0), num4 (i 1)]; rfl
end

/-! ## Where a block's entry lies in its array -/

theorem q_place (d : Fin 64) (l : Fin 512) : (win0_0.blk t).view.emb (ix5 0 0 0 d l) = ix5 (pb t) (pg t) (pj t) d l := by
  blk_ext [show win0_0.index t = ![(pb t).val, (pg t).val, (pj t).val, 0, 0] from place3 _]

theorem g_place (d : Fin 64) : (win0_1.blk t).view.emb (ix2 d 0) = ix2 d 0 := by
  blk_ext [show win0_1.index t = ![0, 0] from rfl]

theorem gate_place (k : Fin 3) (l : Fin 512) : (win0_2.blk t).view.emb (ix5 0 0 0 k l) = ix5 (pb t) (pg t) (pj t) k l := by
  blk_ext [show win0_2.index t = ![(pb t).val, (pg t).val, (pj t).val, 0, 0] from place3 _]

theorem kc_place (k : Fin 128) (d : Fin 64) : (win0_3.blk t).view.emb (ix4 0 0 k d) = ix4 (pb t) (pg t) k d := by
  blk_ext [show win0_3.index t = ![(pb t).val, (pg t).val, 0, 0] from place2 _]

theorem vc_place (d : Fin 64) (k : Fin 128) : (win0_4.blk t).view.emb (ix4 0 0 d k) = ix4 (pb t) (pg t) d k := by
  blk_ext [show win0_4.index t = ![(pb t).val, (pg t).val, 0, 0] from place2 _]

theorem ks_place (k : Fin 4096) (d : Fin 64) : (win0_5.blk t).view.emb (ix4 0 0 k d) = ix4 (pb t) (pg t) k d := by
  blk_ext [show win0_5.index t = ![(pb t).val, (pg t).val, 0, 0] from place2 _]

theorem vs_place (a : Fin 8) (d : Fin 64) (k : Fin 512) : (win0_6.blk t).view.emb (ix5 0 0 a d k) = ix5 (pb t) (pg t) a d k := by
  blk_ext [show win0_6.index t = ![(pb t).val, (pg t).val, 0, 0, 0] from place2' _]

theorem kw_place (k : Fin 4096) (d : Fin 64) : (win0_7.blk t).view.emb (ix4 0 0 k d) = ix4 (pb t) (pg t) k d := by
  blk_ext [show win0_7.index t = ![(pb t).val, (pg t).val, 0, 0] from place2 _]

theorem vw_place (a : Fin 8) (d : Fin 64) (k : Fin 512) : (win0_8.blk t).view.emb (ix5 0 0 a d k) = ix5 (pb t) (pg t) a d k := by
  blk_ext [show win0_8.index t = ![(pb t).val, (pg t).val, 0, 0, 0] from place2' _]

theorem out_place (d : Fin 64) (l : Fin 512) : (win0_9.blk t).view.emb (ix5 0 0 0 d l) = ix5 (pb t) (pg t) (pj t) d l := by
  blk_ext [show win0_9.index t = ![(pb t).val, (pg t).val, (pj t).val, 0, 0] from place3 _]

/-! ## The arrays when the kernel starts, as the arguments' entries -/

section
variable (b g : Fin 4)

theorem q_entry (j : Fin 32) (d : Fin 64) (h : Fin 4) (r : Fin 128) : V m c main_v2 (ix5 b g j d ⟨128 * h.val + r.val, by omega⟩)
    = (m ((c : Thread nD τ).loc main_arg0) : Vec Ideal S4x4096x1024 .f32) (ix3 b ⟨128 * j.val + r.val, by omega⟩ ⟨(g.val * 4 + h.val) * 64 + d.val, by omega⟩) := by
  entry_read
  pointwise
  blk_ext

theorem g_entry (d : Fin 64) : V m c main_v17 (ix2 d 0) = (m ((c : Thread nD τ).loc main_arg8) : Vec Ideal S64 .f32) (ix1 d) := by
  entry_read
  pointwise

theorem gate_entry (j : Fin 32) (k : Fin 3) (h : Fin 4) (r : Fin 128) : V m c main_v5 (ix5 b g j k ⟨128 * h.val + r.val, by omega⟩)
    = (m ((c : Thread nD τ).loc main_arg1) : Vec Ideal S4x4096x48 .f32) (ix3 b ⟨128 * j.val + r.val, by omega⟩ ⟨g.val * 12 + h.val * 3 + k.val, by omega⟩) := by
  entry_read
  pointwise
  blk_ext

theorem kc_entry (k : Fin 128) (d : Fin 64) : V m c main_v6 (ix4 b g k d) = (m ((c : Thread nD τ).loc main_arg2) : Vec Ideal S4x4x128x64 .f32) (ix4 b g k d) := by
  entry_read
  pointwise

theorem vc_entry (d : Fin 64) (k : Fin 128) : V m c main_v8 (ix4 b g d k) = (m ((c : Thread nD τ).loc main_arg3) : Vec Ideal S4x4x128x64 .f32) (ix4 b g k d) := by
  entry_read
  pointwise

theorem ks_entry (k : Fin 4096) (d : Fin 64) : V m c main_v9 (ix4 b g k d) = (m ((c : Thread nD τ).loc main_arg4) : Vec Ideal S4x4x4096x64 .f32) (ix4 b g k d) := by
  entry_read
  pointwise

theorem vs_entry (k : Fin 4096) (d : Fin 64) : V m c main_v13 (ix5 b g ⟨k.val / 512, by omega⟩ d ⟨k.val % 512, by omega⟩)
    = (m ((c : Thread nD τ).loc main_arg5) : Vec Ideal S4x4x4096x64 .f32) (ix4 b g k d) := by
  entry_read
  pointwise
  blk_ext

theorem kw_entry (k : Fin 4096) (d : Fin 64) : V m c main_v10 (ix4 b g k d) = (m ((c : Thread nD τ).loc main_arg6) : Vec Ideal S4x4x4096x64 .f32) (ix4 b g k d) := by
  entry_read
  pointwise

theorem vw_entry (k : Fin 4096) (d : Fin 64) : V m c main_v16 (ix5 b g ⟨k.val / 512, by omega⟩ d ⟨k.val % 512, by omega⟩)
    = (m ((c : Thread nD τ).loc main_arg7) : Vec Ideal S4x4x4096x64 .f32) (ix4 b g k d) := by
  entry_read
  pointwise
  blk_ext
end

/-- The point of a batch, a group and a block of positions. -/
abbrev pt (b g : Fin 4) (j : Fin 32) : grid0.Coords := fun a => match a with
  | ⟨0, _⟩ => b
  | ⟨1, _⟩ => g
  | ⟨2, _⟩ => j

/-- The blocks written back tile the result. -/
theorem covers : (cfg0.win 9).Covers :=
  (cfg0.win 9).covers_of_indexMap_surj rfl (by decide) fun β =>
    have n0 : (cfg0.win 9).nblk ⟨0, by decide⟩ = 4 := by decide
    have n1 : (cfg0.win 9).nblk ⟨1, by decide⟩ = 4 := by decide
    have n2 : (cfg0.win 9).nblk ⟨2, by decide⟩ = 32 := by decide
    have n3 : (cfg0.win 9).nblk ⟨3, by decide⟩ = 1 := by decide
    have n4 : (cfg0.win 9).nblk ⟨4, by decide⟩ = 1 := by decide
    ⟨pt ⟨(β ⟨0, by decide⟩).val, lt_of_lt_of_eq (β ⟨0, by decide⟩).isLt n0⟩ ⟨(β ⟨1, by decide⟩).val, lt_of_lt_of_eq (β ⟨1, by decide⟩).isLt n1⟩ ⟨(β ⟨2, by decide⟩).val, lt_of_lt_of_eq (β ⟨2, by decide⟩).isLt n2⟩, fun a => by
      refine (congrFun (place3 (pt _ _ _)) a).trans ?_
      match a with
      | ⟨0, _⟩ => rfl
      | ⟨1, _⟩ => rfl
      | ⟨2, _⟩ => rfl
      | ⟨3, _⟩ => exact (Nat.lt_one_iff.mp (n3 ▸ (β ⟨3, by decide⟩).isLt)).symm
      | ⟨4, _⟩ => exact (Nat.lt_one_iff.mp (n4 ▸ (β ⟨4, by decide⟩).isLt)).symm⟩

end Cert.KernelIdeal.Opened
end
-- ==== Proof.RefReads.lean ====
module

public import proofs.«01_k».proof.Proof.Spec
public import proofs.«01_k».proof.Proof.Words
public import proofs.«01_k».proof.Proof.Gen.ReferenceIdeal.Read

@[expose] public section

set_option maxRecDepth 8192
set_option maxHeartbeats 1000000

/-! # Reductions and the top-k, read at an index -/

noncomputable section

namespace Cert.ReferenceIdeal.Opened

open Cert.ReferenceIdeal Cert.ReferenceIdeal.Gen Cert.ReferenceIdeal.Read Cert.Soft Cert.Spec Cert.Word Cert.Rank
open Idealize.ShloMosaic Idealize.ShloMosaic.TcCoe Idealize.ShloMosaic.Tactic Idealize.ShloMosaic.WordCmp

/-- A row's greatest element. -/
theorem max_last {n0 n1 n2 n3 n4 : ℕ} (v : FVec Ideal ⟨5, ![n0, n1, n2, n3, n4]⟩ .f32) (h : (⟨5, ![n0, n1, n2, n3, n4]⟩ : Shape).ReducesTo [4] ⟨4, ![n0, n1, n2, n3]⟩)
    (c : FVec Ideal S_ .f32) (hc : ∀ i, c i = ⊥) (hu : 0 < S_.numel) (a0 : Fin n0) (a1 : Fin n1) (a2 : Fin n2) (a3 : Fin n3) :
    Host.reduce FloatOps.maximumf v c h hu (ix4 a0 a1 a2 a3) = Finset.univ.sup fun k : Fin n4 => v (ix5 a0 a1 a2 a3 k) := by
  pointwise
  rw [hc]
  rfl

/-- Whether any entry along the fourth axis holds. -/
theorem any_fourth {n0 n1 n2 n3 n4 : ℕ} (v : IVec ⟨5, ![n0, n1, n2, n3, n4]⟩ 1) (h : (⟨5, ![n0, n1, n2, n3, n4]⟩ : Shape).ReducesTo [3] ⟨4, ![n0, n1, n2, n4]⟩)
    (c : IVec S_ 1) (hc : ∀ i, c i = 0#1) (hu : 0 < S_.numel) (a0 : Fin n0) (a1 : Fin n1) (a2 : Fin n2) (a4 : Fin n4) (p : Fin n3 → Prop) [DecidablePred p]
    [Decidable (∃ k, p k)] (hv : ∀ k, v (ix5 a0 a1 a2 k a4) = BitVec.ofBool (decide (p k))) :
    Host.reduce IntOp.ori v c h hu (ix4 a0 a1 a2 a4) = BitVec.ofBool (decide (∃ k, p k)) := by
  pointwise
  rw [hc]
  simp only [hv]
  have e : ∀ S : Finset (Fin n3), Finset.fold IntOp.ori 0#1 (fun k => BitVec.ofBool (decide (p k))) S = BitVec.ofBool (decide (∃ k ∈ S, p k)) := by
    classical
    intro S
    induction S using Finset.induction_on with
    | empty => simp
    | insert a S ha ih =>
      rw [Finset.fold_insert ha, ih, ori_ofBool, ← Bool.decide_or]
      refine congrArg _ (decide_eq_decide.mpr ?_)
      simp
  rw [e]
  refine congrArg _ (decide_eq_decide.mpr ?_)
  simp

/-- The positions of the greatest entries of a row are those that a stable sort puts first. -/
theorem topK_at {n0 n1 n2 n m : ℕ} (gt : EReal → EReal → BitVec 1) (X : FVec Ideal ⟨4, ![n0, n1, n2, n]⟩ .f32) (hm : m ≤ n)
    (h : (⟨4, ![n0, n1, n2, n]⟩ : Shape).Slices (fun _ => 0) ⟨4, ![n0, n1, n2, m]⟩) (a0 : Fin n0) (a1 : Fin n1) (a2 : Fin n2) (k : Fin m) :
    (Host.topK ⟨4, ![n0, n1, n2, m]⟩ 3 gt X h).2 (ix4 a0 a1 a2 k)
      = BitVec.ofNat 32 (sortedFrom (fun p q => gt (X (ix4 a0 a1 a2 p)) (X (ix4 a0 a1 a2 q)) == 1#1) (k.castLE hm)).val := by
  have hal : ∀ (p : Fin n) (q : Fin n), (ix4 a0 a1 a2 p).along 3 q = ix4 a0 a1 a2 q := by
    intro p q
    funext a
    match a with
    | ⟨0, _⟩ => rfl
    | ⟨1, _⟩ => rfl
    | ⟨2, _⟩ => rfl
    | ⟨3, _⟩ => rfl
  unfold Host.topK
  dsimp only
  rw [extractStridedSlice_apply _ _ _ _ (ix4 a0 a1 a2 (k.castLE hm)) (fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm)]
  unfold Host.sort2
  rw [dif_pos (show 3 < 4 by decide)]
  dsimp only
  have eR : (fun p q : Fin n => gt (X ((ix4 a0 a1 a2 (k.castLE hm)).along 3 p)) (X ((ix4 a0 a1 a2 (k.castLE hm)).along 3 q)) == 1#1)
      = fun p q => gt (X (ix4 a0 a1 a2 p)) (X (ix4 a0 a1 a2 q)) == 1#1 := by
    funext p q
    rw [hal, hal]
  rw [dif_pos (show 3 < 4 by decide)]
  exact congrArg (fun R => BitVec.ofNat 32 (sortedFrom (n := n) R (k.castLE hm)).val) eR

/-- The comparison by which entries are sorted. -/
theorem gt_iff (x y : EReal) : (FloatOps.cmpfTotal (F := Ideal) (φ := .f32) .gt x y == 1#1) = true ↔ y < x := by
  rw [beq_iff_eq]
  show BitVec.ofBool (decide (y < x)) = 1#1 ↔ _
  by_cases h : y < x <;> simp [h]

end Cert.ReferenceIdeal.Opened
end
-- ==== Proof.RefSoft.lean ====
module

public import proofs.«01_k».proof.Proof.RefReads

@[expose] public section

set_option maxRecDepth 8192
set_option maxHeartbeats 1000000

/-! # The reference's queries, gates and compressed attention, at one head and position -/

noncomputable section

namespace Cert.ReferenceIdeal.Opened

open Cert.ReferenceIdeal Cert.ReferenceIdeal.Gen Cert.ReferenceIdeal.Read Cert.Soft Cert.Spec Cert.Word Cert.Rank
open Idealize.ShloMosaic Idealize.ShloMosaic.TcCoe Idealize.ShloMosaic.Tactic Idealize.ShloMosaic.WordCmp

theorem neg_inf : Ideal.ofBits .f32 0xFF800000#32 = ⊥ := by simp [Ideal.ofBits, Ideal.ieee]
theorem pos_inf : Ideal.ofBits .f32 0x7F800000#32 = ⊤ := by simp [Ideal.ofBits, Ideal.ieee]

/-- A constant, converted to its own format. -/
theorem scalar_const (w : BitVec 32) : id (constant (F := Ideal) S_ .f32 w) ix0 = Ideal.ofBits .f32 w := rfl

/-- The query of a head at a position. -/
abbrev rq (x0 : Vec Ideal S4x4096x1024 .f32) (b g : Fin 4) (t : Fin 4096) (h : Fin 4) (d : Fin 64) : EReal :=
  x0 (ix3 b t ⟨(g.val * 4 + h.val) * 64 + d.val, by omega⟩)

/-- The gains. -/
abbrev rg (x8 : Vec Ideal S64 .f32) (d : Fin 64) : EReal := x8 (ix1 d)

/-- The gates of a head at a position, before the sigmoid. -/
abbrev rgate (x1 : Vec Ideal S4x4096x48 .f32) (b g : Fin 4) (t : Fin 4096) (h : Fin 4) (c : Fin 3) : EReal :=
  x1 (ix3 b t ⟨g.val * 12 + h.val * 3 + c.val, by omega⟩)

/-- The compressed keys or values of a group. -/
abbrev rc (x : Vec Ideal S4x4x128x64 .f32) (b g : Fin 4) (c : Fin 128) (d : Fin 64) : EReal := x (ix4 b g c d)

/-- The keys or values of a group. -/
abbrev rk (x : Vec Ideal S4x4x4096x64 .f32) (b g : Fin 4) (k : Fin 4096) (d : Fin 64) : EReal := x (ix4 b g k d)

/-- The guarded softmax, from its stages. -/
theorem softmax_of {n : ℕ} (mask : Fin n → Prop) [DecidablePred mask] (s y e : Fin n → EReal) (m : EReal) (hy : ∀ k, y k = if mask k then s k else ⊥)
    (hm : m = top0 (Finset.univ.sup y)) (he : ∀ k, e k = if mask k then Ideal.exp (y k - m) else 0) (k : Fin n) :
    Ideal.div (e k) (max (∑ x, e x) (Ideal.ofBits .f32 228737632#32)) = prob eps y k := by
  have hy' : y = fun k => if mask k then s k else ⊥ := funext hy
  have he' : e = fun k => if mask k then Ideal.exp (y k - m) else 0 := funext he
  subst hm
  rw [he', hy']
  exact prob_guarded eps_pos mask s k

/-- The greatest score, or nought where it is not finite. -/
theorem top0_eq (M : EReal) : Scalar.select (FloatOps.cmpf (F := Ideal) (φ := .f32) .olt (FloatOps.hostAbsf (F := Ideal) (φ := .f32) M) (FloatOps.ofBits (F := Ideal) .f32 0x7F800000#32)) M
    (FloatOps.ofBits (F := Ideal) .f32 0x00000000#32) = top0 M := by
  show Scalar.select (BitVec.ofBool (decide (max M (-M) < Ideal.ofBits .f32 0x7F800000#32))) M (Ideal.ofBits .f32 0#32) = _
  rw [pos_inf, Ideal.ofBits_zero_f32, select_decide]; rfl

variable (x0 : Vec Ideal S4x4096x1024 .f32) (x1 : Vec Ideal S4x4096x48 .f32) (x2 x3 : Vec Ideal S4x4x128x64 .f32) (x8 : Vec Ideal S64 .f32)
variable (b g h : Fin 4) (t : Fin 4096)

theorem rq_at (d : Fin 64) : val_main_v22 (F := Ideal) x0 x8 (ix5 b g h t d) = nrm (rq x0 b g t h) (rg x8) d := by
  pointwise [val_main_v22, val_main_v21, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem rgate_at (c : Fin 3) : val_main_v20 (F := Ideal) x1 (ix5 b t g h c) = Ideal.logistic (rgate x1 b g t h c) := by
  pointwise [val_main_v20, val_main_v19, val_main_v18, val_main_v17, val_main_v16, val_main_v15, val_main_v14, val_main_cst_2, val_main_cst_3]
  rfl

theorem cscore_at (c : Fin 128) : val_main_v33 (F := Ideal) x0 x2 x8 (ix5 b g h t c) = raw (rq x0 b g t h) (rg x8) (rc x2 b g c) := by
  pointwise [val_main_v33, val_main_v32, val_main_v31, val_main_cst_6]
  simp only [rq_at]
  rfl

theorem cmask_at (c : Fin 128) : val_main_v38 (F := Ideal) (ix2 t c) = BitVec.ofBool (decide (32 * c.val + 31 ≤ t.val)) := by
  pointwise [val_main_v38, val_main_v37, val_main_v36, val_main_v35, val_main_v34, val_main_v30, val_main_v29, val_main_v28, val_main_v27, val_main_v26, val_main_v25, val_main_v24, val_main_v23, val_main_c, val_main_c_4, val_main_c_5]
  rw [addi_num, muli_num, subi_num (by omega) (by omega), cmpi_sle_ofNat (by omega) (by omega)]
  exact congrArg _ (decide_eq_decide.mpr (by omega))

theorem cmasked_at (c : Fin 128) : val_main_call0_v0 (F := Ideal) x0 x2 x8 (ix5 b g h t c) = cmpScore t.val (rq x0 b g t h) (rg x8) (rc x2 b g) c := by
  pointwise [val_main_call0_v0, val_main_call0_cst, val_main_call0_call0_v0, val_main_call0_call0_v1, val_main_call0_call0_v2]
  rw [cmask_at, cscore_at, select_decide, scalar_const, neg_inf]
  rfl

theorem cmax_at : val_main_call0_v1 (F := Ideal) x0 x2 x8 (ix4 b g h t) = Finset.univ.sup fun c => val_main_call0_v0 (F := Ideal) x0 x2 x8 (ix5 b g h t c) := by
  unfold val_main_call0_v1
  exact max_last _ _ _ (fun _ => neg_inf) _ b g h t

theorem cguard_at : val_main_call0_v6 (F := Ideal) x0 x2 x8 (ix5 b g h t 0) = top0 (val_main_call0_v1 (F := Ideal) x0 x2 x8 (ix4 b g h t)) := by
  have e : idx_main_call0_v2 (ix5 b g h t 0) = ix4 b g h t := funext fun a => match a with
    | ⟨0, _⟩ => rfl
    | ⟨1, _⟩ => rfl
    | ⟨2, _⟩ => rfl
    | ⟨3, _⟩ => rfl
  rw [val_main_call0_v6_apply, val_main_call0_v5_apply, val_main_call0_v3_apply, val_main_call0_v4_apply, val_main_call0_cst_1_apply, val_main_call0_call1_v1_apply,
    val_main_call0_call1_v0_apply, val_main_call0_cst_2_apply, val_main_call0_v2_apply, e]
  exact top0_eq _

theorem ctop_at : val_main_call0_v6 (F := Ideal) x0 x2 x8 (ix5 b g h t 0)
    = top0 (Finset.univ.sup fun c => val_main_call0_v0 (F := Ideal) x0 x2 x8 (ix5 b g h t c)) :=
  (cguard_at x0 x2 x8 b g h t).trans (congrArg top0 (cmax_at x0 x2 x8 b g h t))

theorem cweight_at (c : Fin 128) : val_main_call0_v10 (F := Ideal) x0 x2 x8 (ix5 b g h t c)
    = if 32 * c.val + 31 ≤ t.val then Ideal.exp (val_main_call0_v0 (F := Ideal) x0 x2 x8 (ix5 b g h t c) - val_main_call0_v6 (F := Ideal) x0 x2 x8 (ix5 b g h t 0)) else 0 := by
  pointwise [val_main_call0_v10, val_main_call0_v9, val_main_call0_v8, val_main_call0_v7, val_main_call0_cst_3, val_main_call0_call2_v0, val_main_call0_call2_v1, val_main_call0_call2_v2]
  rw [cmask_at, select_decide, scalar_const, Ideal.ofBits_zero_f32]

theorem cprob_at (c : Fin 128) : val_main_v39 (F := Ideal) x0 x2 x8 (ix5 b g h t c) = prob eps (cmpScore t.val (rq x0 b g t h) (rg x8) (rc x2 b g)) c := by
  pointwise [val_main_v39, val_main_call0_v15, val_main_call0_v14, val_main_call0_v13, val_main_call0_v12, val_main_call0_v11, val_main_call0_cst_4, val_main_call0_cst_5]
  have hy : (fun c => val_main_call0_v0 (F := Ideal) x0 x2 x8 (ix5 b g h t c)) = cmpScore t.val (rq x0 b g t h) (rg x8) (rc x2 b g) :=
    funext fun c => cmasked_at x0 x2 x8 b g h t c
  have hs := softmax_of (fun c : Fin 128 => 32 * c.val + 31 ≤ t.val) _ _ _ _ (fun c => cmasked_at x0 x2 x8 b g h t c) (ctop_at x0 x2 x8 b g h t)
    (fun c => cweight_at x0 x2 x8 b g h t c) c
  rw [hy] at hs
  exact hs

/-- The compressed attention. -/
theorem cattn_at (d : Fin 64) : val_main_v40 (F := Ideal) x0 x2 x3 x8 (ix5 b g h t d)
    = attn eps (cmpScore t.val (rq x0 b g t h) (rg x8) (rc x2 b g)) (fun c => rc x3 b g c d) := by
  pointwise [val_main_v40]
  simp only [cprob_at]
  rfl

/-- The importance of a selectable block. -/
theorem cimp_at (n : Fin 64) : val_main_v43 (F := Ideal) x0 x2 x8 (ix4 b g t n) = imp t.val (rq x0 b g t) (rg x8) (rc x2 b g) n := by
  pointwise [val_main_v43, val_main_v42, val_main_v41, val_main_cst_7, val_main_cst_8]
  simp only [cprob_at]
  rw [Fin.sum_univ_two]
  unfold imp
  refine congrArg₂ (· + ·) (Finset.sum_congr rfl fun x _ => congrArg _ (Fin.ext ?_)) (Finset.sum_congr rfl fun x _ => congrArg _ (Fin.ext ?_))
  · show n.val * 2 + 0 = 2 * n.val
    omega
  · show n.val * 2 + 1 = 1 + 2 * n.val
    omega

end Cert.ReferenceIdeal.Opened
end
-- ==== Proof.RefPick.lean ====
module

public import proofs.«01_k».proof.Proof.RefSoft

@[expose] public section

set_option maxRecDepth 8192
set_option maxHeartbeats 1000000

/-! # The reference's selection of blocks, and its masks -/

noncomputable section

namespace Cert.ReferenceIdeal.Opened

open Cert.ReferenceIdeal Cert.ReferenceIdeal.Gen Cert.ReferenceIdeal.Read Cert.Soft Cert.Spec Cert.Word Cert.Rank
open Idealize.ShloMosaic Idealize.ShloMosaic.TcCoe Idealize.ShloMosaic.Tactic Idealize.ShloMosaic.WordCmp

variable (x0 : Vec Ideal S4x4096x1024 .f32) (x2 : Vec Ideal S4x4x128x64 .f32) (x8 : Vec Ideal S64 .f32)
variable (b g : Fin 4) (t : Fin 4096)

theorem sign_at (h0 : t.val ≠ 0) : IntOp.cmpi .ne (val_main_call1_v3 (F := Ideal) (ix1 t)) 1#32 = 0#1 := by
  have hm : (BitVec.ofNat 32 t.val).msb = false := by
    rw [BitVec.msb_eq_decide, BitVec.toNat_ofNat, Nat.mod_eq_of_lt (by omega)]
    exact decide_eq_false (by omega)
  have hz : BitVec.ofNat 32 t.val ≠ 0 := by
    intro h
    have := congrArg BitVec.toNat h
    rw [BitVec.toNat_ofNat, Nat.mod_eq_of_lt (by omega)] at this
    exact h0 this
  show IntOp.cmpi .ne (if BitVec.ofNat 32 t.val = 0 then 0 else if (BitVec.ofNat 32 t.val).msb then -1 else 1) 1#32 = 0#1
  rw [if_neg hz, hm]
  decide

theorem sign_const : val_main_call1_v4 (F := Ideal) ix0 = 1#32 := by
  show (if (64#32) = 0 then 0 else if (64#32).msb then -1 else 1) = 1#32
  decide

/-- The block of a position. -/
theorem cur_at : val_main_v44 (F := Ideal) (ix1 t) = BitVec.ofNat 32 (t.val / 64) := by
  pointwise [val_main_v44, val_main_call1_v13, val_main_call1_v12, val_main_call1_c_0, val_main_call1_v11, val_main_call1_v10, val_main_call1_v9, val_main_call1_c, val_main_call1_v8, val_main_call1_v7, val_main_call1_v6, val_main_call1_v5, val_main_call1_v2, val_main_call1_v1, val_main_call1_v0, val_main_c_9, val_main_v23]
  rw [sign_const]
  exact floor_64 _ t.isLt _ 0#1 (sign_at t)

/-- The blocks begun. -/
theorem begun_at (n : Fin 64) : val_main_v50 (F := Ideal) (ix2 t n) = BitVec.ofBool (decide (n.val ≤ t.val / 64)) := by
  pointwise [val_main_v50, val_main_v49, val_main_v48, val_main_v47, val_main_v46, val_main_v45]
  rw [cur_at, cmpi_sle_ofNat (by omega) (by omega)]

/-- The first block, the current one and the one before. -/
theorem forced_at (n : Fin 64) : val_main_v68 (F := Ideal) (ix2 t n) = BitVec.ofBool (decide ((n.val = 0 ∨ n.val = t.val / 64) ∨ n.val + 1 = t.val / 64)) := by
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v45, val_main_c_10, val_main_c_11]
  rw [cur_at, eq_pred n.isLt (by omega), show (0#32) = BitVec.ofNat 32 0 from rfl,
    cmpi_eq_ofNat (show n.val < 2 ^ 32 by omega) (show 0 < 2 ^ 32 by omega), cmpi_eq_ofNat (by omega) (by omega), ori_ofBool, ori_ofBool,
    ← Bool.decide_or, ← Bool.decide_or]

/-- What the reference ranks blocks by. -/
theorem rkey_at (n : Fin 64) : val_main_v70 (F := Ideal) x0 x2 x8 (ix4 b g t n) = key t.val (rq x0 b g t) (rg x8) (rc x2 b g) n := by
  pointwise [val_main_v70, val_main_v69, val_main_call3_v0, val_main_call3_v1, val_main_call3_v2, val_main_call2_v0, val_main_call2_v1, val_main_call2_v2, val_main_cst_12, val_main_cst_13]
  rw [begun_at, forced_at, select_decide, select_decide, cimp_at, scalar_const, scalar_const, neg_inf]
  rfl

theorem sixteen_le : 16 ≤ 64 := by norm_num

theorem indices_at (k : Fin 16) : val_main_indices (F := Ideal) x0 x2 x8 (ix4 b g t k)
    = BitVec.ofNat 32 (sortedFrom (fun p q : Fin 64 => FloatOps.cmpfTotal (F := Ideal) (φ := .f32) .gt (key t.val (rq x0 b g t) (rg x8) (rc x2 b g) p) (key t.val (rq x0 b g t) (rg x8) (rc x2 b g) q) == 1#1)
        (k.castLE sixteen_le)).val := by
  have e := topK_at (n0 := 4) (n1 := 4) (n2 := 4096) (n := 64) (m := 16) (FloatOps.cmpfTotal (F := Ideal) (φ := .f32) .gt) (val_main_v70 (F := Ideal) x0 x2 x8)
    sixteen_le sliceFits_S4x4x4096x64_S4x4x4096x16 b g t k
  simp only [rkey_at] at e
  unfold val_main_indices
  exact e

/-- The sixteen blocks picked. -/
theorem picked_at (n : Fin 64) : val_main_v76 (F := Ideal) x0 x2 x8 (ix4 b g t n)
    = BitVec.ofBool (decide (rankOf (key t.val (rq x0 b g t) (rg x8) (rc x2 b g)) n < 16)) := by
  have hv : ∀ k : Fin 16, val_main_v75 (F := Ideal) x0 x2 x8 (ix5 b g t k n) = BitVec.ofBool (decide (sortedFrom (fun p q : Fin 64 =>
      FloatOps.cmpfTotal (F := Ideal) (φ := .f32) .gt (key t.val (rq x0 b g t) (rg x8) (rc x2 b g) p) (key t.val (rq x0 b g t) (rg x8) (rc x2 b g) q) == 1#1)
      (k.castLE sixteen_le) = n)) := by
    intro k
    pointwise [val_main_v75, val_main_v74, val_main_v73, val_main_v72, val_main_v71, val_main_v45]
    rw [indices_at, cmpi_eq_ofNat (by omega) (by omega)]
    exact congrArg _ (decide_eq_decide.mpr Fin.ext_iff.symm)
  have e := any_fourth (n0 := 4) (n1 := 4) (n2 := 4096) (n3 := 16) (n4 := 64) (val_main_v75 (F := Ideal) x0 x2 x8) reducesTo_S4x4x4096x16x64_S4x4x4096x64_d3
    (val_main_c_14 (F := Ideal)) (fun _ => rfl) h_S_ b g t n _ hv
  unfold val_main_v76
  rw [e]
  have hm := mem_top_iff sixteen_le (key t.val (rq x0 b g t) (rg x8) (rc x2 b g)) (fun p q : Fin 64 =>
    FloatOps.cmpfTotal (F := Ideal) (φ := .f32) .gt (key t.val (rq x0 b g t) (rg x8) (rc x2 b g) p) (key t.val (rq x0 b g t) (rg x8) (rc x2 b g) q) == 1#1)
    (fun p q => gt_iff (key t.val (rq x0 b g t) (rg x8) (rc x2 b g) p) (key t.val (rq x0 b g t) (rg x8) (rc x2 b g) q)) n
  exact congrArg BitVec.ofBool (decide_eq_decide.mpr hm)

theorem causal_at (k : Fin 4096) : val_main_v82 (F := Ideal) (ix2 t k) = BitVec.ofBool (decide (k.val ≤ t.val)) := by
  pointwise [val_main_v82, val_main_v81, val_main_v80, val_main_v79, val_main_v78, val_main_v77, val_main_v23]
  rw [cmpi_sle_ofNat (by omega) (by omega)]

/-- The keys of the blocks picked, up to the position. -/
theorem smask_at (k : Fin 4096) : val_main_v87 (F := Ideal) x0 x2 x8 (ix4 b g t k)
    = BitVec.ofBool (decide (rankOf (key t.val (rq x0 b g t) (rg x8) (rc x2 b g)) ⟨k.val / 64, by omega⟩ < 16 ∧ k.val ≤ t.val)) := by
  pointwise [val_main_v87, val_main_v86, val_main_v85, val_main_v84, val_main_v83]
  rw [picked_at, causal_at, andi_ofBool, ← Bool.decide_and]

theorem ge_zero (k : Fin 4096) : IntOp.cmpi .sge (BitVec.ofNat 32 k.val) 0#32 = BitVec.ofBool (decide True) := by
  have e : IntOp.cmpi .sge (BitVec.ofNat 32 k.val) 0#32 = BitVec.ofBool (decide ((0#32).toInt ≤ (BitVec.ofNat 32 k.val).toInt)) := rfl
  have hk : (BitVec.ofNat 32 k.val).toInt = (k.val : ℤ) := toInt_ofNat_of_lt (by omega)
  rw [e, hk]
  exact congrArg _ (decide_eq_decide.mpr (iff_of_true (Int.natCast_nonneg _) trivial))

/-- The 512 keys up to the position. -/
theorem wmask_at (k : Fin 4096) : val_main_v106 (F := Ideal) (ix2 t k) = BitVec.ofBool (decide (k.val ≤ t.val ∧ t.val < k.val + 512)) := by
  pointwise [val_main_v106, val_main_v105, val_main_v104, val_main_v103, val_main_v102, val_main_v101, val_main_v100, val_main_v99, val_main_v98, val_main_v97, val_main_v96, val_main_v95, val_main_v94, val_main_v77, val_main_v23, val_main_c_16, val_main_c_17]
  rw [causal_at, gt_back (by omega) (by omega), ge_zero, andi_ofBool, andi_ofBool, ← Bool.decide_and, ← Bool.decide_and]
  exact congrArg _ (decide_eq_decide.mpr (iff_of_eq (and_true _)))

end Cert.ReferenceIdeal.Opened
end
-- ==== Proof.RefLong.lean ====
module

public import proofs.«01_k».proof.Proof.RefPick

@[expose] public section

set_option maxRecDepth 8192
set_option maxHeartbeats 1000000

/-! # The reference's attention over the selected keys and over the window -/

noncomputable section

namespace Cert.ReferenceIdeal.Opened

open Cert.ReferenceIdeal Cert.ReferenceIdeal.Gen Cert.ReferenceIdeal.Read Cert.Soft Cert.Spec Cert.Word Cert.Rank
open Idealize.ShloMosaic Idealize.ShloMosaic.TcCoe Idealize.ShloMosaic.Tactic Idealize.ShloMosaic.WordCmp

variable (x0 : Vec Ideal S4x4096x1024 .f32) (x2 : Vec Ideal S4x4x128x64 .f32) (x4 x5 x6 x7 : Vec Ideal S4x4x4096x64 .f32) (x8 : Vec Ideal S64 .f32)
variable (b g h : Fin 4) (t : Fin 4096)

/-- A weight: the exponential where the mask holds, and nought elsewhere. -/
theorem weight_eq (p : Prop) [Decidable p] (y m : EReal) : Scalar.select (BitVec.ofBool (decide p)) (FloatOps.hostUnary (F := Ideal) (φ := .f32) .exp (FloatOps.subf (F := Ideal) (φ := .f32) y m))
    (FloatOps.ofBits (F := Ideal) .f32 0x00000000#32) = if p then Ideal.exp (y - m) else 0 := by
  rw [select_decide]
  exact if_congr Iff.rfl rfl Ideal.ofBits_zero_f32

/-! ## The selected keys -/

theorem sscore_at (k : Fin 4096) : val_main_v90 (F := Ideal) x0 x4 x8 (ix5 b g h t k) = raw (rq x0 b g t h) (rg x8) (rk x4 b g k) := by
  pointwise [val_main_v90, val_main_v89, val_main_v88, val_main_cst_15]
  simp only [rq_at]
  rfl

theorem smasked_at (k : Fin 4096) : val_main_call4_v0 (F := Ideal) x0 x2 x4 x8 (ix5 b g h t k)
    = selScore t.val (rq x0 b g t h) (rg x8) (rk x4 b g) (key t.val (rq x0 b g t) (rg x8) (rc x2 b g)) k := by
  pointwise [val_main_call4_v0, val_main_call4_cst, val_main_call4_call0_v0, val_main_call4_call0_v1, val_main_call4_call0_v2, val_main_v91]
  rw [smask_at, sscore_at, select_decide, scalar_const, neg_inf]
  rfl

theorem stop_at : val_main_call4_v6 (F := Ideal) x0 x2 x4 x8 (ix5 b g h t 0)
    = top0 (Finset.univ.sup fun k => val_main_call4_v0 (F := Ideal) x0 x2 x4 x8 (ix5 b g h t k)) := by
  have hm : val_main_call4_v1 (F := Ideal) x0 x2 x4 x8 (ix4 b g h t) = Finset.univ.sup fun k => val_main_call4_v0 (F := Ideal) x0 x2 x4 x8 (ix5 b g h t k) := by
    unfold val_main_call4_v1
    exact max_last _ _ _ (fun _ => neg_inf) _ b g h t
  have e : idx_main_call4_v2 (ix5 b g h t 0) = ix4 b g h t := funext fun a => match a with
    | ⟨0, _⟩ => rfl
    | ⟨1, _⟩ => rfl
    | ⟨2, _⟩ => rfl
    | ⟨3, _⟩ => rfl
  rw [val_main_call4_v6_apply, val_main_call4_v5_apply, val_main_call4_v3_apply, val_main_call4_v4_apply, val_main_call4_cst_1_apply, val_main_call4_call1_v1_apply,
    val_main_call4_call1_v0_apply, val_main_call4_cst_2_apply, val_main_call4_v2_apply, e, hm]
  exact top0_eq _

theorem sweight_at (k : Fin 4096) : val_main_call4_v10 (F := Ideal) x0 x2 x4 x8 (ix5 b g h t k)
    = if rankOf (key t.val (rq x0 b g t) (rg x8) (rc x2 b g)) ⟨k.val / 64, by omega⟩ < 16 ∧ k.val ≤ t.val then
        Ideal.exp (val_main_call4_v0 (F := Ideal) x0 x2 x4 x8 (ix5 b g h t k) - val_main_call4_v6 (F := Ideal) x0 x2 x4 x8 (ix5 b g h t 0)) else 0 := by
  have e1 : idx_main_v91 (idx_main_call4_call2_v1 (ix5 b g h t k)) = ix4 b g t k := funext fun a => match a with
    | ⟨0, _⟩ => rfl
    | ⟨1, _⟩ => rfl
    | ⟨2, _⟩ => rfl
    | ⟨3, _⟩ => rfl
  have e2 : idx_main_call4_v7 (ix5 b g h t k) = ix5 b g h t 0 := funext fun a => match a with
    | ⟨0, _⟩ => rfl
    | ⟨1, _⟩ => rfl
    | ⟨2, _⟩ => rfl
    | ⟨3, _⟩ => rfl
    | ⟨4, _⟩ => rfl
  rw [val_main_call4_v10_apply, val_main_call4_v9_apply, val_main_call4_v8_apply, val_main_call4_v7_apply, e2, val_main_call4_call2_v1_apply, val_main_v91_apply, e1,
    smask_at, val_main_call4_call2_v2_apply, val_main_call4_call2_v0_apply, val_main_call4_cst_3_apply]
  exact weight_eq _ _ _

theorem sprob_at (k : Fin 4096) : val_main_v92 (F := Ideal) x0 x2 x4 x8 (ix5 b g h t k)
    = prob eps (selScore t.val (rq x0 b g t h) (rg x8) (rk x4 b g) (key t.val (rq x0 b g t) (rg x8) (rc x2 b g))) k := by
  pointwise [val_main_v92, val_main_call4_v15, val_main_call4_v14, val_main_call4_v13, val_main_call4_v12, val_main_call4_v11, val_main_call4_cst_4, val_main_call4_cst_5]
  have hy := funext fun k => smasked_at x0 x2 x4 x8 b g h t k
  have hs := softmax_of (fun k : Fin 4096 => rankOf (key t.val (rq x0 b g t) (rg x8) (rc x2 b g)) ⟨k.val / 64, by omega⟩ < 16 ∧ k.val ≤ t.val) _ _ _ _
    (fun k => smasked_at x0 x2 x4 x8 b g h t k) (stop_at x0 x2 x4 x8 b g h t) (fun k => sweight_at x0 x2 x4 x8 b g h t k) k
  rw [hy] at hs
  exact hs

/-- The attention over the selected keys. -/
theorem sattn_at (d : Fin 64) : val_main_v93 (F := Ideal) x0 x2 x4 x5 x8 (ix5 b g h t d)
    = attn eps (selScore t.val (rq x0 b g t h) (rg x8) (rk x4 b g) (key t.val (rq x0 b g t) (rg x8) (rc x2 b g))) (fun k => rk x5 b g k d) := by
  pointwise [val_main_v93]
  simp only [sprob_at]
  rfl

/-! ## The window -/

theorem wscore_at (k : Fin 4096) : val_main_v109 (F := Ideal) x0 x6 x8 (ix5 b g h t k) = raw (rq x0 b g t h) (rg x8) (rk x6 b g k) := by
  pointwise [val_main_v109, val_main_v108, val_main_v107, val_main_cst_18]
  simp only [rq_at]
  rfl

theorem wmasked_at (k : Fin 4096) : val_main_call5_v0 (F := Ideal) x0 x6 x8 (ix5 b g h t k) = winScore t.val (rq x0 b g t h) (rg x8) (rk x6 b g) k := by
  pointwise [val_main_call5_v0, val_main_call5_cst, val_main_call5_call0_v0, val_main_call5_call0_v1, val_main_call5_call0_v2]
  rw [wmask_at, wscore_at, select_decide, scalar_const, neg_inf]
  rfl

theorem wtop_at : val_main_call5_v6 (F := Ideal) x0 x6 x8 (ix5 b g h t 0)
    = top0 (Finset.univ.sup fun k => val_main_call5_v0 (F := Ideal) x0 x6 x8 (ix5 b g h t k)) := by
  have hm : val_main_call5_v1 (F := Ideal) x0 x6 x8 (ix4 b g h t) = Finset.univ.sup fun k => val_main_call5_v0 (F := Ideal) x0 x6 x8 (ix5 b g h t k) := by
    unfold val_main_call5_v1
    exact max_last _ _ _ (fun _ => neg_inf) _ b g h t
  have e : idx_main_call5_v2 (ix5 b g h t 0) = ix4 b g h t := funext fun a => match a with
    | ⟨0, _⟩ => rfl
    | ⟨1, _⟩ => rfl
    | ⟨2, _⟩ => rfl
    | ⟨3, _⟩ => rfl
  rw [val_main_call5_v6_apply, val_main_call5_v5_apply, val_main_call5_v3_apply, val_main_call5_v4_apply, val_main_call5_cst_1_apply, val_main_call5_call1_v1_apply,
    val_main_call5_call1_v0_apply, val_main_call5_cst_2_apply, val_main_call5_v2_apply, e, hm]
  exact top0_eq _

theorem wweight_at (k : Fin 4096) : val_main_call5_v10 (F := Ideal) x0 x6 x8 (ix5 b g h t k)
    = if k.val ≤ t.val ∧ t.val < k.val + 512 then
        Ideal.exp (val_main_call5_v0 (F := Ideal) x0 x6 x8 (ix5 b g h t k) - val_main_call5_v6 (F := Ideal) x0 x6 x8 (ix5 b g h t 0)) else 0 := by
  pointwise [val_main_call5_v10, val_main_call5_v9, val_main_call5_v8, val_main_call5_v7, val_main_call5_cst_3, val_main_call5_call2_v0, val_main_call5_call2_v1, val_main_call5_call2_v2]
  rw [wmask_at, select_decide, scalar_const, Ideal.ofBits_zero_f32]

theorem wprob_at (k : Fin 4096) : val_main_v110 (F := Ideal) x0 x6 x8 (ix5 b g h t k) = prob eps (winScore t.val (rq x0 b g t h) (rg x8) (rk x6 b g)) k := by
  pointwise [val_main_v110, val_main_call5_v15, val_main_call5_v14, val_main_call5_v13, val_main_call5_v12, val_main_call5_v11, val_main_call5_cst_4, val_main_call5_cst_5]
  have hy := funext fun k => wmasked_at x0 x6 x8 b g h t k
  have hs := softmax_of (fun k : Fin 4096 => k.val ≤ t.val ∧ t.val < k.val + 512) _ _ _ _
    (fun k => wmasked_at x0 x6 x8 b g h t k) (wtop_at x0 x6 x8 b g h t) (fun k => wweight_at x0 x6 x8 b g h t k) k
  rw [hy] at hs
  exact hs

/-- The attention over the window. -/
theorem wattn_at (d : Fin 64) : val_main_v111 (F := Ideal) x0 x6 x7 x8 (ix5 b g h t d)
    = attn eps (winScore t.val (rq x0 b g t h) (rg x8) (rk x6 b g)) (fun k => rk x7 b g k d) := by
  pointwise [val_main_v111]
  simp only [wprob_at]
  rfl

/-! ## The output -/

variable (x1 : Vec Ideal S4x4096x48 .f32) (x3 : Vec Ideal S4x4x128x64 .f32)

theorem gated_at (d : Fin 64) : val_main_v123 (F := Ideal) x0 x1 x2 x3 x4 x5 x6 x7 x8 (ix5 b g h t d)
    = out t.val (rq x0 b g t) (rg x8) (rgate x1 b g t h) (rc x2 b g) (rc x3 b g) (rk x4 b g) (rk x5 b g) (rk x6 b g) (rk x7 b g) h d := by
  pointwise [val_main_v123, val_main_v122, val_main_v121, val_main_v120, val_main_v119, val_main_v118, val_main_v117, val_main_v116, val_main_v115, val_main_v114, val_main_v113, val_main_v112]
  rw [cattn_at, sattn_at, wattn_at, rgate_at, rgate_at, rgate_at]
  rfl

/-- The reference's output, laid out as the kernel's: 32 blocks of 128 positions, a column for each head and position. -/
theorem result_at (j : Fin 32) (d : Fin 64) (r : Fin 128) : val_main_v126 (F := Ideal) x0 x1 x2 x3 x4 x5 x6 x7 x8 (ix5 b g j d ⟨128 * h.val + r.val, by omega⟩)
    = val_main_v123 (F := Ideal) x0 x1 x2 x3 x4 x5 x6 x7 x8 (ix5 b g h ⟨128 * j.val + r.val, by omega⟩ d) := by
  pointwise [val_main_v126, val_main_v125, val_main_v124]
  exact congrArg (fun p => val_main_v123 (F := Ideal) x0 x1 x2 x3 x4 x5 x6 x7 x8 (ix5 b g h p d)) (Fin.ext (show j.val * 128 + r.val = 128 * j.val + r.val by omega))

end Cert.ReferenceIdeal.Opened
end
-- ==== Proof.Whole.lean ====
module

public import proofs.«01_k».proof.Proof.Host
public import proofs.«01_k».proof.Proof.RefLong

@[expose] public section

set_option maxRecDepth 16384
set_option maxHeartbeats 1000000

/-! # The kernel's whole result -/

noncomputable section

namespace Cert.KernelIdeal.Opened

open Cert.KernelIdeal Cert.KernelIdeal.Gen Cert.Spec
open Idealize.ShloMosaic Idealize.ShloMosaic.TcCoe Idealize.ShloMosaic.Tactic
open Cert.ReferenceIdeal.Opened (rq rg rgate rc rk)

variable (m : (ℓ : Loc nD τ sig) → Buf (Elt Ideal) ℓ) (c : Dev nD) (t : Fin cfg0.N)

/-! ## The arguments -/

abbrev nq : Vec Ideal Cert.ReferenceIdeal.S4x4096x1024 .f32 := m ((c : Thread nD τ).loc main_arg0)
abbrev ng : Vec Ideal Cert.ReferenceIdeal.S4x4096x48 .f32 := m ((c : Thread nD τ).loc main_arg1)
abbrev kc : Vec Ideal Cert.ReferenceIdeal.S4x4x128x64 .f32 := m ((c : Thread nD τ).loc main_arg2)
abbrev vc : Vec Ideal Cert.ReferenceIdeal.S4x4x128x64 .f32 := m ((c : Thread nD τ).loc main_arg3)
abbrev ks : Vec Ideal Cert.ReferenceIdeal.S4x4x4096x64 .f32 := m ((c : Thread nD τ).loc main_arg4)
abbrev vs : Vec Ideal Cert.ReferenceIdeal.S4x4x4096x64 .f32 := m ((c : Thread nD τ).loc main_arg5)
abbrev kw : Vec Ideal Cert.ReferenceIdeal.S4x4x4096x64 .f32 := m ((c : Thread nD τ).loc main_arg6)
abbrev vw : Vec Ideal Cert.ReferenceIdeal.S4x4x4096x64 .f32 := m ((c : Thread nD τ).loc main_arg7)
abbrev gq : Vec Ideal Cert.ReferenceIdeal.S64 .f32 := m ((c : Thread nD τ).loc main_arg8)

/-- The position of a row of a point's block. -/
abbrev pos (r : Fin 128) : Fin 4096 := ⟨128 * (pj t).val + r.val, by omega⟩

/-! ## The blocks of a point -/

theorem q_block (r : Fin 128) : qheads (iblk m c 0 t) r = rq (nq m c) (pb t) (pg t) (pos t r) := by
  funext h d
  exact (congrArg (V m c main_v2) (q_place t d _)).trans (q_entry m c (pb t) (pg t) (pj t) d h r)

theorem g_block : gcol (iblk m c 1 t) = rg (gq m c) := by
  funext d
  exact (congrArg (V m c main_v17) (g_place t d)).trans (g_entry m c d)

theorem gate_block (h : Fin 4) (r : Fin 128) : (fun b : Fin 3 => iblk m c 2 t (ix5 0 0 0 b ⟨128 * h.val + r.val, by omega⟩)) = rgate (ng m c) (pb t) (pg t) (pos t r) h := by
  funext b
  exact (congrArg (V m c main_v5) (gate_place t b _)).trans (gate_entry m c (pb t) (pg t) (pj t) b h r)

theorem kc_block : ckeys (iblk m c 3 t) = rc (kc m c) (pb t) (pg t) := by
  funext k d
  exact (congrArg (V m c main_v6) (kc_place t k d)).trans (kc_entry m c (pb t) (pg t) k d)

theorem vc_block : cvals (iblk m c 4 t) = rc (vc m c) (pb t) (pg t) := by
  funext k d
  exact (congrArg (V m c main_v8) (vc_place t d k)).trans (vc_entry m c (pb t) (pg t) d k)

theorem ks_block : keys (iblk m c 5 t) = rk (ks m c) (pb t) (pg t) := by
  funext k d
  exact (congrArg (V m c main_v9) (ks_place t k d)).trans (ks_entry m c (pb t) (pg t) k d)

theorem vs_block : vals (iblk m c 6 t) = rk (vs m c) (pb t) (pg t) := by
  funext k d
  exact (congrArg (V m c main_v13) (vs_place t _ d _)).trans (vs_entry m c (pb t) (pg t) k d)

theorem kw_block : keys (iblk m c 7 t) = rk (kw m c) (pb t) (pg t) := by
  funext k d
  exact (congrArg (V m c main_v10) (kw_place t k d)).trans (kw_entry m c (pb t) (pg t) k d)

theorem vw_block : vals (iblk m c 8 t) = rk (vw m c) (pb t) (pg t) := by
  funext k d
  exact (congrArg (V m c main_v16) (vw_place t _ d _)).trans (vw_entry m c (pb t) (pg t) k d)

/-! ## The result -/

/-- The reference's result of the same arguments. -/
abbrev reference : Vec Ideal Cert.ReferenceIdeal.S4x4x32x64x512 .f32 :=
  Cert.ReferenceIdeal.Read.val_main_v126 (F := Ideal) (nq m c) (ng m c) (kc m c) (vc m c) (ks m c) (vs m c) (kw m c) (vw m c) (gq m c)

/-- What a point writes back is the reference's result there. -/
theorem point_at (d : Fin 64) (h : Fin 4) (r : Fin 128) :
    k0_pay1 (F := Ideal) (block (grid0.coords t) (iblk m c 0 t) (iblk m c 1 t) (iblk m c 2 t) (iblk m c 3 t) (iblk m c 4 t) (iblk m c 5 t) (iblk m c 6 t) (iblk m c 7 t) (iblk m c 8 t))
        (ix5 0 0 0 d ⟨128 * h.val + r.val, by omega⟩)
      = reference m c (ix5 (pb t) (pg t) (pj t) d ⟨128 * h.val + r.val, by omega⟩) := by
  rw [block_at, q_block, g_block, gate_block, kc_block, vc_block, ks_block, vs_block, kw_block, vw_block]
  unfold reference
  rw [Cert.ReferenceIdeal.Opened.result_at, Cert.ReferenceIdeal.Opened.gated_at]

/-- An index of a block is an element of a head's column. -/
theorem index_of (y : S1x1x1x64x512.Idx) : ∃ (d : Fin 64) (h : Fin 4) (r : Fin 128), y = ix5 0 0 0 d ⟨128 * h.val + r.val, by omega⟩ := by
  have hl : (y 4).val < 512 := (y 4).isLt
  have one : ∀ n : Fin 1, n = 0 := fun n => Subsingleton.elim n 0
  refine ⟨y 3, ⟨(y 4).val / 128, by omega⟩, ⟨(y 4).val % 128, by omega⟩, funext fun a => ?_⟩
  match a with
  | ⟨0, _⟩ => exact one (y 0)
  | ⟨1, _⟩ => exact one (y 1)
  | ⟨2, _⟩ => exact one (y 2)
  | ⟨3, _⟩ => rfl
  | ⟨4, _⟩ => exact Fin.ext (show (y 4).val = 128 * ((y 4).val / 128) + (y 4).val % 128 by omega)

theorem point_eq (y : S1x1x1x64x512.Idx) :
    k0_pay1 (F := Ideal) (block (grid0.coords t) (iblk m c 0 t) (iblk m c 1 t) (iblk m c 2 t) (iblk m c 3 t) (iblk m c 4 t) (iblk m c 5 t) (iblk m c 6 t) (iblk m c 7 t) (iblk m c 8 t)) y
      = reference m c ((win0_9.blk t).view.emb y) := by
  obtain ⟨d, h, r, rfl⟩ := index_of y
  rw [out_place]
  exact point_at m c t d h r

/-- The kernel's result array is the reference's result. -/
theorem result_eq : (dats m 0 c).arrAt 9 cfg0.N = reference m c := by
  refine (dats m 0 c).arrAt_eq_of_covers 9 _ covers fun t hf y => ?_
  blk_simp
  rw [after0_9]
  unfold outsAt0
  rw [out_eq]
  exact point_eq m c t y

end Cert.KernelIdeal.Opened
end
-- ==== Proof.ProjSpec.lean ====
module

public import Idealize.ShloMosaic.Lib.ValueIdx
public import Idealize.ShloMosaic.PureOps.Ideal.Laws

@[expose] public section

/-! # The input projection, in numbers -/

noncomputable section

namespace Cert.Proj

open Idealize.ShloMosaic

/-- A row of the hidden states, brought to unit mean square and scaled by its gains. -/
def normed (x g : Fin 2048 → EReal) (k : Fin 2048) : EReal :=
  x k * Ideal.rsqrt (Ideal.div (∑ j, x j * x j) (Ideal.ofBits .f32 0x45000000#32) + Ideal.ofBits .f32 0x358637BD#32) * g k

/-- Which column of the projection stands at a place of the kernel's result: its eleven parts, then 72 zeros. -/
def source (l : ℕ) : ℕ :=
  if l < 2048 then 5688 + l
  else if l - 2048 < 2048 then 7736 + (l - 2048)
  else if l - 2048 - 2048 < 1024 then 1024 + (l - 2048 - 2048)
  else if l - 2048 - 2048 - 1024 < 1024 then 2056 + (l - 2048 - 2048 - 1024)
  else if l - 2048 - 2048 - 1024 - 1024 < 1024 then 3080 + (l - 2048 - 2048 - 1024 - 1024)
  else if l - 2048 - 2048 - 1024 - 1024 - 1024 < 512 then l - 2048 - 2048 - 1024 - 1024 - 1024
  else if l - 2048 - 2048 - 1024 - 1024 - 1024 - 512 < 512 then 512 + (l - 2048 - 2048 - 1024 - 1024 - 1024 - 512)
  else if l - 2048 - 2048 - 1024 - 1024 - 1024 - 512 - 512 < 1536 then 4104 + (l - 2048 - 2048 - 1024 - 1024 - 1024 - 512 - 512)
  else if l - 2048 - 2048 - 1024 - 1024 - 1024 - 512 - 512 - 1536 < 4 then 2048 + (l - 2048 - 2048 - 1024 - 1024 - 1024 - 512 - 512 - 1536)
  else if l - 2048 - 2048 - 1024 - 1024 - 1024 - 512 - 512 - 1536 - 4 < 4 then 2052 + (l - 2048 - 2048 - 1024 - 1024 - 1024 - 512 - 512 - 1536 - 4)
  else if l - 2048 - 2048 - 1024 - 1024 - 1024 - 512 - 512 - 1536 - 4 - 4 < 48 then 5640 + (l - 2048 - 2048 - 1024 - 1024 - 1024 - 512 - 512 - 1536 - 4 - 4)
  else 9784

/-- A column of the projection by its number, zero beyond the last. -/
def pick (f : Fin 9784 → EReal) (n : ℕ) : EReal := if h : n < 9784 then f ⟨n, h⟩ else 0

theorem pick_of (f : Fin 9784 → EReal) {n : ℕ} (j : Fin 9784) (h : n = j.val) : pick f n = f j := by
  subst h
  exact dif_pos j.isLt

theorem pick_end (f : Fin 9784 → EReal) : pick f 9784 = 0 := dif_neg (lt_irrefl _)

/-- One part of a row that is put together of parts. -/
theorem climb {f : Fin 9784 → EReal} {l n a b : ℕ} {v : l < n → EReal} {rest : ¬l < n → EReal} (hv : ∀ h, v h = pick f a) (hr : ∀ h, rest h = pick f b) :
    (if h : l < n then v h else rest h) = pick f (if l < n then a else b) := by
  by_cases h : l < n
  · rw [dif_pos h, if_pos h, hv]
  · rw [dif_neg h, if_neg h, hr]

/-- A row times the columns in that order is the row times the columns, in that order. -/
theorem pick_sum (a : Fin 2048 → EReal) (w : Fin 2048 → Fin 9784 → EReal) (n : ℕ) :
    ∑ k, a k * pick (w k) n = pick (fun j => ∑ k, a k * w k j) n := by
  unfold pick
  by_cases h : n < 9784
  · simp only [dif_pos h]
  · simp only [dif_neg h, mul_zero, Finset.sum_const_zero]

end Cert.Proj
end
-- ==== Proof.ProjBody.lean ====
module

public import proofs.«01_k».proof.Proof.ProjSpec
public import proofs.«01_k».proof.Proof.Gen.Kernel2Ideal.Value
public import Idealize.ShloMosaic.Lib.Pipeline.ValueKit
public import Idealize.ShloMosaic.Lib.Pipeline.Covers

@[expose] public section

set_option maxRecDepth 16384
set_option maxHeartbeats 1000000

/-! # The input projection: what a point leaves behind -/

noncomputable section

namespace Cert.Kernel2Ideal.Opened

open Cert.Kernel2Ideal Cert.Kernel2Ideal.Gen Cert.Proj
open Idealize.ShloMosaic Idealize.ShloMosaic.TcCoe Idealize.ShloMosaic.Tactic

/-- What a sweep of the column blocks keeps of its block of rows: the normed rows. -/
theorem rows_at (x : Vec Ideal S1024x2048 .f32) (g : Vec Ideal S1x2048 .f32) (r : Fin 1024) (k : Fin 2048) :
    k0_pay1 (F := Ideal) x g (ix2 r k) = normed (fun j => x (ix2 r j)) (fun j => g (ix2 0 j)) k := by
  unfold k0_pay1 normed
  pointwise

/-- A block of the result: rows times columns. -/
theorem product_at (h : Vec Ideal S1024x2048 .bf16) (w : Vec Ideal S2048x896 .bf16) (r : Fin 1024) (q : Fin 896) :
    k0_pay2 (F := Ideal) h w (ix2 r q) = ∑ k : Fin 2048, h (ix2 r k) * w (ix2 k q) := by
  unfold k0_pay2
  pointwise

section
variable {F : FTy → Type} [FloatOps F]

theorem zero_start : (![0, 0] : Fin 2 → Nat) = fun _ => 0 := funext fun a => by fin_cases a <;> rfl

variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x896 .bf16) (harg4 : arg4.IsWhole) (arg5 : Memref sig .tc .vmem S1024x896 .f32) (harg5 : arg5.IsWhole)
  (arg6 : Memref sig .tc .vmem S1024x2048 .bf16) (harg6 : arg6.IsWhole)
  (x0 : Vec F S1024x2048 .f32) (x1 : Vec F S1x2048 .f32) (x2 : Vec F S2048x896 .bf16) (xs0 : Vec F S1024x2048 .bf16)

/-- The first column block's point keeps the normed rows. -/
theorem keeps_first (hc0 : cond0_0 i) :
    sout0_A_0 c i arg2 harg2 arg3 harg3 arg4 harg4 arg5 harg5 arg6 harg6 hc0 x0 x1 x2 = k0_pay1 x0 x1 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_run_names
  simp only [View.canon_unit_zero (S := S1024x2048) zero_start, View.readAt_eq_ld, harg2.read_unread, harg3.read_unread, View.ld_unit_zero (S := S1024x2048) zero_start,
    View.ld_unit_zero (S := S1x2048) zero_start]

/-- The first column block's point multiplies the rows that it has just normed. -/
theorem out_first (hc0 : cond0_0 i) :
    out0_A_3 c i arg2 harg2 arg3 harg3 arg4 harg4 arg5 harg5 arg6 harg6 hc0 x0 x1 x2 = k0_pay2 (k0_pay1 x0 x1) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_run_names
  simp only [View.canon_unit_zero (S := S1024x896) zero_start, View.readAt_eq_ld, harg2.read_unread, harg3.read_unread, harg4.read_unread,
    View.ld_unit_zero (S := S1024x2048) zero_start, View.ld_unit_zero (S := S1x2048) zero_start, View.ld_unit_zero (S := S2048x896) zero_start,
    View.readCov_unit_zero (S := S1024x2048) _ zero_start]

/-- A later point multiplies the rows that it finds. -/
theorem out_later (hc0 : ¬cond0_0 i) :
    out0_B_3 c i arg2 harg2 arg3 harg3 arg4 harg4 arg5 harg5 arg6 harg6 hc0 x0 x1 x2 xs0 = k0_pay2 xs0 x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  simp only [View.canon_unit_zero (S := S1024x896) zero_start, View.readAt_eq_ld, harg4.read_unread, harg6.read_unread,
    View.ld_unit_zero (S := S1024x2048) zero_start, View.ld_unit_zero (S := S2048x896) zero_start]
end

end Cert.Kernel2Ideal.Opened
end
-- ==== Proof.ProjHost.lean ====
module

public import proofs.«01_k».proof.Proof.ProjBody

@[expose] public section

set_option maxRecDepth 16384
set_option maxHeartbeats 1000000

/-! # The input projection: the blocks that the kernel is given, as the arguments' entries -/

noncomputable section

namespace Cert.Kernel2Ideal.Opened

open Cert.Kernel2Ideal Cert.Kernel2Ideal.Gen Cert.Proj
open Idealize.ShloMosaic Idealize.ShloMosaic.TcCoe Idealize.ShloMosaic.Tactic

variable (m : (ℓ : Loc nD τ sig) → Buf (Elt Ideal) ℓ) (c : Dev nD) (t : Fin cfg0.N)

abbrev xs : Vec Ideal S4x4096x2048 .f32 := m ((c : Thread nD τ).loc main_arg0)
abbrev gs : Vec Ideal S2048 .f32 := m ((c : Thread nD τ).loc main_arg1)
abbrev ws : Vec Ideal S2048x9784 .f32 := m ((c : Thread nD τ).loc main_arg2)

/-! ## The arrays that the host code lays out -/

theorem x_entry (r : Fin 16384) (k : Fin 2048) : V m c main_v24 (ix2 r k) = xs m c (ix3 ⟨r.val / 4096, by omega⟩ ⟨r.val % 4096, by omega⟩ k) := by
  entry_read
  pointwise

theorem g_entry (k : Fin 2048) : V m c main_v25 (ix2 0 k) = gs m c (ix1 k) := by
  entry_read
  pointwise

/-- An entry of the weights by its column's number. -/
theorem part (w : Vec Ideal S2048x9784 .f32) {k : Fin 2048} {n : ℕ} {i : S2048x9784.Idx} (h0 : i 0 = k) (h1 : n = (i 1).val) :
    w i = pick (fun j => w (ix2 k j)) n := by
  subst h0
  rw [pick_of _ (i 1) h1]
  exact congrArg _ (funext fun a => match a with | ⟨0, _⟩ => rfl | ⟨1, _⟩ => rfl)

/-- The weights' columns, laid out part by part in the kernel's order, with 72 zeros after them. -/
def laid (w : Vec Ideal S2048x9784 .f32) : Vec Ideal S2048x9856 .bf16 :=
  concatenate S2048x9856 1 [
    ⟨S2048x2048, (truncf (F := Ideal) .bf16 (extractStridedSlice S2048x2048 ![0, 5688] w slices_S2048x9784_S2048x2048_0_5688) bitsLt_bf16_f32 : Vec Ideal S2048x2048 .bf16)⟩,
    ⟨S2048x2048, (truncf (F := Ideal) .bf16 (extractStridedSlice S2048x2048 ![0, 7736] w slices_S2048x9784_S2048x2048_0_7736) bitsLt_bf16_f32 : Vec Ideal S2048x2048 .bf16)⟩,
    ⟨S2048x1024, (truncf (F := Ideal) .bf16 (extractStridedSlice S2048x1024 ![0, 1024] w slices_S2048x9784_S2048x1024_0_1024) bitsLt_bf16_f32 : Vec Ideal S2048x1024 .bf16)⟩,
    ⟨S2048x1024, (truncf (F := Ideal) .bf16 (extractStridedSlice S2048x1024 ![0, 2056] w slices_S2048x9784_S2048x1024_0_2056) bitsLt_bf16_f32 : Vec Ideal S2048x1024 .bf16)⟩,
    ⟨S2048x1024, (truncf (F := Ideal) .bf16 (extractStridedSlice S2048x1024 ![0, 3080] w slices_S2048x9784_S2048x1024_0_3080) bitsLt_bf16_f32 : Vec Ideal S2048x1024 .bf16)⟩,
    ⟨S2048x512, (truncf (F := Ideal) .bf16 (extractStridedSlice S2048x512 ![0, 0] w slices_S2048x9784_S2048x512_0_0) bitsLt_bf16_f32 : Vec Ideal S2048x512 .bf16)⟩,
    ⟨S2048x512, (truncf (F := Ideal) .bf16 (extractStridedSlice S2048x512 ![0, 512] w slices_S2048x9784_S2048x512_0_512) bitsLt_bf16_f32 : Vec Ideal S2048x512 .bf16)⟩,
    ⟨S2048x1536, (truncf (F := Ideal) .bf16 (extractStridedSlice S2048x1536 ![0, 4104] w slices_S2048x9784_S2048x1536_0_4104) bitsLt_bf16_f32 : Vec Ideal S2048x1536 .bf16)⟩,
    ⟨S2048x4, (truncf (F := Ideal) .bf16 (extractStridedSlice S2048x4 ![0, 2048] w slices_S2048x9784_S2048x4_0_2048) bitsLt_bf16_f32 : Vec Ideal S2048x4 .bf16)⟩,
    ⟨S2048x4, (truncf (F := Ideal) .bf16 (extractStridedSlice S2048x4 ![0, 2052] w slices_S2048x9784_S2048x4_0_2052) bitsLt_bf16_f32 : Vec Ideal S2048x4 .bf16)⟩,
    ⟨S2048x48, (truncf (F := Ideal) .bf16 (extractStridedSlice S2048x48 ![0, 5640] w slices_S2048x9784_S2048x48_0_5640) bitsLt_bf16_f32 : Vec Ideal S2048x48 .bf16)⟩,
    ⟨S2048x72, (broadcastInDim S2048x72 ![] bcast_S_S2048x72 (constant (F := Ideal) S_ .bf16 0x0000#16 : Vec Ideal S_ .bf16) : Vec Ideal S2048x72 .bf16)⟩] concatenates_S2048x2048_S2048x2048_S2048x1024_S2048x1024_S2048x1024_S2048x512_S2048x512_S2048x1536_S2048x4_S2048x4_S2048x48_S2048x72_S2048x9856_d1

theorem w_array : V m c main_v23 = laid (ws m c) := by
  unfold laid
  after_results_simp
  rfl

theorem w_entry (k : Fin 2048) (l : Fin 9856) : V m c main_v23 (ix2 k l) = pick (fun j => ws m c (ix2 k j)) (source l.val) := by
  rw [w_array]
  unfold laid
  pointwise
  unfold source
  refine climb (fun _ => part (ws m c) rfl rfl) (fun _ => ?_)
  refine climb (fun _ => part (ws m c) rfl rfl) (fun _ => ?_)
  refine climb (fun _ => part (ws m c) rfl rfl) (fun _ => ?_)
  refine climb (fun _ => part (ws m c) rfl rfl) (fun _ => ?_)
  refine climb (fun _ => part (ws m c) rfl rfl) (fun _ => ?_)
  refine climb (fun _ => part (ws m c) rfl rfl) (fun _ => ?_)
  refine climb (fun _ => part (ws m c) rfl rfl) (fun _ => ?_)
  refine climb (fun _ => part (ws m c) rfl rfl) (fun _ => ?_)
  refine climb (fun _ => part (ws m c) rfl rfl) (fun _ => ?_)
  refine climb (fun _ => part (ws m c) rfl rfl) (fun _ => ?_)
  refine climb (fun _ => part (ws m c) rfl rfl) (fun _ => ?_)
  exact (pick_end _).symm

/-! ## Where a block's entry lies in its array -/

/-- The block of rows and the block of columns of a point. -/
abbrev pr : Fin 16 := grid0.coords t 0
abbrev pq : Fin 11 := grid0.coords t 1

theorem point_rows (t : Fin cfg0.N) : (pr t).val = t.val / 11 :=
  (by decide +kernel : ∀ t : Fin grid0.N, (grid0.coords t 0).val = t.val / 11) t

theorem num16 (a : Fin 16) : (BitVec.ofNat 32 a.val).toNat = a.val := by rw [BitVec.toNat_ofNat, Nat.mod_eq_of_lt (by omega)]
theorem num11 (a : Fin 11) : (BitVec.ofNat 32 a.val).toNat = a.val := by rw [BitVec.toNat_ofNat, Nat.mod_eq_of_lt (by omega)]

theorem place0 (i : grid0.Coords) : (![(BitVec.ofNat 32 (i 0).val).toNat, (0#32).toNat] : Fin 2 → ℕ) = ![(i 0).val, 0] := by
  rw [num16 (i 0)]; rfl
theorem place2 (i : grid0.Coords) : (![(0#32).toNat, (BitVec.ofNat 32 (i 1).val).toNat] : Fin 2 → ℕ) = ![0, (i 1).val] := by
  rw [num11 (i 1)]; rfl
theorem place3 (i : grid0.Coords) : (![(BitVec.ofNat 32 (i 0).val).toNat, (BitVec.ofNat 32 (i 1).val).toNat] : Fin 2 → ℕ) = ![(i 0).val, (i 1).val] := by
  rw [num16 (i 0), num11 (i 1)]

theorem x_place (r : Fin 1024) (k : Fin 2048) : (win0_0.blk t).view.emb (ix2 r k) = ix2 ⟨1024 * (pr t).val + r.val, by omega⟩ k := by
  blk_ext [show win0_0.index t = ![(pr t).val, 0] from place0 _]

theorem g_place (k : Fin 2048) : (win0_1.blk t).view.emb (ix2 0 k) = ix2 0 k := by
  blk_ext [show win0_1.index t = ![0, 0] from rfl]

theorem w_place (k : Fin 2048) (q : Fin 896) : (win0_2.blk t).view.emb (ix2 k q) = ix2 k ⟨896 * (pq t).val + q.val, by omega⟩ := by
  blk_ext [show win0_2.index t = ![0, (pq t).val] from place2 _]

theorem out_place (r : Fin 1024) (q : Fin 896) : (win0_3.blk t).view.emb (ix2 r q) = ix2 ⟨1024 * (pr t).val + r.val, by omega⟩ ⟨896 * (pq t).val + q.val, by omega⟩ := by
  blk_ext [show win0_3.index t = ![(pr t).val, (pq t).val] from place3 _]

/-! ## The blocks of a point -/

/-- The normed row of a token. -/
abbrev row (r : Fin 16384) : Fin 2048 → EReal :=
  normed (fun j => xs m c (ix3 ⟨r.val / 4096, by omega⟩ ⟨r.val % 4096, by omega⟩ j)) (fun j => gs m c (ix1 j))

theorem x_block (r : Fin 1024) : (fun j => iblk m c 0 t (ix2 r j))
    = fun j => xs m c (ix3 ⟨(1024 * (pr t).val + r.val) / 4096, by omega⟩ ⟨(1024 * (pr t).val + r.val) % 4096, by omega⟩ j) := by
  funext j
  exact (congrArg (V m c main_v24) (x_place t r j)).trans (x_entry m c _ j)

theorem g_block : (fun j => iblk m c 1 t (ix2 0 j)) = fun j => gs m c (ix1 j) := by
  funext j
  exact (congrArg (V m c main_v25) (g_place t j)).trans (g_entry m c j)

theorem w_block (k : Fin 2048) (q : Fin 896) : iblk m c 2 t (ix2 k q) = pick (fun j => ws m c (ix2 k j)) (source (896 * (pq t).val + q.val)) :=
  (congrArg (V m c main_v23) (w_place t k q)).trans (w_entry m c k _)

end Cert.Kernel2Ideal.Opened
end
-- ==== Proof.ProjRef.lean ====
module

public import proofs.«01_k».proof.Proof.ProjSpec
public import proofs.«01_k».proof.Proof.Gen.Reference2Ideal.Read
public import Idealize.ShloMosaic.Lib.Pipeline.ValueKit

@[expose] public section

set_option maxRecDepth 16384
set_option maxHeartbeats 1000000

/-! # The input projection: the reference, read at an index -/

noncomputable section

namespace Cert.Reference2Ideal.Opened

open Cert.Reference2Ideal Cert.Reference2Ideal.Gen Cert.Reference2Ideal.Read Cert.Proj
open Idealize.ShloMosaic Idealize.ShloMosaic.TcCoe Idealize.ShloMosaic.Tactic

variable (x : Vec Ideal S4x4096x2048 .f32) (g : Vec Ideal S2048 .f32) (w : Vec Ideal S2048x9784 .f32)

/-- The normed row of a token. -/
abbrev row (b : Fin 4) (s : Fin 4096) : Fin 2048 → EReal := normed (fun j => x (ix3 b s j)) (fun j => g (ix1 j))

theorem zero_bits : Ideal.ofBits .f32 0x00000000#32 = 0 := by
  simp

theorem mean_at (b : Fin 4) (s : Fin 4096) : val_main_v4 (F := Ideal) x (ix3 b s 0)
    = Ideal.div (∑ j, x (ix3 b s j) * x (ix3 b s j)) (Ideal.ofBits .f32 0x45000000#32) := by
  rw [val_main_v4_apply, val_main_v2_apply, val_main_v3_apply, val_main_cst_0_apply,
    show idx_main_v2 (ix3 b s 0) = ix2 b s from funext fun a => match a with | ⟨0, _⟩ => rfl | ⟨1, _⟩ => rfl, val_main_v1_apply]
  have z : val_main_cst (F := Ideal) (Shape.Idx.first h_S_) = 0 := zero_bits
  rw [z, zero_add]
  exact congrArg (fun s => Ideal.div s _) (Finset.sum_congr rfl fun k _ => congrArg (fun i => x i * x i)
    (show idx_main_v1 (ix2 b s) k = ix3 b s k from funext fun a => match a with | ⟨0, _⟩ => rfl | ⟨1, _⟩ => rfl | ⟨2, _⟩ => rfl))

theorem normed_at (b : Fin 4) (s : Fin 4096) (k : Fin 2048) : val_main_v12 (F := Ideal) x g (ix3 b s k) = row x g b s k := by
  rw [val_main_v12_apply, val_main_v9_apply, val_main_v8_apply, val_main_v11_apply, val_main_v10_apply,
    show idx_main_v8 (ix3 b s k) = ix3 b s 0 from funext fun a => match a with | ⟨0, _⟩ => rfl | ⟨1, _⟩ => rfl | ⟨2, _⟩ => rfl,
    show idx_main_v10 (idx_main_v11 (ix3 b s k)) = ix1 k from funext fun a => match a with | ⟨0, _⟩ => rfl,
    val_main_v7_apply, val_main_v6_apply, mean_at, val_main_v5_apply, val_main_cst_1_apply]
  rfl

theorem product_at (b : Fin 4) (s : Fin 4096) (j : Fin 9784) :
    val_main_v13 (F := Ideal) x g w (ix3 b s j) = ∑ k, row x g b s k * w (ix2 k j) := by
  rw [val_main_v13_apply]
  refine Finset.sum_congr rfl fun k _ => ?_
  rw [← normed_at]
  congr 2
  all_goals exact funext fun a => by fin_cases a <;> rfl

/-- An entry of the projection by its column's number. -/
theorem part {b : Fin 4} {s : Fin 4096} {n : ℕ} {i : S4x4096x9784.Idx} (h0 : i 0 = b) (h1 : i 1 = s) (h2 : n = (i 2).val) :
    val_main_v13 (F := Ideal) x g w i = pick (fun j => val_main_v13 (F := Ideal) x g w (ix3 b s j)) n := by
  subst h0 h1
  rw [pick_of _ (i 2) h2]
  exact congrArg _ (funext fun a => match a with | ⟨0, _⟩ => rfl | ⟨1, _⟩ => rfl | ⟨2, _⟩ => rfl)

theorem parts_at (b : Fin 4) (s : Fin 4096) (l : Fin 9856) :
    val_main_v26 (F := Ideal) x g w (ix3 b s l) = pick (fun j => val_main_v13 (F := Ideal) x g w (ix3 b s j)) (source l.val) := by
  unfold val_main_v26
  pointwise
  unfold source
  refine climb (fun _ => (val_main_v23_apply x g w _).trans (part x g w rfl rfl rfl)) (fun _ => ?_)
  refine climb (fun _ => (val_main_v24_apply x g w _).trans (part x g w rfl rfl rfl)) (fun _ => ?_)
  refine climb (fun _ => (val_main_v16_apply x g w _).trans (part x g w rfl rfl rfl)) (fun _ => ?_)
  refine climb (fun _ => (val_main_v19_apply x g w _).trans (part x g w rfl rfl rfl)) (fun _ => ?_)
  refine climb (fun _ => (val_main_v20_apply x g w _).trans (part x g w rfl rfl rfl)) (fun _ => ?_)
  refine climb (fun _ => (val_main_v14_apply x g w _).trans (part x g w rfl rfl rfl)) (fun _ => ?_)
  refine climb (fun _ => (val_main_v15_apply x g w _).trans (part x g w rfl rfl rfl)) (fun _ => ?_)
  refine climb (fun _ => (val_main_v21_apply x g w _).trans (part x g w rfl rfl rfl)) (fun _ => ?_)
  refine climb (fun _ => (val_main_v17_apply x g w _).trans (part x g w rfl rfl rfl)) (fun _ => ?_)
  refine climb (fun _ => (val_main_v18_apply x g w _).trans (part x g w rfl rfl rfl)) (fun _ => ?_)
  refine climb (fun _ => (val_main_v22_apply x g w _).trans (part x g w rfl rfl rfl)) (fun _ => ?_)
  rw [pick_end, val_main_v25_apply]
  exact zero_bits

/-- The reference's result: the normed row times the columns, in the kernel's order. -/
theorem result_at (t : Fin 16384) (l : Fin 9856) :
    val_main_v27 (F := Ideal) x g w (ix2 t l)
      = pick (fun j => ∑ k, row x g ⟨t.val / 4096, by omega⟩ ⟨t.val % 4096, by omega⟩ k * w (ix2 k j)) (source l.val) := by
  rw [val_main_v27_apply, show idx_main_v27 (ix2 t l) = ix3 ⟨t.val / 4096, by omega⟩ ⟨t.val % 4096, by omega⟩ l from funext fun a => match a with
    | ⟨0, _⟩ => Fin.ext (show (t.val * 9856 + l.val) / 40370176 = t.val / 4096 by omega)
    | ⟨1, _⟩ => Fin.ext (show (t.val * 9856 + l.val) / 9856 % 4096 = t.val % 4096 by omega)
    | ⟨2, _⟩ => Fin.ext (show (t.val * 9856 + l.val) % 9856 = l.val by omega), parts_at]
  simp only [product_at]

end Cert.Reference2Ideal.Opened
end
-- ==== Proof.ProjWhole.lean ====
module

public import proofs.«01_k».proof.Proof.ProjHost
public import proofs.«01_k».proof.Proof.ProjRef

@[expose] public section

set_option maxRecDepth 16384
set_option maxHeartbeats 1000000

/-! # The input projection: the kernel's whole result -/

noncomputable section

namespace Cert.Kernel2Ideal.Opened

open Cert.Kernel2Ideal Cert.Kernel2Ideal.Gen Cert.Proj
open Idealize.ShloMosaic Idealize.ShloMosaic.TcCoe Idealize.ShloMosaic.Tactic

variable (m : (ℓ : Loc nD τ sig) → Buf (Elt Ideal) ℓ) (c : Dev nD) (t : Fin cfg0.N)

/-- The number of a row of a point's block. -/
abbrev line (r : Fin 1024) : Fin 16384 := ⟨1024 * (pr t).val + r.val, by omega⟩

/-- The first point of a block of rows norms its rows. -/
theorem first_rows (r : Fin 1024) (k : Fin 2048) : k0_pay1 (F := Ideal) (iblk m c 0 t) (iblk m c 1 t) (ix2 r k) = row m c (line t r) k := by
  rw [rows_at, x_block, g_block]

/-- After every point the scratch buffer holds the normed rows of the point's block. -/
theorem kept_rows : ∀ (n : ℕ) (hn : n < cfg0.N) (r : Fin 1024) (k : Fin 2048), (outsAt0 m c n hn).2 (ix2 r k) = row m c (line ⟨n, hn⟩ r) k := by
  intro n
  induction n with
  | zero =>
    intro hn r k
    rw [outsAt0_A m c ⟨0, hn⟩ rfl]
    dsimp only
    rw [keeps_first, first_rows]
  | succ n ih =>
    intro hn r k
    by_cases h0 : (n + 1) % 11 = 0
    · rw [outsAt0_A m c ⟨n + 1, hn⟩ h0]
      dsimp only
      rw [keeps_first, first_rows]
    · rw [outsAt0_B m c ⟨n + 1, hn⟩ h0]
      have e : line ⟨n + 1, hn⟩ r = line ⟨n, Nat.lt_of_succ_lt hn⟩ r := by
        apply Fin.ext
        show 1024 * (pr _).val + r.val = 1024 * (pr _).val + r.val
        rw [point_rows, point_rows]
        show 1024 * ((n + 1) / 11) + r.val = 1024 * (n / 11) + r.val
        omega
      rw [e]
      exact ih (Nat.lt_of_succ_lt hn) r k

/-- A point multiplies the normed rows of its block by its block of columns. -/
theorem point_rows_at (r : Fin 1024) (q : Fin 896) : (outsAt0 m c t.val t.isLt).1 (ix2 r q) = ∑ k, row m c (line t r) k * iblk m c 2 t (ix2 k q) := by
  by_cases h0 : t.val % 11 = 0
  · rw [outsAt0_A m c t h0]
    dsimp only
    rw [out_first, product_at]
    exact Finset.sum_congr rfl fun k _ => congrArg (· * iblk m c 2 t (ix2 k q)) (first_rows m c t r k)
  · have hs : (outsAt0 m c t.val t.isLt).2 = (outsAt0 m c (t.val - 1) (Nat.lt_of_le_of_lt (Nat.sub_le _ _) t.isLt)).2 := by
      rw [outsAt0_B m c t h0]
      rfl
    have hk := fun k => kept_rows m c t.val t.isLt r k
    rw [hs] at hk
    rw [outsAt0_B m c t h0]
    dsimp only
    rw [out_later, product_at]
    exact Finset.sum_congr rfl fun k _ => congrArg (· * iblk m c 2 t (ix2 k q)) (hk k)

/-- The reference's result of the same arguments. -/
abbrev reference : Vec Ideal Cert.Reference2Ideal.S16384x9856 .f32 := Cert.Reference2Ideal.Read.val_main_v27 (F := Ideal) (xs m c) (gs m c) (ws m c)

theorem point_at (r : Fin 1024) (q : Fin 896) :
    (outsAt0 m c t.val t.isLt).1 (ix2 r q) = reference m c (ix2 (line t r) ⟨896 * (pq t).val + q.val, by omega⟩) := by
  rw [point_rows_at]
  unfold reference
  rw [Cert.Reference2Ideal.Opened.result_at, ← pick_sum]
  exact Finset.sum_congr rfl fun k _ => congrArg (row m c (line t r) k * ·) (w_block m c t k q)

/-- What a point writes back is the reference's result there. -/
theorem point_eq (y : S1024x896.Idx) : (outsAt0 m c t.val t.isLt).1 y = reference m c ((win0_3.blk t).view.emb y) := by
  obtain ⟨r, q, rfl⟩ : ∃ (r : Fin 1024) (q : Fin 896), y = ix2 r q :=
    ⟨y 0, y 1, funext fun a => match a with | ⟨0, _⟩ => rfl | ⟨1, _⟩ => rfl⟩
  rw [out_place]
  exact point_at m c t r q

/-- The point of a block of rows and a block of columns. -/
abbrev pt (a : Fin 16) (b : Fin 11) : grid0.Coords := fun x => match x with
  | ⟨0, _⟩ => a
  | ⟨1, _⟩ => b

/-- The blocks written back tile the result. -/
theorem covers : (cfg0.win 3).Covers :=
  (cfg0.win 3).covers_of_indexMap_surj rfl (by decide) fun β =>
    have n0 : (cfg0.win 3).nblk ⟨0, by decide⟩ = 16 := by decide
    have n1 : (cfg0.win 3).nblk ⟨1, by decide⟩ = 11 := by decide
    ⟨pt ⟨(β ⟨0, by decide⟩).val, lt_of_lt_of_eq (β ⟨0, by decide⟩).isLt n0⟩ ⟨(β ⟨1, by decide⟩).val, lt_of_lt_of_eq (β ⟨1, by decide⟩).isLt n1⟩, fun a => by
      refine (congrFun (place3 (pt _ _)) a).trans ?_
      match a with
      | ⟨0, _⟩ => rfl
      | ⟨1, _⟩ => rfl⟩

/-- The kernel's result array is the reference's result. -/
theorem result_eq : (dats m 0 c).arrAt 3 cfg0.N = reference m c := by
  refine (dats m 0 c).arrAt_eq_of_covers 3 _ covers fun t hf y => ?_
  blk_simp
  rw [after0_3]
  exact point_eq m c t y

end Cert.Kernel2Ideal.Opened
end
-- ==== Proof.OutSpec.lean ====
module

public import proofs.«01_k».proof.Proof.ProjSpec

@[expose] public section

/-! # The output projection, in numbers -/

noncomputable section

namespace Cert.Out

open Idealize.ShloMosaic

/-- A column of the two mixers' projections, merged by the two gates. -/
def merged (gm gn : EReal) (hm hn wm wn : Fin 1024 → EReal) : EReal :=
  Ideal.logistic gm * (∑ k, hm k * wm k) + Ideal.logistic gn * ∑ k, hn k * wn k

/-- A column of a token's new hidden state. -/
def mixed (x : EReal) (u w : Fin 2048 → EReal) : EReal := x + ∑ k, u k * w k

/-- What stands at a place of the router's row: four groups, 32 experts, then zeros. -/
def routed (wg : Fin 4 → EReal) (we : Fin 32 → EReal) (l : ℕ) : EReal :=
  if h : l < 4 then wg ⟨l, h⟩ else if h : l - 4 < 32 then we ⟨l - 4, h⟩ else 0

/-- A row times the router's columns, and the biases, place by place. -/
theorem routed_sum (r : Fin 2048 → EReal) (wg : Fin 2048 → Fin 4 → EReal) (we : Fin 2048 → Fin 32 → EReal) (bg : Fin 4 → EReal) (be : Fin 32 → EReal) (l : ℕ) :
    (∑ k, r k * routed (wg k) (we k) l) + routed bg be l
      = routed (fun j => (∑ k, r k * wg k j) + bg j) (fun j => (∑ k, r k * we k j) + be j) l := by
  unfold routed
  by_cases h : l < 4
  · simp only [dif_pos h]
  · simp only [dif_neg h]
    by_cases h' : l - 4 < 32
    · simp only [dif_pos h']
    · simp only [dif_neg h', mul_zero, Finset.sum_const_zero, add_zero]

end Cert.Out
end
-- ==== Proof.OutBody.lean ====
module

public import proofs.«01_k».proof.Proof.OutSpec
public import proofs.«01_k».proof.Proof.Gen.Kernel3Ideal.Skeleton
public import Idealize.ShloMosaic.Lib.Pipeline.ValueKit

@[expose] public section

set_option maxRecDepth 16384
set_option maxHeartbeats 1000000

/-! # The output projection: what a point computes, read at an index -/

noncomputable section

namespace Cert.Kernel3Ideal.Opened

open Cert.Kernel3Ideal Cert.Kernel3Ideal.Gen Cert.Proj Cert.Out
open Idealize.ShloMosaic Idealize.ShloMosaic.TcCoe Idealize.ShloMosaic.Tactic

variable (hm hn : Vec Ideal S256x1024 .f32) (wm wn : Vec Ideal S1024x2048 .bf16) (gm gn x : Vec Ideal S256x2048 .f32) (wo : Vec Ideal S2048x2048 .bf16)
  (g : Vec Ideal S1x2048 .f32) (wr : Vec Ideal S2048x128 .bf16) (br : Vec Ideal S1x128 .f32)

theorem mixed_at (r : Fin 256) (q : Fin 2048) : k0_pay3 (F := Ideal) hm wm hn wn gm gn x wo (ix2 r q)
    = mixed (x (ix2 r q)) (fun k => merged (gm (ix2 r k)) (gn (ix2 r k)) (fun j => hm (ix2 r j)) (fun j => hn (ix2 r j)) (fun j => wm (ix2 j k)) (fun j => wn (ix2 j k)))
        (fun k => wo (ix2 k q)) := by
  unfold k0_pay3 mixed merged
  pointwise

theorem rows_at (r : Fin 256) (k : Fin 2048) :
    k0_pay1 (F := Ideal) (k0_pay3 hm wm hn wn gm gn x wo) (k0_pay4 hm wm hn wn gm gn x wo) g (ix2 r k)
      = normed (fun j => k0_pay3 (F := Ideal) hm wm hn wn gm gn x wo (ix2 r j)) (fun j => g (ix2 0 j)) k := by
  unfold k0_pay1 k0_pay4 normed
  generalize k0_pay3 (F := Ideal) hm wm hn wn gm gn x wo = y
  pointwise

theorem scores_at (y : Vec Ideal S256x2048 .f32) (s : Vec Ideal S256x1 .f32) (r : Fin 256) (l : Fin 128) :
    k0_pay2 (F := Ideal) y s g wr br (ix2 r l) = (∑ k, k0_pay1 (F := Ideal) y s g (ix2 r k) * wr (ix2 k l)) + br (ix2 0 l) := by
  unfold k0_pay2
  generalize k0_pay1 (F := Ideal) y s g = z
  pointwise

end Cert.Kernel3Ideal.Opened
end
-- ==== Proof.OutHost.lean ====
module

public import proofs.«01_k».proof.Proof.OutBody
public import proofs.«01_k».proof.Proof.Gen.Kernel3Ideal.Value

@[expose] public section

set_option maxRecDepth 16384
set_option maxHeartbeats 1000000

/-! # The output projection: the blocks that the kernel is given, as the arguments' entries -/

noncomputable section

namespace Cert.Kernel3Ideal.Opened

open Cert.Kernel3Ideal Cert.Kernel3Ideal.Gen Cert.Proj Cert.Out
open Idealize.ShloMosaic Idealize.ShloMosaic.TcCoe Idealize.ShloMosaic.Tactic

variable (m : (ℓ : Loc nD τ sig) → Buf (Elt Ideal) ℓ) (c : Dev nD) (t : Fin cfg0.N)

abbrev xs : Vec Ideal S4x4096x2048 .f32 := m ((c : Thread nD τ).loc main_arg0)
abbrev ps : Vec Ideal S16384x9856 .f32 := m ((c : Thread nD τ).loc main_arg1)
abbrev hms : Vec Ideal S4x4096x1024 .f32 := m ((c : Thread nD τ).loc main_arg2)
abbrev hns : Vec Ideal S4x4096x1024 .f32 := m ((c : Thread nD τ).loc main_arg3)
abbrev wms : Vec Ideal S1024x2048 .f32 := m ((c : Thread nD τ).loc main_arg4)
abbrev wns : Vec Ideal S1024x2048 .f32 := m ((c : Thread nD τ).loc main_arg5)
abbrev wos : Vec Ideal S2048x2048 .f32 := m ((c : Thread nD τ).loc main_arg6)
abbrev gs : Vec Ideal S2048 .f32 := m ((c : Thread nD τ).loc main_arg7)
abbrev wgs : Vec Ideal S2048x4 .f32 := m ((c : Thread nD τ).loc main_arg8)
abbrev bgs : Vec Ideal S4 .f32 := m ((c : Thread nD τ).loc main_arg9)
abbrev wes : Vec Ideal S2048x32 .f32 := m ((c : Thread nD τ).loc main_arg10)
abbrev bes : Vec Ideal S32 .f32 := m ((c : Thread nD τ).loc main_arg11)

/-! ## The arrays that the host code lays out -/

theorem x_entry (r : Fin 16384) (k : Fin 2048) : V m c main_v0 (ix2 r k) = xs m c (ix3 ⟨r.val / 4096, by omega⟩ ⟨r.val % 4096, by omega⟩ k) := by
  unfold V
  simp only [hostOps0, hostOps0_1, hostOps0_2, hostOps0_3, hostOps0_4, List.flatten_cons, List.flatten_nil, List.append_nil, List.cons_append, List.nil_append]
  after_results_simp
  pointwise

theorem hm_entry (r : Fin 16384) (k : Fin 1024) : V m c main_v1 (ix2 r k) = hms m c (ix3 ⟨r.val / 4096, by omega⟩ ⟨r.val % 4096, by omega⟩ k) := by
  unfold V
  simp only [hostOps0, hostOps0_1, hostOps0_2, hostOps0_3, hostOps0_4, List.flatten_cons, List.flatten_nil, List.append_nil, List.cons_append, List.nil_append]
  after_results_simp
  pointwise

theorem hn_entry (r : Fin 16384) (k : Fin 1024) : V m c main_v2 (ix2 r k) = hns m c (ix3 ⟨r.val / 4096, by omega⟩ ⟨r.val % 4096, by omega⟩ k) := by
  unfold V
  simp only [hostOps0, hostOps0_1, hostOps0_2, hostOps0_3, hostOps0_4, List.flatten_cons, List.flatten_nil, List.append_nil, List.cons_append, List.nil_append]
  after_results_simp
  pointwise

theorem wm_entry (j : Fin 1024) (k : Fin 2048) : V m c main_v9 (ix2 j k) = wms m c (ix2 j k) := by
  unfold V
  simp only [hostOps0, hostOps0_1, hostOps0_2, hostOps0_3, hostOps0_4, List.flatten_cons, List.flatten_nil, List.append_nil, List.cons_append, List.nil_append]
  after_results_simp
  pointwise

theorem wn_entry (j : Fin 1024) (k : Fin 2048) : V m c main_v10 (ix2 j k) = wns m c (ix2 j k) := by
  unfold V
  simp only [hostOps0, hostOps0_1, hostOps0_2, hostOps0_3, hostOps0_4, List.flatten_cons, List.flatten_nil, List.append_nil, List.cons_append, List.nil_append]
  after_results_simp
  pointwise

theorem wo_entry (j : Fin 2048) (k : Fin 2048) : V m c main_v11 (ix2 j k) = wos m c (ix2 j k) := by
  unfold V
  simp only [hostOps0, hostOps0_1, hostOps0_2, hostOps0_3, hostOps0_4, List.flatten_cons, List.flatten_nil, List.append_nil, List.cons_append, List.nil_append]
  after_results_simp
  pointwise

theorem g_entry (k : Fin 2048) : V m c main_v12 (ix2 0 k) = gs m c (ix1 k) := by
  unfold V
  simp only [hostOps0, hostOps0_1, hostOps0_2, hostOps0_3, hostOps0_4, List.flatten_cons, List.flatten_nil, List.append_nil, List.cons_append, List.nil_append]
  after_results_simp
  pointwise

/-- The router's weights, padded with zero columns. -/
def weights (wg : Vec Ideal S2048x4 .f32) (we : Vec Ideal S2048x32 .f32) : Vec Ideal S2048x128 .bf16 :=
  truncf (F := Ideal) .bf16 (pad S2048x128 ![0, 0] ![0, 92] ![0, 0] (concatenate S2048x36 1 [⟨S2048x4, wg⟩, ⟨S2048x32, we⟩] concatenates_S2048x4_S2048x32_S2048x36_d1 : Vec Ideal S2048x36 .f32)
    (sitofp (F := Ideal) .f32 (constantI S_ 32 0#32) : Vec Ideal S_ .f32) pads_S2048x36_S2048x128_000_0920 h_S_) bitsLt_bf16_f32

/-- The router's biases, padded with zeros. -/
def biases (bg : Vec Ideal S4 .f32) (be : Vec Ideal S32 .f32) : Vec Ideal S1x128 .f32 :=
  shapeCast S1x128 (pad S128 ![0] ![92] ![0] (concatenate S36 0 [⟨S4, bg⟩, ⟨S32, be⟩] concatenates_S4_S32_S36_d0 : Vec Ideal S36 .f32)
    (sitofp (F := Ideal) .f32 (constantI S_ 32 0#32) : Vec Ideal S_ .f32) pads_S36_S128_0920 h_S_) shapeCasts_S128_S1x128

theorem wr_array : V m c main_v5 = weights (wgs m c) (wes m c) := by
  unfold V weights
  simp only [hostOps0, hostOps0_1, hostOps0_2, hostOps0_3, hostOps0_4, List.flatten_cons, List.flatten_nil, List.append_nil, List.cons_append, List.nil_append]
  after_results_simp
  rfl

theorem br_array : V m c main_v8 = biases (bgs m c) (bes m c) := by
  unfold V biases
  simp only [hostOps0, hostOps0_1, hostOps0_2, hostOps0_3, hostOps0_4, List.flatten_cons, List.flatten_nil, List.append_nil, List.cons_append, List.nil_append]
  after_results_simp
  rfl

theorem zero_int : FloatOps.sitofp (F := Ideal) .f32 0#32 = 0 := by
  show (((BitVec.toInt 0#32 : ℤ) : ℝ) : EReal) = 0
  simp

theorem weights_at (wg : Vec Ideal S2048x4 .f32) (we : Vec Ideal S2048x32 .f32) (k : Fin 2048) (l : Fin 128) :
    weights wg we (ix2 k l) = routed (fun j => wg (ix2 k j)) (fun j => we (ix2 k j)) l.val := by
  unfold weights routed
  pointwise
  by_cases h : l.val < 4
  · rw [dif_pos (show l.val < 36 by omega), dif_pos h, dif_pos h]
  · rw [dif_neg h]
    by_cases h' : l.val < 36
    · rw [dif_pos h', dif_neg h, dif_pos (show l.val - 4 < 32 by omega)]
    · rw [dif_neg h', dif_neg (show ¬l.val - 4 < 32 by omega)]
      exact zero_int

theorem biases_at (bg : Vec Ideal S4 .f32) (be : Vec Ideal S32 .f32) (l : Fin 128) :
    biases bg be (ix2 0 l) = routed (fun j => bg (ix1 j)) (fun j => be (ix1 j)) l.val := by
  unfold biases routed
  pointwise
  by_cases h : l.val < 4
  · rw [dif_pos (show l.val < 36 by omega), dif_pos h, dif_pos h]
  · rw [dif_neg h]
    by_cases h' : l.val < 36
    · rw [dif_pos h', dif_neg h, dif_pos (show l.val - 4 < 32 by omega)]
    · rw [dif_neg h', dif_neg (show ¬l.val - 4 < 32 by omega)]
      exact zero_int

theorem wr_entry (k : Fin 2048) (l : Fin 128) : V m c main_v5 (ix2 k l) = routed (fun j => wgs m c (ix2 k j)) (fun j => wes m c (ix2 k j)) l.val := by
  rw [wr_array, weights_at]

theorem br_entry (l : Fin 128) : V m c main_v8 (ix2 0 l) = routed (fun j => bgs m c (ix1 j)) (fun j => bes m c (ix1 j)) l.val := by
  rw [br_array, biases_at]

/-! ## Where a block's entry lies in its array -/

/-- The block of rows of a point. -/
abbrev pr : Fin 64 := grid0.coords t 0

theorem num64 (a : Fin 64) : (BitVec.ofNat 32 a.val).toNat = a.val := by rw [BitVec.toNat_ofNat, Nat.mod_eq_of_lt (by omega)]

theorem place0 (i : grid0.Coords) : (![(BitVec.ofNat 32 (i 0).val).toNat, (0#32).toNat] : Fin 2 → ℕ) = ![(i 0).val, 0] := by
  rw [num64 (i 0)]; rfl
theorem place1 (i : grid0.Coords) : (![(BitVec.ofNat 32 (i 0).val).toNat, (1#32).toNat] : Fin 2 → ℕ) = ![(i 0).val, 1] := by
  rw [num64 (i 0)]; rfl

/-- The number of a row of a point's block. -/
abbrev line (r : Fin 256) : Fin 16384 := ⟨256 * (pr t).val + r.val, by omega⟩

theorem x_place (r : Fin 256) (k : Fin 2048) : (win0_0.blk t).view.emb (ix2 r k) = ix2 (line t r) k := by
  blk_ext [show win0_0.index t = ![(pr t).val, 0] from place0 _]
theorem hm_place (r : Fin 256) (k : Fin 1024) : (win0_3.blk t).view.emb (ix2 r k) = ix2 (line t r) k := by
  blk_ext [show win0_3.index t = ![(pr t).val, 0] from place0 _]
theorem hn_place (r : Fin 256) (k : Fin 1024) : (win0_4.blk t).view.emb (ix2 r k) = ix2 (line t r) k := by
  blk_ext [show win0_4.index t = ![(pr t).val, 0] from place0 _]
theorem wm_place (j : Fin 1024) (k : Fin 2048) : (win0_5.blk t).view.emb (ix2 j k) = ix2 j k := by
  blk_ext [show win0_5.index t = ![0, 0] from rfl]
theorem wn_place (j : Fin 1024) (k : Fin 2048) : (win0_6.blk t).view.emb (ix2 j k) = ix2 j k := by
  blk_ext [show win0_6.index t = ![0, 0] from rfl]
theorem wo_place (j : Fin 2048) (k : Fin 2048) : (win0_7.blk t).view.emb (ix2 j k) = ix2 j k := by
  blk_ext [show win0_7.index t = ![0, 0] from rfl]
theorem g_place (k : Fin 2048) : (win0_8.blk t).view.emb (ix2 0 k) = ix2 0 k := by
  blk_ext [show win0_8.index t = ![0, 0] from rfl]
theorem wr_place (k : Fin 2048) (l : Fin 128) : (win0_9.blk t).view.emb (ix2 k l) = ix2 k l := by
  blk_ext [show win0_9.index t = ![0, 0] from rfl]
theorem br_place (l : Fin 128) : (win0_10.blk t).view.emb (ix2 0 l) = ix2 0 l := by
  blk_ext [show win0_10.index t = ![0, 0] from rfl]
theorem hidden_place (r : Fin 256) (k : Fin 2048) : (win0_11.blk t).view.emb (ix2 r k) = ix2 (line t r) k := by
  blk_ext [show win0_11.index t = ![(pr t).val, 0] from place0 _]
theorem norm_place (r : Fin 256) (k : Fin 2048) : (win0_12.blk t).view.emb (ix2 r k) = ix2 (line t r) k := by
  blk_ext [show win0_12.index t = ![(pr t).val, 0] from place0 _]
theorem score_place (r : Fin 256) (l : Fin 128) : (win0_13.blk t).view.emb (ix2 r l) = ix2 (line t r) l := by
  blk_ext [show win0_13.index t = ![(pr t).val, 0] from place0 _]

/-! ## The blocks of a point -/

theorem x_block (r : Fin 256) (k : Fin 2048) : iblk m c 0 t (ix2 r k) = xs m c (ix3 ⟨(line t r).val / 4096, by omega⟩ ⟨(line t r).val % 4096, by omega⟩ k) :=
  (congrArg (V m c main_v0) (x_place t r k)).trans (x_entry m c _ k)
theorem hm_block (r : Fin 256) (k : Fin 1024) : iblk m c 3 t (ix2 r k) = hms m c (ix3 ⟨(line t r).val / 4096, by omega⟩ ⟨(line t r).val % 4096, by omega⟩ k) :=
  (congrArg (V m c main_v1) (hm_place t r k)).trans (hm_entry m c _ k)
theorem hn_block (r : Fin 256) (k : Fin 1024) : iblk m c 4 t (ix2 r k) = hns m c (ix3 ⟨(line t r).val / 4096, by omega⟩ ⟨(line t r).val % 4096, by omega⟩ k) :=
  (congrArg (V m c main_v2) (hn_place t r k)).trans (hn_entry m c _ k)
theorem wm_block (j : Fin 1024) (k : Fin 2048) : iblk m c 5 t (ix2 j k) = wms m c (ix2 j k) :=
  (congrArg (V m c main_v9) (wm_place t j k)).trans (wm_entry m c j k)
theorem wn_block (j : Fin 1024) (k : Fin 2048) : iblk m c 6 t (ix2 j k) = wns m c (ix2 j k) :=
  (congrArg (V m c main_v10) (wn_place t j k)).trans (wn_entry m c j k)
theorem wo_block (j : Fin 2048) (k : Fin 2048) : iblk m c 7 t (ix2 j k) = wos m c (ix2 j k) :=
  (congrArg (V m c main_v11) (wo_place t j k)).trans (wo_entry m c j k)
theorem g_block (k : Fin 2048) : iblk m c 8 t (ix2 0 k) = gs m c (ix1 k) :=
  (congrArg (V m c main_v12) (g_place t k)).trans (g_entry m c k)
theorem wr_block (k : Fin 2048) (l : Fin 128) : iblk m c 9 t (ix2 k l) = routed (fun j => wgs m c (ix2 k j)) (fun j => wes m c (ix2 k j)) l.val :=
  (congrArg (V m c main_v5) (wr_place t k l)).trans (wr_entry m c k l)
theorem br_block (l : Fin 128) : iblk m c 10 t (ix2 0 l) = routed (fun j => bgs m c (ix1 j)) (fun j => bes m c (ix1 j)) l.val :=
  (congrArg (V m c main_v8) (br_place t l)).trans (br_entry m c l)

/-! The gates' blocks lie whole in the input projection's array: its first and its second 2048 columns. -/

theorem gm_block (r : Fin 256) (k : Fin 2048) : X0_1 m c t (ix2 r k) = ps m c (ix2 (line t r) ⟨k.val, by omega⟩) := by
  unfold X0_1 Pipeline.Window.fill
  rw [dif_pos (moved0_1 t _)]
  refine (congrArg (V m c main_arg1) ?_).trans (congrFun (V_main_arg1 m c) _)
  blk_ext [show win0_1.index t = ![(pr t).val, 0] from place0 _]

theorem gn_block (r : Fin 256) (k : Fin 2048) : X0_2 m c t (ix2 r k) = ps m c (ix2 (line t r) ⟨2048 + k.val, by omega⟩) := by
  unfold X0_2 Pipeline.Window.fill
  rw [dif_pos (moved0_2 t _)]
  refine (congrArg (V m c main_arg1) ?_).trans (congrFun (V_main_arg1 m c) _)
  blk_ext [show win0_2.index t = ![(pr t).val, 1] from place1 _]

end Cert.Kernel3Ideal.Opened
end
-- ==== Proof.OutPoint.lean ====
module

public import proofs.«01_k».proof.Proof.Gen.Kernel3Ideal.Value
public import Idealize.ShloMosaic.Lib.Pipeline.ValueKit

@[expose] public section

set_option maxRecDepth 16384
set_option maxHeartbeats 1000000

/-! # The output projection: what a point leaves in its three blocks -/

noncomputable section

namespace Cert.Kernel3Ideal.Opened

open Cert.Kernel3Ideal Cert.Kernel3Ideal.Gen
open Idealize.ShloMosaic Idealize.ShloMosaic.TcCoe Idealize.ShloMosaic.Tactic

theorem zero_start : (![0, 0] : Fin 2 → Nat) = fun _ => 0 := funext fun a => by fin_cases a <;> rfl

variable (m : (ℓ : Loc nD τ sig) → Buf (Elt Ideal) ℓ) (c : Dev nD) (t : Fin cfg0.N)

/-- The new hidden state of a point's rows. -/
abbrev newRows : Vec Ideal S256x2048 .f32 :=
  k0_pay3 (iblk m c 3 t) (iblk m c 5 t) (iblk m c 4 t) (iblk m c 6 t) (X0_1 m c t) (X0_2 m c t) (iblk m c 0 t) (iblk m c 7 t)

/-- The means of their squares, the norm's small constant added. -/
abbrev newMeans : Vec Ideal S256x1 .f32 :=
  k0_pay4 (iblk m c 3 t) (iblk m c 5 t) (iblk m c 4 t) (iblk m c 6 t) (X0_1 m c t) (X0_2 m c t) (iblk m c 0 t) (iblk m c 7 t)

/-- The first block: the new hidden state. -/
theorem left_hidden : (outsAt0 m c t).1 = newRows m c t := by
  unfold outsAt0
  dsimp only
  unfold out0_A_11
  rw [View.read_writes_eq_canon _ _ _ (cover0_A_11 _ _ _ _ _ _ _ _ _ _ _ _ _ _ _ _ _ _ _ _ _ _ _ _ _ _ _ _ _ _ _ _ _ _ _ _ _ _ _ _ _)]
  unfold kernelRun0_A
  dsimp only
  sl_unfold_run_names
  simp only [View.canon_unit_zero (S := S256x2048) zero_start, View.readAt_eq_ld, Memref.IsWhole.read_unread, hs0_0, hs0_1, hs0_2, hs0_3, hs0_4, hs0_5, hs0_6, hs0_7,
    View.ld_unit_zero (S := S256x2048) zero_start, View.ld_unit_zero (S := S256x1024) zero_start, View.ld_unit_zero (S := S1024x2048) zero_start,
    View.ld_unit_zero (S := S2048x2048) zero_start]

/-- The second block: its norm. -/
theorem left_norm : (outsAt0 m c t).2.1 = k0_pay1 (newRows m c t) (newMeans m c t) (iblk m c 8 t) := by
  unfold outsAt0
  dsimp only
  unfold out0_A_12
  rw [View.read_writes_eq_canon _ _ _ (cover0_A_12 _ _ _ _ _ _ _ _ _ _ _ _ _ _ _ _ _ _ _ _ _ _ _ _ _ _ _ _ _ _ _ _ _ _ _ _ _ _ _ _ _)]
  unfold kernelRun0_A
  dsimp only
  sl_unfold_run_names
  simp only [View.canon_unit_zero (S := S256x2048) zero_start, View.readAt_eq_ld, Memref.IsWhole.read_unread, hs0_0, hs0_1, hs0_2, hs0_3, hs0_4, hs0_5, hs0_6, hs0_7, hs0_8,
    View.ld_unit_zero (S := S256x2048) zero_start, View.ld_unit_zero (S := S256x1024) zero_start, View.ld_unit_zero (S := S1024x2048) zero_start,
    View.ld_unit_zero (S := S2048x2048) zero_start, View.ld_unit_zero (S := S1x2048) zero_start]

/-- The third block: the router's scores of the norm. -/
theorem left_scores : (outsAt0 m c t).2.2 = k0_pay2 (newRows m c t) (newMeans m c t) (iblk m c 8 t) (iblk m c 9 t) (iblk m c 10 t) := by
  unfold outsAt0
  dsimp only
  unfold out0_A_13
  rw [View.read_writes_eq_canon _ _ _ (cover0_A_13 _ _ _ _ _ _ _ _ _ _ _ _ _ _ _ _ _ _ _ _ _ _ _ _ _ _ _ _ _ _ _ _ _ _ _ _ _ _ _ _ _)]
  unfold kernelRun0_A
  dsimp only
  sl_unfold_run_names
  simp only [View.canon_unit_zero (S := S256x128) zero_start, View.readAt_eq_ld, Memref.IsWhole.read_unread, hs0_0, hs0_1, hs0_2, hs0_3, hs0_4, hs0_5, hs0_6, hs0_7, hs0_8, hs0_9, hs0_10,
    View.ld_unit_zero (S := S256x2048) zero_start, View.ld_unit_zero (S := S256x1024) zero_start, View.ld_unit_zero (S := S1024x2048) zero_start,
    View.ld_unit_zero (S := S2048x2048) zero_start, View.ld_unit_zero (S := S1x2048) zero_start, View.ld_unit_zero (S := S2048x128) zero_start, View.ld_unit_zero (S := S1x128) zero_start]

end Cert.Kernel3Ideal.Opened
end
-- ==== Proof.OutRef.lean ====
module

public import proofs.«01_k».proof.Proof.OutSpec
public import proofs.«01_k».proof.Proof.Gen.Reference3Ideal.Read
public import Idealize.ShloMosaic.Lib.Pipeline.ValueKit

@[expose] public section

set_option maxRecDepth 16384
set_option maxHeartbeats 1000000

/-! # The output projection: the reference, read at an index -/

noncomputable section

namespace Cert.Reference3Ideal.Opened

open Cert.Reference3Ideal Cert.Reference3Ideal.Gen Cert.Reference3Ideal.Read Cert.Proj Cert.Out
open Idealize.ShloMosaic Idealize.ShloMosaic.TcCoe Idealize.ShloMosaic.Tactic

variable (x : Vec Ideal S4x4096x2048 .f32) (p : Vec Ideal S16384x9856 .f32) (hm hn : Vec Ideal S4x4096x1024 .f32) (wm wn : Vec Ideal S1024x2048 .f32)
  (wo : Vec Ideal S2048x2048 .f32) (g : Vec Ideal S2048 .f32) (wg : Vec Ideal S2048x4 .f32) (bg : Vec Ideal S4 .f32) (we : Vec Ideal S2048x32 .f32) (be : Vec Ideal S32 .f32)

/-- The sequence of a token and its place there. -/
abbrev seq (t : Fin 16384) : Fin 4 := ⟨t.val / 4096, by omega⟩
abbrev pos (t : Fin 16384) : Fin 4096 := ⟨t.val % 4096, by omega⟩

/-- A column of a token's merged row. -/
abbrev mrow (t : Fin 16384) (k : Fin 2048) : EReal :=
  merged (p (ix2 t ⟨k.val, by omega⟩)) (p (ix2 t ⟨2048 + k.val, by omega⟩)) (fun j => hm (ix3 (seq t) (pos t) j)) (fun j => hn (ix3 (seq t) (pos t) j))
    (fun j => wm (ix2 j k)) (fun j => wn (ix2 j k))

/-- A column of a token's new hidden state. -/
abbrev xrow (t : Fin 16384) (q : Fin 2048) : EReal :=
  mixed (x (ix3 (seq t) (pos t) q)) (mrow p hm hn wm wn t) (fun k => wo (ix2 k q))

/-- A column of its norm. -/
abbrev nrow (t : Fin 16384) (k : Fin 2048) : EReal := normed (xrow x p hm hn wm wn wo t) (fun j => g (ix1 j)) k

theorem zero_bits : Ideal.ofBits .f32 0x00000000#32 = 0 := by
  simp

theorem first_gate (t : Fin 16384) (k : Fin 2048) : val_main_v1 (F := Ideal) p (ix3 (seq t) (pos t) k) = p (ix2 t ⟨k.val, by omega⟩) := by
  rw [val_main_v1_apply, val_main_v0_apply]
  exact congrArg p (funext fun a => match a with
    | ⟨0, _⟩ => Fin.ext (show ((t.val / 4096 * 4096 + t.val % 4096) * 2048 + k.val) / 2048 = t.val by omega)
    | ⟨1, _⟩ => Fin.ext (show ((t.val / 4096 * 4096 + t.val % 4096) * 2048 + k.val) % 2048 = k.val by omega))

theorem second_gate (t : Fin 16384) (k : Fin 2048) : val_main_v3 (F := Ideal) p (ix3 (seq t) (pos t) k) = p (ix2 t ⟨2048 + k.val, by omega⟩) := by
  rw [val_main_v3_apply, val_main_v2_apply]
  exact congrArg p (funext fun a => match a with
    | ⟨0, _⟩ => Fin.ext (show ((t.val / 4096 * 4096 + t.val % 4096) * 2048 + k.val) / 2048 = t.val by omega)
    | ⟨1, _⟩ => Fin.ext (show 2048 + ((t.val / 4096 * 4096 + t.val % 4096) * 2048 + k.val) % 2048 = 2048 + k.val by omega))

theorem first_logistic (t : Fin 16384) (k : Fin 2048) : val_main_v9 (F := Ideal) p (ix3 (seq t) (pos t) k) = Ideal.logistic (p (ix2 t ⟨k.val, by omega⟩)) := by
  rw [← first_gate p t k]
  pointwise [val_main_v9, val_main_v8, val_main_v7, val_main_v6, val_main_v5, val_main_v4, val_main_cst, val_main_cst_0]
  rfl

theorem second_logistic (t : Fin 16384) (k : Fin 2048) : val_main_v17 (F := Ideal) p (ix3 (seq t) (pos t) k) = Ideal.logistic (p (ix2 t ⟨2048 + k.val, by omega⟩)) := by
  rw [← second_gate p t k]
  pointwise [val_main_v17, val_main_v16, val_main_v15, val_main_v14, val_main_v13, val_main_v12, val_main_cst_1, val_main_cst_2]
  rfl

theorem merged_at (t : Fin 16384) (k : Fin 2048) : val_main_v20 (F := Ideal) p hm hn wm wn (ix3 (seq t) (pos t) k) = mrow p hm hn wm wn t k := by
  rw [val_main_v20_apply, val_main_v11_apply, val_main_v19_apply, first_logistic, second_logistic]
  unfold mrow merged
  pointwise [val_main_v10, val_main_v18]

theorem mixed_at (t : Fin 16384) (q : Fin 2048) : val_main_v22 (F := Ideal) x p hm hn wm wn wo (ix3 (seq t) (pos t) q) = xrow x p hm hn wm wn wo t q := by
  unfold xrow mixed
  simp only [← merged_at]
  unfold val_main_v22 val_main_v21
  generalize val_main_v20 (F := Ideal) p hm hn wm wn = y
  pointwise

theorem mean_at (t : Fin 16384) : val_main_v27 (F := Ideal) x p hm hn wm wn wo (ix3 (seq t) (pos t) 0)
    = Ideal.div (∑ j, xrow x p hm hn wm wn wo t j * xrow x p hm hn wm wn wo t j) (Ideal.ofBits .f32 0x45000000#32) := by
  simp only [← mixed_at]
  rw [val_main_v27_apply, val_main_v25_apply, val_main_v26_apply, val_main_cst_4_apply,
    show idx_main_v25 (ix3 (seq t) (pos t) 0) = ix2 (seq t) (pos t) from funext fun a => match a with | ⟨0, _⟩ => rfl | ⟨1, _⟩ => rfl, val_main_v24_apply]
  have z : val_main_cst_3 (F := Ideal) (Shape.Idx.first h_S_) = 0 := zero_bits
  rw [z, zero_add]
  exact congrArg (fun s => Ideal.div s _) (Finset.sum_congr rfl fun k _ => congrArg (fun i => val_main_v22 (F := Ideal) x p hm hn wm wn wo i * val_main_v22 (F := Ideal) x p hm hn wm wn wo i)
    (show idx_main_v24 (ix2 (seq t) (pos t)) k = ix3 (seq t) (pos t) k from funext fun a => match a with | ⟨0, _⟩ => rfl | ⟨1, _⟩ => rfl | ⟨2, _⟩ => rfl))

theorem normed_at (t : Fin 16384) (k : Fin 2048) : val_main_v35 (F := Ideal) x p hm hn wm wn wo g (ix3 (seq t) (pos t) k) = nrow x p hm hn wm wn wo g t k := by
  rw [val_main_v35_apply, val_main_v32_apply, val_main_v31_apply, val_main_v34_apply, val_main_v33_apply,
    show idx_main_v31 (ix3 (seq t) (pos t) k) = ix3 (seq t) (pos t) 0 from funext fun a => match a with | ⟨0, _⟩ => rfl | ⟨1, _⟩ => rfl | ⟨2, _⟩ => rfl,
    show idx_main_v33 (idx_main_v34 (ix3 (seq t) (pos t) k)) = ix1 k from funext fun a => match a with | ⟨0, _⟩ => rfl,
    val_main_v30_apply, val_main_v29_apply, mean_at, val_main_v28_apply, val_main_cst_5_apply, mixed_at]
  rfl

/-! ## The three results -/

theorem hidden_at (t : Fin 16384) (q : Fin 2048) : val_main_v45 (F := Ideal) x p hm hn wm wn wo (ix2 t q) = xrow x p hm hn wm wn wo t q := by
  rw [val_main_v45_apply, ← mixed_at]
  exact congrArg _ (funext fun a => match a with
    | ⟨0, _⟩ => Fin.ext (show (t.val * 2048 + q.val) / 8388608 = t.val / 4096 by omega)
    | ⟨1, _⟩ => Fin.ext (show (t.val * 2048 + q.val) / 2048 % 4096 = t.val % 4096 by omega)
    | ⟨2, _⟩ => Fin.ext (show (t.val * 2048 + q.val) % 2048 = q.val by omega))

theorem norm_at (t : Fin 16384) (k : Fin 2048) : val_main_v36 (F := Ideal) x p hm hn wm wn wo g (ix2 t k) = nrow x p hm hn wm wn wo g t k := by
  rw [val_main_v36_apply, ← normed_at]
  exact congrArg _ (funext fun a => match a with
    | ⟨0, _⟩ => Fin.ext (show (t.val * 2048 + k.val) / 8388608 = t.val / 4096 by omega)
    | ⟨1, _⟩ => Fin.ext (show (t.val * 2048 + k.val) / 2048 % 4096 = t.val % 4096 by omega)
    | ⟨2, _⟩ => Fin.ext (show (t.val * 2048 + k.val) % 2048 = k.val by omega))

theorem group_at (t : Fin 16384) (j : Fin 4) : val_main_v40 (F := Ideal) x p hm hn wm wn wo g wg bg (ix2 t j)
    = (∑ k, nrow x p hm hn wm wn wo g t k * wg (ix2 k j)) + bg (ix1 j) := by
  simp only [← norm_at]
  unfold val_main_v40 val_main_v39 val_main_v38 val_main_v37
  generalize val_main_v36 (F := Ideal) x p hm hn wm wn wo g = y
  pointwise

theorem expert_at (t : Fin 16384) (j : Fin 32) : val_main_v44 (F := Ideal) x p hm hn wm wn wo g we be (ix2 t j)
    = (∑ k, nrow x p hm hn wm wn wo g t k * we (ix2 k j)) + be (ix1 j) := by
  simp only [← norm_at]
  unfold val_main_v44 val_main_v43 val_main_v42 val_main_v41
  generalize val_main_v36 (F := Ideal) x p hm hn wm wn wo g = y
  pointwise

theorem scores_at (t : Fin 16384) (l : Fin 128) : val_main_v47 (F := Ideal) x p hm hn wm wn wo g wg bg we be (ix2 t l)
    = routed (fun j => (∑ k, nrow x p hm hn wm wn wo g t k * wg (ix2 k j)) + bg (ix1 j)) (fun j => (∑ k, nrow x p hm hn wm wn wo g t k * we (ix2 k j)) + be (ix1 j)) l.val := by
  rw [← funext (group_at x p hm hn wm wn wo g wg bg t), ← funext (expert_at x p hm hn wm wn wo g we be t)]
  unfold val_main_v47 val_main_v46 val_main_cst_6 routed
  generalize val_main_v40 (F := Ideal) x p hm hn wm wn wo g wg bg = y
  generalize val_main_v44 (F := Ideal) x p hm hn wm wn wo g we be = z
  pointwise

end Cert.Reference3Ideal.Opened
end
-- ==== Proof.OutWhole.lean ====
module

public import proofs.«01_k».proof.Proof.OutHost
public import proofs.«01_k».proof.Proof.OutPoint
public import proofs.«01_k».proof.Proof.OutRef
public import Idealize.ShloMosaic.Lib.Pipeline.Covers

@[expose] public section

set_option maxRecDepth 16384
set_option maxHeartbeats 1000000

/-! # The output projection: the kernel's three whole results -/

noncomputable section

namespace Cert.Kernel3Ideal.Opened

open Cert.Kernel3Ideal Cert.Kernel3Ideal.Gen Cert.Proj Cert.Out
open Idealize.ShloMosaic Idealize.ShloMosaic.TcCoe Idealize.ShloMosaic.Tactic

variable (m : (ℓ : Loc nD τ sig) → Buf (Elt Ideal) ℓ) (c : Dev nD) (t : Fin cfg0.N)

/-! ## A point, row by row -/

/-- A column of a token's new hidden state, from the arguments. -/
abbrev hidden (r : Fin 16384) (q : Fin 2048) : EReal :=
  Cert.Reference3Ideal.Opened.xrow (xs m c) (ps m c) (hms m c) (hns m c) (wms m c) (wns m c) (wos m c) r q

/-- A column of its norm. -/
abbrev normal (r : Fin 16384) (k : Fin 2048) : EReal :=
  Cert.Reference3Ideal.Opened.nrow (xs m c) (ps m c) (hms m c) (hns m c) (wms m c) (wns m c) (wos m c) (gs m c) r k

theorem point_hidden (r : Fin 256) (q : Fin 2048) : newRows m c t (ix2 r q) = hidden m c (line t r) q := by
  unfold newRows
  rw [mixed_at]
  simp only [x_block, hm_block, hn_block, wm_block, wn_block, wo_block, gm_block, gn_block]

theorem point_norm (r : Fin 256) (k : Fin 2048) : k0_pay1 (newRows m c t) (newMeans m c t) (iblk m c 8 t) (ix2 r k) = normal m c (line t r) k := by
  rw [rows_at]
  simp only [point_hidden, g_block]

theorem point_scores (r : Fin 256) (l : Fin 128) :
    k0_pay2 (newRows m c t) (newMeans m c t) (iblk m c 8 t) (iblk m c 9 t) (iblk m c 10 t) (ix2 r l)
      = routed (fun j => (∑ k, normal m c (line t r) k * wgs m c (ix2 k j)) + bgs m c (ix1 j)) (fun j => (∑ k, normal m c (line t r) k * wes m c (ix2 k j)) + bes m c (ix1 j)) l.val := by
  rw [scores_at, ← routed_sum]
  simp only [point_norm, wr_block, br_block]

/-! ## The reference's results of the same arguments -/

abbrev referenceHidden : Vec Ideal Cert.Reference3Ideal.S16384x2048 .f32 :=
  Cert.Reference3Ideal.Read.val_main_v45 (F := Ideal) (xs m c) (ps m c) (hms m c) (hns m c) (wms m c) (wns m c) (wos m c)
abbrev referenceNorm : Vec Ideal Cert.Reference3Ideal.S16384x2048 .f32 :=
  Cert.Reference3Ideal.Read.val_main_v36 (F := Ideal) (xs m c) (ps m c) (hms m c) (hns m c) (wms m c) (wns m c) (wos m c) (gs m c)
abbrev referenceScores : Vec Ideal Cert.Reference3Ideal.S16384x128 .f32 :=
  Cert.Reference3Ideal.Read.val_main_v47 (F := Ideal) (xs m c) (ps m c) (hms m c) (hns m c) (wms m c) (wns m c) (wos m c) (gs m c) (wgs m c) (bgs m c) (wes m c) (bes m c)

/-- What a point writes back is the reference's result there. -/
theorem hidden_eq (y : S256x2048.Idx) : (outsAt0 m c t).1 y = referenceHidden m c ((win0_11.blk t).view.emb y) := by
  obtain ⟨r, q, rfl⟩ : ∃ (r : Fin 256) (q : Fin 2048), y = ix2 r q :=
    ⟨y 0, y 1, funext fun a => match a with | ⟨0, _⟩ => rfl | ⟨1, _⟩ => rfl⟩
  rw [hidden_place, left_hidden, point_hidden]
  exact (Cert.Reference3Ideal.Opened.hidden_at _ _ _ _ _ _ _ _ _).symm

theorem norm_eq (y : S256x2048.Idx) : (outsAt0 m c t).2.1 y = referenceNorm m c ((win0_12.blk t).view.emb y) := by
  obtain ⟨r, q, rfl⟩ : ∃ (r : Fin 256) (q : Fin 2048), y = ix2 r q :=
    ⟨y 0, y 1, funext fun a => match a with | ⟨0, _⟩ => rfl | ⟨1, _⟩ => rfl⟩
  rw [norm_place, left_norm, point_norm]
  exact (Cert.Reference3Ideal.Opened.norm_at _ _ _ _ _ _ _ _ _ _).symm

theorem scores_eq (y : S256x128.Idx) : (outsAt0 m c t).2.2 y = referenceScores m c ((win0_13.blk t).view.emb y) := by
  obtain ⟨r, l, rfl⟩ : ∃ (r : Fin 256) (l : Fin 128), y = ix2 r l :=
    ⟨y 0, y 1, funext fun a => match a with | ⟨0, _⟩ => rfl | ⟨1, _⟩ => rfl⟩
  rw [score_place, left_scores, point_scores]
  exact (Cert.Reference3Ideal.Opened.scores_at _ _ _ _ _ _ _ _ _ _ _ _ _ _).symm

/-! ## The blocks written back tile the results -/

/-- The point of a block of rows. -/
abbrev pt (a : Fin 64) : grid0.Coords := fun x => match x with
  | ⟨0, _⟩ => a

theorem covers_hidden : (cfg0.win 11).Covers :=
  (cfg0.win 11).covers_of_indexMap_surj rfl (by decide) fun β =>
    have n0 : (cfg0.win 11).nblk ⟨0, by decide⟩ = 64 := by decide
    have n1 : (cfg0.win 11).nblk ⟨1, by decide⟩ = 1 := by decide
    ⟨pt ⟨(β ⟨0, by decide⟩).val, lt_of_lt_of_eq (β ⟨0, by decide⟩).isLt n0⟩, fun a => by
      refine (congrFun (place0 (pt _)) a).trans ?_
      match a with
      | ⟨0, _⟩ => rfl
      | ⟨1, _⟩ =>
        have h := lt_of_lt_of_eq (β ⟨1, by decide⟩).isLt n1
        exact (Nat.lt_one_iff.mp h).symm⟩

theorem covers_norm : (cfg0.win 12).Covers :=
  (cfg0.win 12).covers_of_indexMap_surj rfl (by decide) fun β =>
    have n0 : (cfg0.win 12).nblk ⟨0, by decide⟩ = 64 := by decide
    have n1 : (cfg0.win 12).nblk ⟨1, by decide⟩ = 1 := by decide
    ⟨pt ⟨(β ⟨0, by decide⟩).val, lt_of_lt_of_eq (β ⟨0, by decide⟩).isLt n0⟩, fun a => by
      refine (congrFun (place0 (pt _)) a).trans ?_
      match a with
      | ⟨0, _⟩ => rfl
      | ⟨1, _⟩ =>
        have h := lt_of_lt_of_eq (β ⟨1, by decide⟩).isLt n1
        exact (Nat.lt_one_iff.mp h).symm⟩

theorem covers_scores : (cfg0.win 13).Covers :=
  (cfg0.win 13).covers_of_indexMap_surj rfl (by decide) fun β =>
    have n0 : (cfg0.win 13).nblk ⟨0, by decide⟩ = 64 := by decide
    have n1 : (cfg0.win 13).nblk ⟨1, by decide⟩ = 1 := by decide
    ⟨pt ⟨(β ⟨0, by decide⟩).val, lt_of_lt_of_eq (β ⟨0, by decide⟩).isLt n0⟩, fun a => by
      refine (congrFun (place0 (pt _)) a).trans ?_
      match a with
      | ⟨0, _⟩ => rfl
      | ⟨1, _⟩ =>
        have h := lt_of_lt_of_eq (β ⟨1, by decide⟩).isLt n1
        exact (Nat.lt_one_iff.mp h).symm⟩

/-! ## The kernel's result arrays are the reference's results -/

theorem hidden_result : (dats m 0 c).arrAt 11 cfg0.N = referenceHidden m c := by
  refine (dats m 0 c).arrAt_eq_of_covers 11 _ covers_hidden fun t hf y => ?_
  blk_simp
  rw [after0_11]
  exact hidden_eq m c t y

theorem norm_result : (dats m 0 c).arrAt 12 cfg0.N = referenceNorm m c := by
  refine (dats m 0 c).arrAt_eq_of_covers 12 _ covers_norm fun t hf y => ?_
  blk_simp
  rw [after0_12]
  exact norm_eq m c t y

theorem scores_result : (dats m 0 c).arrAt 13 cfg0.N = referenceScores m c := by
  refine (dats m 0 c).arrAt_eq_of_covers 13 _ covers_scores fun t hf y => ?_
  blk_simp
  rw [after0_13]
  exact scores_eq m c t y

end Cert.Kernel3Ideal.Opened
end
-- ==== Proof.MoeRange.lean ====
module

public import proofs.«01_k».proof.Proof.Gen.Pre_experts_in_range
public import Idealize.ShloMosaic.Lib.Pipeline.ValueKit

@[expose] public section

set_option maxRecDepth 16384
set_option maxHeartbeats 1000000

/-! # The experts' products: the precondition, as bounds on the experts -/

noncomputable section

namespace Cert.Moe

open Cert.Pre_experts_in_range
open Idealize.ShloMosaic Idealize.ShloMosaic.TcCoe Idealize.ShloMosaic.Tactic

theorem and_bits : ∀ a b : BitVec 1, IntOp.andi a b = 1#1 → a = 1#1 ∧ b = 1#1 := by decide

theorem true_bit : ∀ b : Bool, BitVec.ofBool b = 1#1 → b = true := by decide

/-- A conjunction of a list that comes out true is of true members. -/
theorem all_of_fold {ι : Type} (f : ι → BitVec 1) : ∀ (l : List ι) (b : BitVec 1), l.foldl (fun r n => IntOp.andi r (f n)) b = 1#1 → b = 1#1 ∧ ∀ n ∈ l, f n = 1#1
  | [], b, h => ⟨h, fun n hn => absurd hn List.not_mem_nil⟩
  | a :: l, b, h => by
    obtain ⟨h1, h2⟩ := all_of_fold f l _ h
    obtain ⟨h3, h4⟩ := and_bits _ _ h1
    refine ⟨h3, fun n hn => ?_⟩
    rcases List.mem_cons.mp hn with rfl | hn
    · exact h4
    · exact h2 n hn

/-- A word that is not negative and less than 32 as a signed one is less than 32 as a natural number. -/
theorem word_lt (a : BitVec 32) (h : IntOp.andi (IntOp.cmpi .sge a 0#32) (IntOp.cmpi .slt a 32#32) = 1#1) : a.toNat < 32 := by
  obtain ⟨h1, h2⟩ := and_bits _ _ h
  have e1 : (0#32).sle a = true := true_bit _ h1
  have e2 : a.slt 32#32 = true := true_bit _ h2
  rw [BitVec.sle_iff_toInt_le] at e1
  rw [BitVec.slt_iff_toInt_lt] at e2
  have z : (0#32 : BitVec 32).toInt = 0 := by decide
  have t : (32#32 : BitVec 32).toInt = 32 := by decide
  rw [z] at e1
  rw [t] at e2
  have c := BitVec.toInt_eq_toNat_cond a
  have l := a.isLt
  split at c <;> omega

/-- Under the precondition every block's expert is one of the 32. -/
theorem experts_lt {F : FTy → Type} [FloatOps F] (x0 : FVec F S41216x2048 .f32) (x1 : FVec F S41216 .f32) (x2 : IVec S161 32) (x3 x4 : FVec F S32x2048x512 .f32) (x5 : FVec F S32x512x2048 .f32)
    (h : Cert.Pre_experts_in_range.fn (F := F) x0 x1 x2 x3 x4 x5 = fun _ => 1#1) (i : S161.Idx) : (x2 i).toNat < 32 := by
  have h0 := congrFun h (Shape.Idx.first Facts.h_S_)
  unfold Cert.Pre_experts_in_range.fn at h0
  dsimp only at h0
  unfold Host.reduce at h0
  obtain ⟨-, h1⟩ := all_of_fold _ _ _ h0
  have h2 := h1 (S161.rowMajor i) (List.mem_filter.mpr ⟨List.mem_finRange _, decide_eq_true (funext fun a => a.elim0)⟩)
  rw [Equiv.symm_apply_apply] at h2
  exact word_lt _ h2

end Cert.Moe
end
-- ==== Proof.MoeKit.lean ====
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

/-! # The experts' products: the launch, the table of experts and the blocks

What the region finds (`V`), the table of each block's expert (`tbl`), the side condition under which the weights'
blocks lie inside their arrays (`Ok`), each window's block (`iblk`), and the frame from any run of the pipeline. -/

noncomputable section

namespace Cert.Kernel4Ideal.Opened

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 5 (result 0 (%2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_ffn (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S161 .i32 := Memref.whole main_arg2
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-! ## The kernel's memrefs -/

/-- Each window's current staging memref at point `t`, spelled as the pipeline passes it (`bodyAt0`), and its wholeness. -/
abbrev ms0_0 (hO : Ok m) (t : Fin (cfgM m hO).N) : Memref sig .tc .vmem S256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x1 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x2048 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S2048x512 .bf16 := Memref.whole cc0_scratch0
abbrev scM0_1 : Memref sig .tc .vmem S2048x512 .bf16 := Memref.whole cc0_scratch1
abbrev scM0_2 : Memref sig .tc .vmem S512x2048 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel4Ideal.Opened

end
-- ==== Proof.MoeRun.lean ====
module

public import proofs.«01_k».proof.Proof.MoeKit

@[expose] public section

set_option maxRecDepth 16384

/-! # The experts' products: the body, run

Two runs of the kernel's body on any memrefs: at a point whose block has another expert than the block before it (or at
the first point), and at one that keeps the expert. -/

noncomputable section

namespace Cert.Kernel4Ideal.Opened

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the table that names the expert of point `i`'s block. -/
abbrev expertWord (c : Dev nD) (i : grid0.Coords) (xt0 : TbBuf0 (F := F) c tbM0_0) : BitVec 32 :=
  tbM0_0.view.readAt (Elt F) (Rect.unit (s := S161) (k0_off1 i) S1.size (k0_off1_inb i)).toLoadRect xt0 (Shape.Idx.first (numel1_S1.symm ▸ Nat.one_pos))

/-- The word of the block before it (at the first point, its own). -/
abbrev beforeWord (c : Dev nD) (i : grid0.Coords) (xt0 : TbBuf0 (F := F) c tbM0_0) : BitVec 32 :=
  tbM0_0.view.readAt (Elt F) (Rect.unit (s := S161) (k0_off2 i) S1.size (k0_off2_inb i)).toLoadRect xt0 (Shape.Idx.first (numel1_S1.symm ▸ Nat.one_pos))

/-- The body's condition: the first point, or another expert than the block before. -/
abbrev Reload (c : Dev nD) (i : grid0.Coords) (xt0 : TbBuf0 (F := F) c tbM0_0) : Prop :=
  Scalar.cmpi .ne (Scalar.extui (Scalar.ori (Scalar.cmpi .eq (BitVec.ofNat 32 (i 0).val) 0#32) (Scalar.cmpi .ne (expertWord c i xt0) (beforeWord c i xt0)))) 0#32 = 1#1

set_option maxHeartbeats 1000000 in
/-- A point that reloads the expert's weights: from the blocks and the table the body runs, leaving the blocks and the
    table as they were, the result's block stored, and the three scratch buffers stored. The pieces stored are found by
    the run. -/
noncomputable def runReload (c : Dev nD) (i : grid0.Coords) (arg2 : Memref sig .tc .vmem S256x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole)
    (x0 : Vec F S256x2048 .bf16) (x1 : Vec F S1x2048x512 .f32) (x2 : Vec F S1x2048x512 .f32) (x3 : Vec F S1x512x2048 .f32) (x4 : Vec F S256x1 .f32) (xt0 : TbBuf0 (F := F) c tbM0_0) (hc0 : Reload c i xt0) :
    Σ' (L5 : List (View.Piece (Elt F) S256x2048 .f32)), Σ' (LS0 : List (View.Piece (Elt F) S2048x512 .bf16)), Σ' (LS1 : List (View.Piece (Elt F) S2048x512 .bf16)), { LS2 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ tbPt0 c tbM0_0 xt0) -∗ K ⟨⟩))
          ⊢ wp frame (wpE (defs₀ (F := F)) Variants.none c none) E (cc0_moe_ffn i tbM0_0 htbM0_0 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_moe_ffn_eq_skeleton]; unfold cc0_moe_ffn_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, HT0, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexact HT0

set_option maxHeartbeats 1200000 in
/-- A point that keeps the weights: the scratch buffers are read at the contents they have and stay so. -/
noncomputable def runKeep (c : Dev nD) (i : grid0.Coords) (arg2 : Memref sig .tc .vmem S256x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole)
    (x0 : Vec F S256x2048 .bf16) (x1 : Vec F S1x2048x512 .f32) (x2 : Vec F S1x2048x512 .f32) (x3 : Vec F S1x512x2048 .f32) (x4 : Vec F S256x1 .f32) (xt0 : TbBuf0 (F := F) c tbM0_0) (xs0 : Vec F S2048x512 .bf16) (xs1 : Vec F S2048x512 .bf16) (xs2 : Vec F S512x2048 .bf16) (hc0 : ¬Reload c i xt0) :
    Σ' (L5 : List (View.Piece (Elt F) S256x2048 .f32)), Σ' (LS0 : List (View.Piece (Elt F) S2048x512 .bf16)), Σ' (LS1 : List (View.Piece (Elt F) S2048x512 .bf16)), { LS2 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ owns (c : Thread nD τ) arg9 fullShare xs1 ∗ owns (c : Thread nD τ) arg10 fullShare xs2 ∗ tbPt0 c tbM0_0 xt0) -∗ K ⟨⟩))
          ⊢ wp frame (wpE (defs₀ (F := F)) Variants.none c none) E (cc0_moe_ffn i tbM0_0 htbM0_0 arg2 harg2 arg3 harg3 arg4 harg4 arg5 harg5 arg6 harg6 arg7 harg7 arg8 harg8 arg9 harg9 arg10 harg10) K } := by
  refine ⟨?_, [], [], [], fun E K => ?run⟩
  case run =>
    simp only [cc0_moe_ffn_eq_skeleton]; unfold cc0_moe_ffn_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    iexact HT0

end Cert.Kernel4Ideal.Opened

end
-- ==== Proof.MoeLeft.lean ====
module

public import proofs.«01_k».proof.Proof.MoeRun
public import Idealize.ShloMosaic.Lib.Pipeline.ValueKit

@[expose] public section

set_option maxRecDepth 16384

set_option maxHeartbeats 1000000

/-! # The experts' products: what a run leaves

The pieces the two runs store, read back: the experts' weights as loaded, and the result's rows from them. -/

noncomputable section

namespace Cert.Kernel4Ideal.Opened

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero_start2 : (![0, 0] : Fin 2 → Nat) = fun _ => 0 := funext fun a => by fin_cases a <;> rfl
theorem zero_start3 : (![0, 0, 0] : Fin 3 → Nat) = fun _ => 0 := funext fun a => by fin_cases a <;> rfl

variable (c : Dev nD) (i : grid0.Coords) (arg2 : Memref sig .tc .vmem S256x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S256x1 .f32) (harg6 : arg6.IsWhole) (arg7 : Memref sig .tc .vmem S256x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole)
  (x0 : Vec F S256x2048 .bf16) (x1 : Vec F S1x2048x512 .f32) (x2 : Vec F S1x2048x512 .f32) (x3 : Vec F S1x512x2048 .f32) (x4 : Vec F S256x1 .f32) (xt0 : TbBuf0 (F := F) c tbM0_0)

/-- The first weights as reloaded. -/
theorem reload_first (hc : Reload c i xt0) (f : Buf (Elt F) (arg8.view.loc (c : Thread nD τ))) :
    arg8.view.read (Elt F) (arg8.view.writes (Elt F) f (runReload c i arg2 harg2 arg3 harg3 arg4 harg4 arg5 harg5 arg6 harg6 arg7 harg7 arg8 harg8 arg9 harg9 arg10 harg10 x0 x1 x2 x3 x4 xt0 hc).2.1) = k0_pay1 x1 := by
  rw [View.read_writes_eq_canon _ _ _ (View.cover_of_tiledL (runReload c i arg2 harg2 arg3 harg3 arg4 harg4 arg5 harg5 arg6 harg6 arg7 harg7 arg8 harg8 arg9 harg9 arg10 harg10 x0 x1 x2 x3 x4 xt0 hc).2.1 S2048x512.size (by sl_kernel_rfl))]
  unfold runReload
  dsimp only
  sl_unfold_run_names
  simp only [View.readAt_eq_ld, Memref.IsWhole.read_unread, harg2, harg3, harg4, harg5, harg6, harg8, harg9, harg10,
    View.canon_unit_zero (S := S256x2048) zero_start2, View.canon_unit_zero (S := S2048x512) zero_start2, View.canon_unit_zero (S := S512x2048) zero_start2,
    View.ld_unit_zero (S := S256x2048) zero_start2, View.ld_unit_zero (S := S2048x512) zero_start2, View.ld_unit_zero (S := S512x2048) zero_start2,
    View.ld_unit_zero (S := S256x1) zero_start2, View.ld_unit_zero (S := S1x2048x512) zero_start3, View.ld_unit_zero (S := S1x512x2048) zero_start3]

/-- The second. -/
theorem reload_second (hc : Reload c i xt0) (f : Buf (Elt F) (arg9.view.loc (c : Thread nD τ))) :
    arg9.view.read (Elt F) (arg9.view.writes (Elt F) f (runReload c i arg2 harg2 arg3 harg3 arg4 harg4 arg5 harg5 arg6 harg6 arg7 harg7 arg8 harg8 arg9 harg9 arg10 harg10 x0 x1 x2 x3 x4 xt0 hc).2.2.1) = k0_pay2 x2 := by
  rw [View.read_writes_eq_canon _ _ _ (View.cover_of_tiledL (runReload c i arg2 harg2 arg3 harg3 arg4 harg4 arg5 harg5 arg6 harg6 arg7 harg7 arg8 harg8 arg9 harg9 arg10 harg10 x0 x1 x2 x3 x4 xt0 hc).2.2.1 S2048x512.size (by sl_kernel_rfl))]
  unfold runReload
  dsimp only
  sl_unfold_run_names
  simp only [View.readAt_eq_ld, Memref.IsWhole.read_unread, harg2, harg3, harg4, harg5, harg6, harg8, harg9, harg10,
    View.canon_unit_zero (S := S256x2048) zero_start2, View.canon_unit_zero (S := S2048x512) zero_start2, View.canon_unit_zero (S := S512x2048) zero_start2,
    View.ld_unit_zero (S := S256x2048) zero_start2, View.ld_unit_zero (S := S2048x512) zero_start2, View.ld_unit_zero (S := S512x2048) zero_start2,
    View.ld_unit_zero (S := S256x1) zero_start2, View.ld_unit_zero (S := S1x2048x512) zero_start3, View.ld_unit_zero (S := S1x512x2048) zero_start3]

/-- The third. -/
theorem reload_third (hc : Reload c i xt0) (f : Buf (Elt F) (arg10.view.loc (c : Thread nD τ))) :
    arg10.view.read (Elt F) (arg10.view.writes (Elt F) f (runReload c i arg2 harg2 arg3 harg3 arg4 harg4 arg5 harg5 arg6 harg6 arg7 harg7 arg8 harg8 arg9 harg9 arg10 harg10 x0 x1 x2 x3 x4 xt0 hc).2.2.2.1) = k0_pay3 x3 := by
  rw [View.read_writes_eq_canon _ _ _ (View.cover_of_tiledL (runReload c i arg2 harg2 arg3 harg3 arg4 harg4 arg5 harg5 arg6 harg6 arg7 harg7 arg8 harg8 arg9 harg9 arg10 harg10 x0 x1 x2 x3 x4 xt0 hc).2.2.2.1 S512x2048.size (by sl_kernel_rfl))]
  unfold runReload
  dsimp only
  sl_unfold_run_names
  simp only [View.readAt_eq_ld, Memref.IsWhole.read_unread, harg2, harg3, harg4, harg5, harg6, harg8, harg9, harg10,
    View.canon_unit_zero (S := S256x2048) zero_start2, View.canon_unit_zero (S := S2048x512) zero_start2, View.canon_unit_zero (S := S512x2048) zero_start2,
    View.ld_unit_zero (S := S256x2048) zero_start2, View.ld_unit_zero (S := S2048x512) zero_start2, View.ld_unit_zero (S := S512x2048) zero_start2,
    View.ld_unit_zero (S := S256x1) zero_start2, View.ld_unit_zero (S := S1x2048x512) zero_start3, View.ld_unit_zero (S := S1x512x2048) zero_start3]

/-- The rows of a point that reloads. -/
theorem reload_rows (hc : Reload c i xt0) (f : Buf (Elt F) (arg7.view.loc (c : Thread nD τ))) :
    arg7.view.read (Elt F) (arg7.view.writes (Elt F) f (runReload c i arg2 harg2 arg3 harg3 arg4 harg4 arg5 harg5 arg6 harg6 arg7 harg7 arg8 harg8 arg9 harg9 arg10 harg10 x0 x1 x2 x3 x4 xt0 hc).1) = k0_pay4 x0 (k0_pay1 x1) (k0_pay2 x2) (k0_pay3 x3) x4 := by
  rw [View.read_writes_eq_canon _ _ _ (View.cover_of_tiledL (runReload c i arg2 harg2 arg3 harg3 arg4 harg4 arg5 harg5 arg6 harg6 arg7 harg7 arg8 harg8 arg9 harg9 arg10 harg10 x0 x1 x2 x3 x4 xt0 hc).1 S256x2048.size (by sl_kernel_rfl))]
  unfold runReload
  dsimp only
  sl_unfold_run_names
  simp only [View.readAt_eq_ld, Memref.IsWhole.read_unread, harg2, harg3, harg4, harg5, harg6, harg8, harg9, harg10,
    View.canon_unit_zero (S := S256x2048) zero_start2, View.canon_unit_zero (S := S2048x512) zero_start2, View.canon_unit_zero (S := S512x2048) zero_start2,
    View.ld_unit_zero (S := S256x2048) zero_start2, View.ld_unit_zero (S := S2048x512) zero_start2, View.ld_unit_zero (S := S512x2048) zero_start2,
    View.ld_unit_zero (S := S256x1) zero_start2, View.ld_unit_zero (S := S1x2048x512) zero_start3, View.ld_unit_zero (S := S1x512x2048) zero_start3]
  have glue : ∀ a b d a' b' d', a = a' → b = b' → d = d' → k0_pay4 x0 a b d x4 = k0_pay4 x0 a' b' d' x4 := by
    rintro _ _ _ _ _ _ rfl rfl rfl; rfl
  exact glue _ _ _ _ _ _ (View.readCov_unit_zero (S := S2048x512) arg8.view zero_start2 _ _) (View.readCov_unit_zero (S := S2048x512) arg9.view zero_start2 _ _) (View.readCov_unit_zero (S := S512x2048) arg10.view zero_start2 _ _)

/-- The rows of a point that keeps its weights. -/
theorem keep_rows (xs0 : Vec F S2048x512 .bf16) (xs1 : Vec F S2048x512 .bf16) (xs2 : Vec F S512x2048 .bf16) (hc : ¬Reload c i xt0) (f : Buf (Elt F) (arg7.view.loc (c : Thread nD τ))) :
    arg7.view.read (Elt F) (arg7.view.writes (Elt F) f (runKeep c i arg2 harg2 arg3 harg3 arg4 harg4 arg5 harg5 arg6 harg6 arg7 harg7 arg8 harg8 arg9 harg9 arg10 harg10 x0 x1 x2 x3 x4 xt0 xs0 xs1 xs2 hc).1) = k0_pay4 x0 xs0 xs1 xs2 x4 := by
  rw [View.read_writes_eq_canon _ _ _ (View.cover_of_tiledL (runKeep c i arg2 harg2 arg3 harg3 arg4 harg4 arg5 harg5 arg6 harg6 arg7 harg7 arg8 harg8 arg9 harg9 arg10 harg10 x0 x1 x2 x3 x4 xt0 xs0 xs1 xs2 hc).1 S256x2048.size (by sl_kernel_rfl))]
  unfold runKeep
  dsimp only
  sl_unfold_run_names
  simp only [View.readAt_eq_ld, Memref.IsWhole.read_unread, harg2, harg3, harg4, harg5, harg6, harg8, harg9, harg10,
    View.canon_unit_zero (S := S256x2048) zero_start2, View.canon_unit_zero (S := S2048x512) zero_start2, View.canon_unit_zero (S := S512x2048) zero_start2,
    View.ld_unit_zero (S := S256x2048) zero_start2, View.ld_unit_zero (S := S2048x512) zero_start2, View.ld_unit_zero (S := S512x2048) zero_start2,
    View.ld_unit_zero (S := S256x1) zero_start2, View.ld_unit_zero (S := S1x2048x512) zero_start3, View.ld_unit_zero (S := S1x512x2048) zero_start3]

end Cert.Kernel4Ideal.Opened

end
-- ==== Proof.MoeTable.lean ====
module

public import proofs.«01_k».proof.Proof.MoeLeft

@[expose] public section

set_option maxRecDepth 16384

set_option maxHeartbeats 1000000

/-! # The experts' products: the table's words, and blocks of one expert

A point that keeps its weights has the expert of the point before, so the weights' blocks of the two are the same. -/

noncomputable section

namespace Cert.Kernel4Ideal.Opened

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hO : Ok m) (c : Dev nD) (t : Fin (cfgM m hO).N)

/-- The expert of a block of rows, as the table names it. -/
abbrev expertOf (n : Fin 161) : BitVec 32 := tbl m 0 (ix1 n)

theorem num161 : ∀ n : Fin 161, (BitVec.ofNat 32 n.val).toNat = n.val := by decide
theorem num_before : ∀ n : Fin 161, n.val ≠ 0 → (Scalar.indexCast (Scalar.maxsi (Scalar.subi (BitVec.ofNat 32 n.val) 1#32) 0#32)).toNat = n.val - 1 := by decide

theorem word_at (i : grid0.Coords) : expertWord c i (tbl m 0) = expertOf m (i 0) := by
  refine congrArg (tbl m 0) (funext fun a => Fin.ext ?_)
  match a with
  | ⟨0, _⟩ => exact num161 (i 0)

theorem word_before (i : grid0.Coords) (h : (i 0).val ≠ 0) : beforeWord c i (tbl m 0) = expertOf m ⟨(i 0).val - 1, by have : (i 0).val < 161 := (i 0).isLt; omega⟩ := by
  refine congrArg (tbl m 0) (funext fun a => Fin.ext ?_)
  match a with
  | ⟨0, _⟩ => exact num_before (i 0) h

/-- Where the weights' blocks of a point lie: at its expert. -/
theorem map_first (i : grid0.Coords) : cc0_transform_1 k0_off1_inb numel1_S1 (tbl m) i = ![(expertOf m (i 0)).toNat, 0, 0] :=
  congrArg (fun w : BitVec 32 => (![w.toNat, 0, 0] : Fin 3 → ℕ)) (word_at m (0 : Dev nD) i)
theorem map_second (i : grid0.Coords) : cc0_transform_2 k0_off1_inb numel1_S1 (tbl m) i = ![(expertOf m (i 0)).toNat, 0, 0] :=
  congrArg (fun w : BitVec 32 => (![w.toNat, 0, 0] : Fin 3 → ℕ)) (word_at m (0 : Dev nD) i)
theorem map_third (i : grid0.Coords) : cc0_transform_3 k0_off1_inb numel1_S1 (tbl m) i = ![(expertOf m (i 0)).toNat, 0, 0] :=
  congrArg (fun w : BitVec 32 => (![w.toNat, 0, 0] : Fin 3 → ℕ)) (word_at m (0 : Dev nD) i)

/-- The condition that a point keeps its weights, opened. -/
theorem keeps (i : grid0.Coords) (h : ¬Reload c i (tbl m 0)) : (i 0).val ≠ 0 ∧ expertWord c i (tbl m 0) = beforeWord c i (tbl m 0) := by
  have key : ∀ (p : BitVec 1) (x y : BitVec 32), ¬(Scalar.cmpi .ne (Scalar.extui (Scalar.ori p (Scalar.cmpi .ne x y)) : BitVec 32) 0#32 = 1#1) → p ≠ 1#1 ∧ x = y := by
    intro p x y hh
    have hne : ∀ q : BitVec 1, (Scalar.cmpi .ne x y : BitVec 1) = q → ¬(Scalar.cmpi .ne (Scalar.extui (Scalar.ori p q) : BitVec 32) 0#32 = 1#1) := by
      rintro q rfl; exact hh
    have hb : ∀ p q : BitVec 1, ¬(Scalar.cmpi .ne (Scalar.extui (Scalar.ori p q) : BitVec 32) 0#32 = 1#1) → p ≠ 1#1 ∧ q ≠ 1#1 := by decide
    obtain ⟨h1, h2⟩ := hb p _ hh
    refine ⟨h1, Classical.byContradiction fun e => h2 ?_⟩
    show BitVec.ofBool (x != y) = 1#1
    rw [bne_iff_ne.mpr e]; rfl
  obtain ⟨h1, h2⟩ := key _ _ _ h
  refine ⟨fun h0 => h1 ?_, h2⟩
  rw [h0]; rfl

/-- The grid's one coordinate is the point's number. -/
theorem coords_point (t : Fin grid0.N) : (grid0.coords t 0).val = t.val := by
  have ht : t.val < 161 := lt_of_lt_of_eq t.isLt N_0
  have e0 : (grid0.coords t 0).val = t.val / 1 % 161 := Pipeline.Grid.coords_val t 0 (by decide) rfl
  rw [e0]; omega

theorem coords_val (t : Fin (cfgM m hO).N) : (grid0.coords t 0).val = t.val := coords_point t

/-- Two points of one place have one block of the first weights. -/
theorem first_eq (t t' : Fin (cfgM m hO).N) (h : cc0_transform_1 k0_off1_inb numel1_S1 (tbl m) (grid0.coords t) = cc0_transform_1 k0_off1_inb numel1_S1 (tbl m) (grid0.coords t')) :
    (iblk m hO c 1 t : Vec F S1x2048x512 .f32) = iblk m hO c 1 t' := by
  funext y
  refine congrArg (V m c main_arg3) (funext fun a => Fin.ext ?_)
  exact congrArg (fun f : Fin 3 → ℕ => f a * S1x2048x512.size a + 1 * (y a).val) h

/-- Two points of one place have one block of the second weights. -/
theorem second_eq (t t' : Fin (cfgM m hO).N) (h : cc0_transform_2 k0_off1_inb numel1_S1 (tbl m) (grid0.coords t) = cc0_transform_2 k0_off1_inb numel1_S1 (tbl m) (grid0.coords t')) :
    (iblk m hO c 2 t : Vec F S1x2048x512 .f32) = iblk m hO c 2 t' := by
  funext y
  refine congrArg (V m c main_arg4) (funext fun a => Fin.ext ?_)
  exact congrArg (fun f : Fin 3 → ℕ => f a * S1x2048x512.size a + 1 * (y a).val) h

/-- Two points of one place have one block of the third weights. -/
theorem third_eq (t t' : Fin (cfgM m hO).N) (h : cc0_transform_3 k0_off1_inb numel1_S1 (tbl m) (grid0.coords t) = cc0_transform_3 k0_off1_inb numel1_S1 (tbl m) (grid0.coords t')) :
    (iblk m hO c 3 t : Vec F S1x512x2048 .f32) = iblk m hO c 3 t' := by
  funext y
  refine congrArg (V m c main_arg5) (funext fun a => Fin.ext ?_)
  exact congrArg (fun f : Fin 3 → ℕ => f a * S1x512x2048.size a + 1 * (y a).val) h

/-- A point that keeps its weights is not the first, and its weights' blocks are those of the point before. -/
theorem kept (t : Fin (cfgM m hO).N) (h : ¬Reload c (grid0.coords t) (tbl m 0)) :
    t.val ≠ 0 ∧ ∀ t' : Fin (cfgM m hO).N, t'.val = t.val - 1 →
      (iblk m hO c 1 t' : Vec F S1x2048x512 .f32) = iblk m hO c 1 t ∧ (iblk m hO c 2 t' : Vec F S1x2048x512 .f32) = iblk m hO c 2 t ∧ (iblk m hO c 3 t' : Vec F S1x512x2048 .f32) = iblk m hO c 3 t := by
  obtain ⟨h0, he⟩ := keeps m c (grid0.coords t) h
  refine ⟨fun z => h0 ((coords_val m hO t).trans z), fun t' ht' => ?_⟩
  rw [word_at, word_before m c _ h0] at he
  have hx : expertOf m (grid0.coords t' 0) = expertOf m (grid0.coords t 0) := by
    rw [he]
    refine congrArg (fun n : Fin 161 => expertOf m n) (Fin.ext ?_)
    show (grid0.coords t' 0).val = (grid0.coords t 0).val - 1
    rw [coords_val m hO t, coords_val m hO t', ht']
  refine ⟨first_eq m hO c _ _ ?_, second_eq m hO c _ _ ?_, third_eq m hO c _ _ ?_⟩
  · rw [map_first, map_first, hx]
  · rw [map_second, map_second, hx]
  · rw [map_third, map_third, hx]

end Cert.Kernel4Ideal.Opened

end
-- ==== Proof.MoeFrame.lean ====
module

public import proofs.«01_k».proof.Proof.MoeTable

@[expose] public section

set_option maxRecDepth 16384

set_option maxHeartbeats 6400000

/-! # The experts' products: the frame

After a point the carried weights are its expert's, whether reloaded or kept; the result's block is its rows'
products; from this the pipeline's run, and the frame. -/

noncomputable section

namespace Cert.Kernel4Ideal.Opened

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the result's rows and the three carried weights. -/
def outsAt0 (hO : Ok m) (c : Dev nD) (n : ℕ) (hn : n < (cfgM m hO).N) : Vec F S256x2048 .f32 × Vec F S2048x512 .bf16 × Vec F S2048x512 .bf16 × Vec F S512x2048 .bf16 :=
  (k0_pay4 (iblk m hO c 0 ⟨n, hn⟩) (k0_pay1 (iblk m hO c 1 ⟨n, hn⟩)) (k0_pay2 (iblk m hO c 2 ⟨n, hn⟩)) (k0_pay3 (iblk m hO c 3 ⟨n, hn⟩)) (iblk m hO c 4 ⟨n, hn⟩),
    k0_pay1 (iblk m hO c 1 ⟨n, hn⟩), k0_pay2 (iblk m hO c 2 ⟨n, hn⟩), k0_pay3 (iblk m hO c 3 ⟨n, hn⟩))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2.1) ∗ owns (c : Thread nD τ) scM0_2 fullShare ((outsAt0 m hO c n hn).2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2.1) ∗ owns (c : Thread nD τ) scM0_2 fullShare ((outsAt0 m hO c (n - 1) (by omega)).2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The body at any point: one that reloads leaves the weights it loads; one that keeps finds in place its own expert's. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5]
  rw [show (dats m hO 0 c).Φ t.succ = PhiS m hO c (t.val + 1) t.isLt from rfl, PhiS_succ, PhiT0_eq]
  by_cases h0 : Reload c (grid0.coords t) (tbl m 0)
  · by_cases hz : t.val = 0
    · rw [PhiS_castSucc m hO c t, PhiS_zero m hO c _ _ hz, PhiT0_eq, PhiA0_eq]
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
      iapply ((runReload c (grid0.coords t) _ _ _ _ _ _ _ _ _ _ _ _ _ _ _ _ _ _ (iblk m hO c 0 t) (iblk m hO c 1 t) (iblk m hO c 2 t) (iblk m hO c 3 t) (iblk m hO c 4 t) (tbl m 0) h0).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HT0]; · iexact HT0
      iintro ⟨H0, H1, H2, H3, H4, ⟨%e5, H5⟩, ⟨%es0, HS0⟩, ⟨%es1, HS1⟩, ⟨%es2, HS2⟩, HT0⟩
      isplitl [HS0 HS1 HS2 Hg HT0]
      · isplitl [HS0 HS1 HS2 Hg]
        · isplitl [HS0 HS1 HS2]
          · isplitl [HS0]
            · unfold owns; iexists _; isplitr
              swap; · iexact HS0
              ipureintro; exact reload_first c (grid0.coords t) _ _ _ _ _ _ _ _ _ _ _ _ _ _ _ _ _ _ (iblk m hO c 0 t) (iblk m hO c 1 t) (iblk m hO c 2 t) (iblk m hO c 3 t) (iblk m hO c 4 t) (tbl m 0) h0 _
            isplitl [HS1]
            · unfold owns; iexists _; isplitr
              swap; · iexact HS1
              ipureintro; exact reload_second c (grid0.coords t) _ _ _ _ _ _ _ _ _ _ _ _ _ _ _ _ _ _ (iblk m hO c 0 t) (iblk m hO c 1 t) (iblk m hO c 2 t) (iblk m hO c 3 t) (iblk m hO c 4 t) (tbl m 0) h0 _
            unfold owns; iexists _; isplitr
            swap; · iexact HS2
            ipureintro; exact reload_third c (grid0.coords t) _ _ _ _ _ _ _ _ _ _ _ _ _ _ _ _ _ _ (iblk m hO c 0 t) (iblk m hO c 1 t) (iblk m hO c 2 t) (iblk m hO c 3 t) (iblk m hO c 4 t) (tbl m 0) h0 _
          iexact Hg
        iexact HT0
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact reload_rows c (grid0.coords t) _ _ _ _ _ _ _ _ _ _ _ _ _ _ _ _ _ _ (iblk m hO c 0 t) (iblk m hO c 1 t) (iblk m hO c 2 t) (iblk m hO c 3 t) (iblk m hO c 4 t) (tbl m 0) h0 _
    · rw [PhiS_castSucc m hO c t, PhiS_pos m hO c _ _ hz, PhiT0_eq]
      iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
      iapply ((runReload c (grid0.coords t) _ _ _ _ _ _ _ _ _ _ _ _ _ _ _ _ _ _ (iblk m hO c 0 t) (iblk m hO c 1 t) (iblk m hO c 2 t) (iblk m hO c 3 t) (iblk m hO c 4 t) (tbl m 0) h0).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      isplitl [HS2]; · iexists _; iexact HS2
      isplitl [HT0]; · iexact HT0
      iintro ⟨H0, H1, H2, H3, H4, ⟨%e5, H5⟩, ⟨%es0, HS0⟩, ⟨%es1, HS1⟩, ⟨%es2, HS2⟩, HT0⟩
      isplitl [HS0 HS1 HS2 Hg HT0]
      · isplitl [HS0 HS1 HS2 Hg]
        · isplitl [HS0 HS1 HS2]
          · isplitl [HS0]
            · unfold owns; iexists _; isplitr
              swap; · iexact HS0
              ipureintro; exact reload_first c (grid0.coords t) _ _ _ _ _ _ _ _ _ _ _ _ _ _ _ _ _ _ (iblk m hO c 0 t) (iblk m hO c 1 t) (iblk m hO c 2 t) (iblk m hO c 3 t) (iblk m hO c 4 t) (tbl m 0) h0 _
            isplitl [HS1]
            · unfold owns; iexists _; isplitr
              swap; · iexact HS1
              ipureintro; exact reload_second c (grid0.coords t) _ _ _ _ _ _ _ _ _ _ _ _ _ _ _ _ _ _ (iblk m hO c 0 t) (iblk m hO c 1 t) (iblk m hO c 2 t) (iblk m hO c 3 t) (iblk m hO c 4 t) (tbl m 0) h0 _
            unfold owns; iexists _; isplitr
            swap; · iexact HS2
            ipureintro; exact reload_third c (grid0.coords t) _ _ _ _ _ _ _ _ _ _ _ _ _ _ _ _ _ _ (iblk m hO c 0 t) (iblk m hO c 1 t) (iblk m hO c 2 t) (iblk m hO c 3 t) (iblk m hO c 4 t) (tbl m 0) h0 _
          iexact Hg
        iexact HT0
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact reload_rows c (grid0.coords t) _ _ _ _ _ _ _ _ _ _ _ _ _ _ _ _ _ _ (iblk m hO c 0 t) (iblk m hO c 1 t) (iblk m hO c 2 t) (iblk m hO c 3 t) (iblk m hO c 4 t) (tbl m 0) h0 _
  · obtain ⟨hz, hk⟩ := kept m hO c t h0
    obtain ⟨k1, k2, k3⟩ := hk ⟨t.val - 1, Nat.lt_of_le_of_lt (Nat.sub_le _ _) t.isLt⟩ rfl
    rw [PhiS_castSucc m hO c t, PhiS_pos m hO c _ _ hz, PhiT0_eq]
    have e1 : (outsAt0 m hO c (t.val - 1) (Nat.lt_of_le_of_lt (Nat.sub_le _ _) t.isLt)).2.1 = k0_pay1 (iblk m hO c 1 t) := congrArg k0_pay1 k1
    have e2 : (outsAt0 m hO c (t.val - 1) (Nat.lt_of_le_of_lt (Nat.sub_le _ _) t.isLt)).2.2.1 = k0_pay2 (iblk m hO c 2 t) := congrArg k0_pay2 k2
    have e3 : (outsAt0 m hO c (t.val - 1) (Nat.lt_of_le_of_lt (Nat.sub_le _ _) t.isLt)).2.2.2 = k0_pay3 (iblk m hO c 3 t) := congrArg k0_pay3 k3
    rw [e1, e2, e3]
    iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩⟩
    iapply ((runKeep c (grid0.coords t) _ _ _ _ _ _ _ _ _ _ _ _ _ _ _ _ _ _ (iblk m hO c 0 t) (iblk m hO c 1 t) (iblk m hO c 2 t) (iblk m hO c 3 t) (iblk m hO c 4 t) (tbl m 0) (k0_pay1 (iblk m hO c 1 t)) (k0_pay2 (iblk m hO c 2 t)) (k0_pay3 (iblk m hO c 3 t)) h0).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HT0]; · iexact HT0
    iintro ⟨H0, H1, H2, H3, H4, ⟨%e5, H5⟩, HS0, HS1, HS2, HT0⟩
    isplitl [HS0 HS1 HS2 Hg HT0]
    · isplitl [HS0 HS1 HS2 Hg]
      · isplitl [HS0 HS1 HS2]
        · isplitl [HS0]
          · iexact HS0
          isplitl [HS1]
          · iexact HS1
          iexact HS2
        iexact Hg
      iexact HT0
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact keep_rows c (grid0.coords t) _ _ _ _ _ _ _ _ _ _ _ _ _ _ _ _ _ _ (iblk m hO c 0 t) (iblk m hO c 1 t) (iblk m hO c 2 t) (iblk m hO c 3 t) (iblk m hO c 4 t) (tbl m 0) _ _ _ h0 _

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 161 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame: every run ends, the arguments are unchanged and every counter is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel4Ideal.Opened

end
-- ==== Proof.MoeOk.lean ====
module

public import proofs.«01_k».proof.Proof.MoeRange
public import proofs.«01_k».proof.Proof.MoeFrame
public import proofs.«01_k».proof.Defs

@[expose] public section

set_option maxRecDepth 16384
set_option maxHeartbeats 1000000

/-! # The experts' products: the precondition gives the pipeline's side condition -/

noncomputable section

namespace Cert.Kernel4Ideal.Opened

open Cert.Kernel4Ideal Cert.Kernel4Ideal.Gen Cert.Moe
open Idealize.ShloMosaic Idealize.ShloMosaic.TcCoe Idealize.ShloMosaic.Tactic

variable (m : (ℓ : Loc nD τ sig) → Buf (Elt Ideal) ℓ)

/-- Under the precondition every block's expert is one of the 32. -/
theorem expert_lt (h : Cert.Pre_Kernel4Ideal (hPre_experts_in_range := Cert.Pre_experts_in_range.Gen.facts) m) (n : Fin 161) : (expertOf m n).toNat < 32 := by
  have e : expertOf m n = (m (((0 : Dev nD).tc : Thread nD τ).loc main_arg2) : IVec S161 32) (ix1 n) := congrFun (V_main_arg2 m 0) (ix1 n)
  rw [e]
  exact experts_lt _ _ _ _ _ _ (h 0) (ix1 n)

theorem inside (n : Nat) (h : n < 32) (A B : Nat) (f : Fin 3 → ℕ) (hf : f = ![n, 0, 0]) (a : Fin 3) : (f a + 1) * (![1, A, B] : Fin 3 → ℕ) a ≤ (![32, A, B] : Fin 3 → ℕ) a := by
  subst hf
  match a with
  | ⟨0, _⟩ => show (n + 1) * 1 ≤ 32; omega
  | ⟨1, _⟩ => show (0 + 1) * A ≤ A; omega
  | ⟨2, _⟩ => show (0 + 1) * B ≤ B; omega

/-- So the weights' blocks lie inside their arrays. -/
theorem ok_of_pre (h : Cert.Pre_Kernel4Ideal (hPre_experts_in_range := Cert.Pre_experts_in_range.Gen.facts) m) : Ok m :=
  ⟨fun i => ⟨inside _ (expert_lt m h (i 0)) 2048 512 _ (map_first m i), Or.inl rfl⟩,
    fun i => ⟨inside _ (expert_lt m h (i 0)) 2048 512 _ (map_second m i), Or.inl rfl⟩,
    fun i => ⟨inside _ (expert_lt m h (i 0)) 512 2048 _ (map_third m i), Or.inl rfl⟩⟩

end Cert.Kernel4Ideal.Opened
end
-- ==== Proof.MoeSpec.lean ====
module

public import Idealize.ShloMosaic.Lib.Pipeline.ValueKit

@[expose] public section

set_option maxRecDepth 16384
set_option maxHeartbeats 1000000

/-! # The experts' products of a row: what both sides compute -/

noncomputable section

namespace Cert.Moe

open Idealize.ShloMosaic Idealize.ShloMosaic.TcCoe Idealize.ShloMosaic.Tactic

/-- A hidden entry of a row in an expert: the first product through the logistic gate, times the second. -/
def hiddenEntry (x : Fin 2048 → EReal) (a b : Fin 2048 → EReal) : EReal :=
  (∑ d, x d * a d) * Ideal.logistic (∑ d, x d * a d) * ∑ d, x d * b d

/-- An entry of the row's result: the hidden entries through the third product, times the row's weight. -/
def expertRow (x : Fin 2048 → EReal) (a b : Fin 2048 → Fin 512 → EReal) (o : Fin 512 → EReal) (w : EReal) : EReal :=
  (∑ k, hiddenEntry x (fun d => a d k) (fun d => b d k) * o k) * w

theorem expertRow_congr {x x' : Fin 2048 → EReal} {a a' b b' : Fin 2048 → Fin 512 → EReal} {o o' : Fin 512 → EReal} {w w' : EReal}
    (hx : ∀ d, x d = x' d) (ha : ∀ d k, a d k = a' d k) (hb : ∀ d k, b d k = b' d k) (ho : ∀ k, o k = o' k) (hw : w = w') :
    expertRow x a b o w = expertRow x' a' b' o' w' := by
  obtain rfl := funext hx
  obtain rfl := funext fun d => funext (ha d)
  obtain rfl := funext fun d => funext (hb d)
  obtain rfl := funext ho
  rw [hw]

end Cert.Moe
end
-- ==== Proof.MoeBody.lean ====
module

public import proofs.«01_k».proof.Proof.MoeSpec
public import proofs.«01_k».proof.Proof.Gen.Kernel4Ideal.Skeleton

@[expose] public section

set_option maxRecDepth 16384
set_option maxHeartbeats 1000000

/-! # The experts' products: what a point computes, read at an index -/

noncomputable section

namespace Cert.Kernel4Ideal.Opened

open Cert.Kernel4Ideal Cert.Kernel4Ideal.Gen Cert.Moe
open Idealize.ShloMosaic Idealize.ShloMosaic.TcCoe Idealize.ShloMosaic.Tactic

theorem carried_first (x : Vec Ideal S1x2048x512 .f32) (d : Fin 2048) (k : Fin 512) : k0_pay1 (F := Ideal) x (ix2 d k) = x (ix3 0 d k) := by
  unfold k0_pay1
  pointwise

theorem carried_second (x : Vec Ideal S1x2048x512 .f32) (d : Fin 2048) (k : Fin 512) : k0_pay2 (F := Ideal) x (ix2 d k) = x (ix3 0 d k) := by
  unfold k0_pay2
  pointwise

theorem carried_third (x : Vec Ideal S1x512x2048 .f32) (k : Fin 512) (q : Fin 2048) : k0_pay3 (F := Ideal) x (ix2 k q) = x (ix3 0 k q) := by
  unfold k0_pay3
  pointwise

theorem rows_at (x : Vec Ideal S256x2048 .bf16) (a b : Vec Ideal S2048x512 .bf16) (o : Vec Ideal S512x2048 .bf16) (w : Vec Ideal S256x1 .f32) (r : Fin 256) (q : Fin 2048) :
    k0_pay4 (F := Ideal) x a b o w (ix2 r q) = expertRow (fun d => x (ix2 r d)) (fun d k => a (ix2 d k)) (fun d k => b (ix2 d k)) (fun k => o (ix2 k q)) (w (ix2 r 0)) := by
  unfold k0_pay4 expertRow hiddenEntry
  pointwise

end Cert.Kernel4Ideal.Opened
end
-- ==== Proof.MoeRef.lean ====
module

public import proofs.«01_k».proof.Proof.MoeSpec
public import proofs.«01_k».proof.Proof.Gen.Reference4Ideal.Read

@[expose] public section

set_option maxRecDepth 16384
set_option maxHeartbeats 1000000

/-! # The experts' products: the reference, read at an index -/

noncomputable section

namespace Cert.Reference4Ideal.Opened

open Cert.Reference4Ideal Cert.Reference4Ideal.Gen Cert.Reference4Ideal.Read Cert.Moe
open Idealize.ShloMosaic Idealize.ShloMosaic.TcCoe Idealize.ShloMosaic.Tactic

/-- The dimensions of a take along the first axis of an array of matrices. -/
abbrev takeMats (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Such a take, read at an index: the matrix that the word names, clamped into the array. -/
theorem take_mats {α : Type} {N A B n : Nat} (hN : 0 < N) (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (p : Fin n) (u : Fin A) (v : Fin B) :
    Host.gather (takeMats N A B n wf) x idx (ix3 p u v) = x (ix3 ⟨min (idx (ix2 p 0)).toInt.toNat (N - 1), by omega⟩ u v) := by
  unfold Host.gather
  congr 1
  funext a
  refine Fin.ext ?_
  show (takeMats N A B n wf).start (ix3 p u v) idx a + (takeMats N A B n wf).batchCoord (ix3 p u v) a + (takeMats N A B n wf).offCoord (ix3 p u v) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    have hsi : (takeMats N A B n wf).siIdx (ix3 p u v) ⟨List.idxOf (⟨0, h0⟩ : Fin 3) (takeMats N A B n wf).startIndexMap,
        List.idxOf_lt_length_iff.2 (List.mem_singleton.mpr rfl)⟩ = ix2 p 0 := by
      funext b; refine Fin.ext ?_
      match b with
      | ⟨0, _⟩ => rfl
      | ⟨1, _⟩ => rfl
    unfold GatherDims.start
    refine (dif_pos (show (⟨0, h0⟩ : Fin 3) ∈ (takeMats N A B n wf).startIndexMap from List.mem_singleton.mpr rfl)).trans ?_
    refine (congrArg (fun z => min (idx z).toInt.toNat _) hsi).trans ?_
    rfl
  | ⟨1, h1⟩ =>
    have hs : (takeMats N A B n wf).start (ix3 p u v) idx ⟨1, h1⟩ = 0 := dif_neg (by decide : (1 : Fin 3) ∉ ([0] : List (Fin 3)))
    rw [hs]
    simp only [Nat.zero_add]
    rfl
  | ⟨2, h2⟩ =>
    have hs : (takeMats N A B n wf).start (ix3 p u v) idx ⟨2, h2⟩ = 0 := dif_neg (by decide : (2 : Fin 3) ∉ ([0] : List (Fin 3)))
    rw [hs]
    simp only [Nat.zero_add]
    rfl

variable (x : Vec Ideal S41216x2048 .f32) (w : Vec Ideal S41216 .f32) (e : Vec Ideal S161 .i32) (w1 w3 : Vec Ideal S32x2048x512 .f32) (w2 : Vec Ideal S32x512x2048 .f32)

/-- A word that names an expert is not moved by the index's two corrections. -/
theorem kept_word (a : BitVec 32) (h : a.toNat < 32) : (Scalar.select (IntOp.cmpi .slt a 0#32) (IntOp.addi a 32#32) a) = a ∧ min a.toInt.toNat 31 = a.toNat := by
  have hi : a.toInt = a.toNat := by
    rw [BitVec.toInt_eq_toNat_cond, if_pos (by omega)]
  have hz : (0#32 : BitVec 32).toInt = 0 := by decide
  have hs : a.slt 0#32 = false := by
    rw [Bool.eq_false_iff]
    intro hh
    rw [BitVec.slt_iff_toInt_lt, hi, hz] at hh
    omega
  refine ⟨?_, ?_⟩
  · have : IntOp.cmpi .slt a 0#32 = 0#1 := by
      show BitVec.ofBool (a.slt 0#32) = 0#1
      rw [hs]; rfl
    rw [this]; rfl
  · rw [hi]
    omega

theorem index_first (p : Fin 161) (h : (e (ix1 p)).toNat < 32) : val_main_v6 (F := Ideal) e (ix2 p 0) = e (ix1 p) := by
  rw [val_main_v6_apply, show idx_main_v6 (ix2 p 0) = ix1 p from funext fun a => match a with | ⟨0, _⟩ => rfl]
  exact (kept_word _ h).1
theorem index_second (p : Fin 161) (h : (e (ix1 p)).toNat < 32) : val_main_v14 (F := Ideal) e (ix2 p 0) = e (ix1 p) := by
  rw [val_main_v14_apply, show idx_main_v14 (ix2 p 0) = ix1 p from funext fun a => match a with | ⟨0, _⟩ => rfl]
  exact (kept_word _ h).1
theorem index_third (p : Fin 161) (h : (e (ix1 p)).toNat < 32) : val_main_v24 (F := Ideal) e (ix2 p 0) = e (ix1 p) := by
  rw [val_main_v24_apply, show idx_main_v24 (ix2 p 0) = ix1 p from funext fun a => match a with | ⟨0, _⟩ => rfl]
  exact (kept_word _ h).1

theorem taken_first (p : Fin 161) (h : (e (ix1 p)).toNat < 32) (d : Fin 2048) (k : Fin 512) : val_main_v7 (F := Ideal) e w1 (ix3 p d k) = w1 (ix3 ⟨(e (ix1 p)).toNat, h⟩ d k) := by
  refine (take_mats (by decide) _ w1 _ p d k).trans ?_
  refine congrArg (fun z => w1 (ix3 z d k)) (Fin.ext ?_)
  show min (val_main_v6 (F := Ideal) e (ix2 p 0)).toInt.toNat 31 = (e (ix1 p)).toNat
  rw [index_first e p h]
  exact (kept_word _ h).2
theorem taken_second (p : Fin 161) (h : (e (ix1 p)).toNat < 32) (d : Fin 2048) (k : Fin 512) : val_main_v15 (F := Ideal) e w3 (ix3 p d k) = w3 (ix3 ⟨(e (ix1 p)).toNat, h⟩ d k) := by
  refine (take_mats (by decide) _ w3 _ p d k).trans ?_
  refine congrArg (fun z => w3 (ix3 z d k)) (Fin.ext ?_)
  show min (val_main_v14 (F := Ideal) e (ix2 p 0)).toInt.toNat 31 = (e (ix1 p)).toNat
  rw [index_second e p h]
  exact (kept_word _ h).2
theorem taken_third (p : Fin 161) (h : (e (ix1 p)).toNat < 32) (k : Fin 512) (q : Fin 2048) : val_main_v25 (F := Ideal) e w2 (ix3 p k q) = w2 (ix3 ⟨(e (ix1 p)).toNat, h⟩ k q) := by
  refine (take_mats (by decide) _ w2 _ p k q).trans ?_
  refine congrArg (fun z => w2 (ix3 z k q)) (Fin.ext ?_)
  show min (val_main_v24 (F := Ideal) e (ix2 p 0)).toInt.toNat 31 = (e (ix1 p)).toNat
  rw [index_third e p h]
  exact (kept_word _ h).2

theorem row_at (p : Fin 161) (s : Fin 256) (d : Fin 2048) : val_main_v0 (F := Ideal) x (ix3 p s d) = x (ix2 ⟨p.val * 256 + s.val, by omega⟩ d) := by
  rw [val_main_v0_apply]
  exact congrArg x (funext fun a => match a with
    | ⟨0, _⟩ => Fin.ext (show ((p.val * 256 + s.val) * 2048 + d.val) / 2048 = p.val * 256 + s.val by omega)
    | ⟨1, _⟩ => Fin.ext (show ((p.val * 256 + s.val) * 2048 + d.val) % 2048 = d.val by omega))

theorem first_at (p : Fin 161) (h : (e (ix1 p)).toNat < 32) (s : Fin 256) (k : Fin 512) : val_main_v8 (F := Ideal) x e w1 (ix3 p s k)
    = ∑ d, x (ix2 ⟨p.val * 256 + s.val, by omega⟩ d) * w1 (ix3 ⟨(e (ix1 p)).toNat, h⟩ d k) := by
  rw [val_main_v8_apply]
  refine Finset.sum_congr rfl fun d _ => ?_
  rw [show lidx_main_v8 (ix3 p s k) d = ix3 p s d from funext fun a => match a with | ⟨0, _⟩ => rfl | ⟨1, _⟩ => rfl | ⟨2, _⟩ => rfl,
    show ridx_main_v8 (ix3 p s k) d = ix3 p d k from funext fun a => match a with | ⟨0, _⟩ => rfl | ⟨1, _⟩ => rfl | ⟨2, _⟩ => rfl, row_at, taken_first e w1 p h]

theorem second_at (p : Fin 161) (h : (e (ix1 p)).toNat < 32) (s : Fin 256) (k : Fin 512) : val_main_v16 (F := Ideal) x e w3 (ix3 p s k)
    = ∑ d, x (ix2 ⟨p.val * 256 + s.val, by omega⟩ d) * w3 (ix3 ⟨(e (ix1 p)).toNat, h⟩ d k) := by
  rw [val_main_v16_apply]
  refine Finset.sum_congr rfl fun d _ => ?_
  rw [show lidx_main_v16 (ix3 p s k) d = ix3 p s d from funext fun a => match a with | ⟨0, _⟩ => rfl | ⟨1, _⟩ => rfl | ⟨2, _⟩ => rfl,
    show ridx_main_v16 (ix3 p s k) d = ix3 p d k from funext fun a => match a with | ⟨0, _⟩ => rfl | ⟨1, _⟩ => rfl | ⟨2, _⟩ => rfl, row_at, taken_second e w3 p h]

theorem gate_at (i : S161x256x512.Idx) : val_main_v17 (F := Ideal) x e w1 i = val_main_v8 (F := Ideal) x e w1 i * Ideal.logistic (val_main_v8 (F := Ideal) x e w1 i) := by
  rw [val_main_v17_apply]
  unfold val_main_call0_v5 val_main_call0_v4 val_main_call0_v3 val_main_call0_v2 val_main_call0_v1 val_main_call0_v0 val_main_call0_cst val_main_call0_cst_0
  generalize val_main_v8 (F := Ideal) x e w1 = y
  pointwise
  rfl

theorem hidden_at (p : Fin 161) (h : (e (ix1 p)).toNat < 32) (s : Fin 256) (k : Fin 512) : val_main_v18 (F := Ideal) x e w1 w3 (ix3 p s k)
    = hiddenEntry (fun d => x (ix2 ⟨p.val * 256 + s.val, by omega⟩ d)) (fun d => w1 (ix3 ⟨(e (ix1 p)).toNat, h⟩ d k)) (fun d => w3 (ix3 ⟨(e (ix1 p)).toNat, h⟩ d k)) := by
  show val_main_v17 (F := Ideal) x e w1 (ix3 p s k) * val_main_v16 (F := Ideal) x e w3 (ix3 p s k) = _
  rw [gate_at, first_at x e w1 p h, second_at x e w3 p h]
  rfl

theorem result_at (p : Fin 161) (h : (e (ix1 p)).toNat < 32) (s : Fin 256) (q : Fin 2048) : val_main_v30 (F := Ideal) x w e w1 w3 w2 (ix2 ⟨p.val * 256 + s.val, by omega⟩ q)
    = expertRow (fun d => x (ix2 ⟨p.val * 256 + s.val, by omega⟩ d)) (fun d k => w1 (ix3 ⟨(e (ix1 p)).toNat, h⟩ d k)) (fun d k => w3 (ix3 ⟨(e (ix1 p)).toNat, h⟩ d k))
        (fun k => w2 (ix3 ⟨(e (ix1 p)).toNat, h⟩ k q)) (w (ix1 ⟨p.val * 256 + s.val, by omega⟩)) := by
  show val_main_v27 (F := Ideal) x e w1 w3 w2 _ * val_main_v29 (F := Ideal) w _ = _
  rw [val_main_v27_apply, val_main_v29_apply, val_main_v28_apply]
  unfold expertRow
  refine congrArg₂ (· * ·) ?_ (congrArg w (funext fun a => match a with | ⟨0, _⟩ => rfl))
  rw [show idx_main_v27 (ix2 ⟨p.val * 256 + s.val, by omega⟩ q) = ix3 p s q from funext fun a => match a with
    | ⟨0, _⟩ => Fin.ext (show ((p.val * 256 + s.val) * 2048 + q.val) / 524288 = p.val by omega)
    | ⟨1, _⟩ => Fin.ext (show ((p.val * 256 + s.val) * 2048 + q.val) / 2048 % 256 = s.val by omega)
    | ⟨2, _⟩ => Fin.ext (show ((p.val * 256 + s.val) * 2048 + q.val) % 2048 = q.val by omega), val_main_v26_apply]
  refine Finset.sum_congr rfl fun k _ => ?_
  rw [show lidx_main_v26 (ix3 p s q) k = ix3 p s k from funext fun a => match a with | ⟨0, _⟩ => rfl | ⟨1, _⟩ => rfl | ⟨2, _⟩ => rfl,
    show ridx_main_v26 (ix3 p s q) k = ix3 p k q from funext fun a => match a with | ⟨0, _⟩ => rfl | ⟨1, _⟩ => rfl | ⟨2, _⟩ => rfl, hidden_at x e w1 w3 p h, taken_third e w2 p h]

end Cert.Reference4Ideal.Opened
end
-- ==== Proof.MoeWhole.lean ====
module

public import proofs.«01_k».proof.Proof.MoeOk
public import proofs.«01_k».proof.Proof.MoeBody
public import proofs.«01_k».proof.Proof.MoeRef
public import Idealize.ShloMosaic.Lib.Pipeline.Covers

@[expose] public section

set_option maxRecDepth 16384
set_option maxHeartbeats 1000000

/-! # The experts' products: the kernel's whole result -/

noncomputable section

namespace Cert.Kernel4Ideal.Opened

open Cert.Kernel4Ideal Cert.Kernel4Ideal.Gen Cert.Moe
open Idealize.ShloMosaic Idealize.ShloMosaic.TcCoe Idealize.ShloMosaic.Tactic

variable (m : (ℓ : Loc nD τ sig) → Buf (Elt Ideal) ℓ) (hO : Ok m) (c : Dev nD) (t : Fin (cfgM m hO).N)

abbrev rows : Vec Ideal S41216x2048 .f32 := m ((c : Thread nD τ).loc main_arg0)
abbrev wts : Vec Ideal S41216 .f32 := m ((c : Thread nD τ).loc main_arg1)
abbrev experts : Vec Ideal S161 .i32 := m ((c : Thread nD τ).loc main_arg2)
abbrev firsts : Vec Ideal S32x2048x512 .f32 := m ((c : Thread nD τ).loc main_arg3)
abbrev seconds : Vec Ideal S32x2048x512 .f32 := m ((c : Thread nD τ).loc main_arg4)
abbrev thirds : Vec Ideal S32x512x2048 .f32 := m ((c : Thread nD τ).loc main_arg5)

/-! ## The arrays that the host code lays out -/

theorem rows_entry (r : Fin 41216) (d : Fin 2048) : V m c main_v0 (ix2 r d) = rows m c (ix2 r d) := by
  unfold V
  simp only [hostOps0]
  after_results_simp
  pointwise

theorem wts_entry (r : Fin 41216) : V m c main_v1 (ix2 r 0) = wts m c (ix1 r) := by
  unfold V
  simp only [hostOps0]
  after_results_simp
  pointwise

/-! ## Where a block's entry lies in its array -/

/-- The block of rows of a point. -/
abbrev pb : Fin 161 := (grid0.coords t) 0

theorem place (i : grid0.Coords) : (![(BitVec.ofNat 32 (i 0).val).toNat, (0#32).toNat] : Fin 2 → ℕ) = ![(i 0).val, 0] := by
  rw [num161 (i 0)]; rfl

/-- The number of a row of a point's block. -/
abbrev lineOf (p : Fin 161) (s : Fin 256) : Fin 41216 := ⟨p.val * 256 + s.val, by omega⟩

/-- The expert of a point, as one of the 32. -/
abbrev chosen (hE : ∀ n : Fin 161, (expertOf m n).toNat < 32) (p : Fin 161) : Fin 32 := ⟨(expertOf m p).toNat, hE p⟩

theorem rows_block (s : Fin 256) (d : Fin 2048) : (iblk m hO c 0 t : Vec Ideal S256x2048 .bf16) (ix2 s d) = rows m c (ix2 (lineOf (pb m hO t) s) d) := by
  refine (congrArg (V m c main_v0) (funext fun a => Fin.ext ?_)).trans (rows_entry m c _ d)
  refine (congrArg (fun f : Fin 2 → ℕ => f a * S256x2048.size a + 1 * ((ix2 s d : S256x2048.Idx) a).val) (place (grid0.coords t))).trans ?_
  match a with
  | ⟨0, _⟩ => show (pb m hO t).val * 256 + 1 * s.val = (pb m hO t).val * 256 + s.val; omega
  | ⟨1, _⟩ => show 0 * 2048 + 1 * d.val = d.val; omega

theorem wts_block (s : Fin 256) : (iblk m hO c 4 t : Vec Ideal S256x1 .f32) (ix2 s 0) = wts m c (ix1 (lineOf (pb m hO t) s)) := by
  refine (congrArg (V m c main_v1) (funext fun a => Fin.ext ?_)).trans (wts_entry m c _)
  refine (congrArg (fun f : Fin 2 → ℕ => f a * S256x1.size a + 1 * ((ix2 s 0 : S256x1.Idx) a).val) (place (grid0.coords t))).trans ?_
  match a with
  | ⟨0, _⟩ => show (pb m hO t).val * 256 + 1 * s.val = (pb m hO t).val * 256 + s.val; omega
  | ⟨1, _⟩ => rfl

variable (hE : ∀ n : Fin 161, (expertOf m n).toNat < 32)

theorem first_block (d : Fin 2048) (k : Fin 512) : (iblk m hO c 1 t : Vec Ideal S1x2048x512 .f32) (ix3 0 d k) = firsts m c (ix3 (chosen m hE (pb m hO t)) d k) := by
  refine (congrArg (V m c main_arg3) (funext fun a => Fin.ext ?_)).trans (congrFun (V_main_arg3 m c) _)
  refine (congrArg (fun f : Fin 3 → ℕ => f a * S1x2048x512.size a + 1 * ((ix3 0 d k : S1x2048x512.Idx) a).val) (map_first m (grid0.coords t))).trans ?_
  match a with
  | ⟨0, _⟩ => show (expertOf m (pb m hO t)).toNat * 1 + 1 * 0 = (expertOf m (pb m hO t)).toNat; omega
  | ⟨1, _⟩ => show 0 * 2048 + 1 * d.val = d.val; omega
  | ⟨2, _⟩ => show 0 * 512 + 1 * k.val = k.val; omega

theorem second_block (d : Fin 2048) (k : Fin 512) : (iblk m hO c 2 t : Vec Ideal S1x2048x512 .f32) (ix3 0 d k) = seconds m c (ix3 (chosen m hE (pb m hO t)) d k) := by
  refine (congrArg (V m c main_arg4) (funext fun a => Fin.ext ?_)).trans (congrFun (V_main_arg4 m c) _)
  refine (congrArg (fun f : Fin 3 → ℕ => f a * S1x2048x512.size a + 1 * ((ix3 0 d k : S1x2048x512.Idx) a).val) (map_second m (grid0.coords t))).trans ?_
  match a with
  | ⟨0, _⟩ => show (expertOf m (pb m hO t)).toNat * 1 + 1 * 0 = (expertOf m (pb m hO t)).toNat; omega
  | ⟨1, _⟩ => show 0 * 2048 + 1 * d.val = d.val; omega
  | ⟨2, _⟩ => show 0 * 512 + 1 * k.val = k.val; omega

theorem third_block (k : Fin 512) (q : Fin 2048) : (iblk m hO c 3 t : Vec Ideal S1x512x2048 .f32) (ix3 0 k q) = thirds m c (ix3 (chosen m hE (pb m hO t)) k q) := by
  refine (congrArg (V m c main_arg5) (funext fun a => Fin.ext ?_)).trans (congrFun (V_main_arg5 m c) _)
  refine (congrArg (fun f : Fin 3 → ℕ => f a * S1x512x2048.size a + 1 * ((ix3 0 k q : S1x512x2048.Idx) a).val) (map_third m (grid0.coords t))).trans ?_
  match a with
  | ⟨0, _⟩ => show (expertOf m (pb m hO t)).toNat * 1 + 1 * 0 = (expertOf m (pb m hO t)).toNat; omega
  | ⟨1, _⟩ => show 0 * 512 + 1 * k.val = k.val; omega
  | ⟨2, _⟩ => show 0 * 2048 + 1 * q.val = q.val; omega

/-! ## A point, row by row -/

/-- The reference's result of the same arguments. -/
abbrev reference : Vec Ideal Cert.Reference4Ideal.S41216x2048 .f32 :=
  Cert.Reference4Ideal.Read.val_main_v30 (F := Ideal) (rows m c) (wts m c) (experts m c) (firsts m c) (seconds m c) (thirds m c)

theorem point_row (s : Fin 256) (q : Fin 2048) : (outsAt0 m hO c t.val t.isLt).1 (ix2 s q)
    = expertRow (fun d => rows m c (ix2 (lineOf (pb m hO t) s) d)) (fun d k => firsts m c (ix3 (chosen m hE (pb m hO t)) d k)) (fun d k => seconds m c (ix3 (chosen m hE (pb m hO t)) d k))
        (fun k => thirds m c (ix3 (chosen m hE (pb m hO t)) k q)) (wts m c (ix1 (lineOf (pb m hO t) s))) := by
  refine (rows_at _ _ _ _ _ s q).trans (expertRow_congr (fun d => rows_block m hO c t s d) (fun d k => ?_) (fun d k => ?_) (fun k => ?_) (wts_block m hO c t s))
  · exact (carried_first _ d k).trans (first_block m hO c t hE d k)
  · exact (carried_second _ d k).trans (second_block m hO c t hE d k)
  · exact (carried_third _ k q).trans (third_block m hO c t hE k q)

/-- Every device's table is the first's: there is one device. -/
theorem expert_word (p : Fin 161) : experts m c (ix1 p) = expertOf m p := by
  obtain rfl : c = 0 := Subsingleton.elim _ _
  exact (congrFun (V_main_arg2 m 0) (ix1 p)).symm

theorem reference_row (p : Fin 161) (s : Fin 256) (q : Fin 2048) : reference m c (ix2 (lineOf p s) q)
    = expertRow (fun d => rows m c (ix2 (lineOf p s) d)) (fun d k => firsts m c (ix3 (chosen m hE p) d k)) (fun d k => seconds m c (ix3 (chosen m hE p) d k))
        (fun k => thirds m c (ix3 (chosen m hE p) k q)) (wts m c (ix1 (lineOf p s))) := by
  have e : (⟨(experts m c (ix1 p)).toNat, (congrArg BitVec.toNat (expert_word m c p)).trans_lt (hE p)⟩ : Fin 32) = chosen m hE p := Fin.ext (congrArg BitVec.toNat (expert_word m c p))
  rw [← e]
  exact Cert.Reference4Ideal.Opened.result_at (rows m c) (wts m c) (experts m c) (firsts m c) (seconds m c) (thirds m c) p _ s q

/-! ## The blocks written back tile the result -/

theorem out_place (s : Fin 256) (q : Fin 2048) : ((((cfgM m hO).win 5).blk t).view.emb (ix2 s q : S256x2048.Idx) : S41216x2048.Idx) = ix2 (lineOf (pb m hO t) s) q := by
  refine funext fun a => Fin.ext ?_
  refine (congrArg (fun f : Fin 2 → ℕ => f a * S256x2048.size a + 1 * ((ix2 s q : S256x2048.Idx) a).val) (place (grid0.coords t))).trans ?_
  match a with
  | ⟨0, _⟩ => show (pb m hO t).val * 256 + 1 * s.val = (pb m hO t).val * 256 + s.val; omega
  | ⟨1, _⟩ => show 0 * 2048 + 1 * q.val = q.val; omega

include hE in
theorem point_eq (y : S256x2048.Idx) : (outsAt0 m hO c t.val t.isLt).1 y = reference m c ((((cfgM m hO).win 5).blk t).view.emb y) := by
  obtain ⟨s, q, rfl⟩ : ∃ (s : Fin 256) (q : Fin 2048), y = ix2 s q :=
    ⟨y 0, y 1, funext fun a => match a with | ⟨0, _⟩ => rfl | ⟨1, _⟩ => rfl⟩
  refine (point_row m hO c t hE s q).trans ((reference_row m c hE (pb m hO t) s q).symm.trans ?_)
  exact congrArg (reference m c) (out_place m hO t s q).symm

/-- The point of a block of rows. -/
abbrev pt (a : Fin 161) : grid0.Coords := fun x => match x with
  | ⟨0, _⟩ => a

theorem covers : ((cfgM m hO).win 5).Covers :=
  ((cfgM m hO).win 5).covers_of_indexMap_surj rfl (by decide : ∀ a : Fin 2, 0 < S256x2048.size a) fun β =>
    have n0 : ((cfgM m hO).win 5).nblk ⟨0, Nat.zero_lt_two⟩ = 161 := (by decide : (41216 + 256 - 1) / 256 = 161)
    have n1 : ((cfgM m hO).win 5).nblk ⟨1, Nat.one_lt_two⟩ = 1 := (by decide : (2048 + 2048 - 1) / 2048 = 1)
    ⟨pt ⟨(β ⟨0, Nat.zero_lt_two⟩).val, lt_of_lt_of_eq (β ⟨0, Nat.zero_lt_two⟩).isLt n0⟩, fun a => by
      refine (congrFun (place (pt _)) a).trans ?_
      match a with
      | ⟨0, _⟩ => rfl
      | ⟨1, _⟩ =>
        have h := lt_of_lt_of_eq (β ⟨1, Nat.one_lt_two⟩).isLt n1
        exact (Nat.lt_one_iff.mp h).symm⟩

include hE in
/-- The kernel's result array is the reference's result. -/
theorem result_eq : (dats m hO 0 c).arrAt 5 (cfgM m hO).N = reference m c := by
  refine (dats m hO 0 c).arrAt_eq_of_covers 5 _ (covers m hO) fun t hf y => ?_
  blk_simp
  rw [after0_5]
  exact point_eq m hO c t hE y

end Cert.Kernel4Ideal.Opened
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.ReferenceIdeal.Run
public import proofs.«01_k».proof.Proof.Whole
public import proofs.«01_k».proof.Proof.ProjWhole
public import proofs.«01_k».proof.Proof.OutWhole
public import proofs.«01_k».proof.Proof.Gen.Kernel2
public import proofs.«01_k».proof.Proof.Gen.Kernel2Ideal.Value
public import proofs.«01_k».proof.Proof.Gen.Reference2Ideal.Read
public import proofs.«01_k».proof.Proof.Gen.Reference2Ideal.Run
public import proofs.«01_k».proof.Proof.Gen.Kernel3
public import proofs.«01_k».proof.Proof.Gen.Kernel3Ideal.Value
public import proofs.«01_k».proof.Proof.Gen.Reference3Ideal.Read
public import proofs.«01_k».proof.Proof.Gen.Reference3Ideal.Run
public import proofs.«01_k».proof.Proof.MoeWhole
public import proofs.«01_k».proof.Proof.MoeBitsOk
public import proofs.«01_k».proof.Proof.Gen.Kernel4.Launch
public import proofs.«01_k».proof.Proof.Gen.Kernel4Ideal.Launch
public import proofs.«01_k».proof.Proof.Gen.Kernel4Ideal.Skeleton
public import proofs.«01_k».proof.Proof.Gen.Reference4Ideal.Read
public import proofs.«01_k».proof.Proof.Gen.Reference4Ideal.Run
public import Idealize.ShloMosaic.Adequacy
public import Idealize.ShloMosaic.Init
public import Idealize.ShloMosaic.Lib.Quiescent

@[expose] public section

set_option maxRecDepth 8192
set_option maxHeartbeats 1000000

noncomputable section

namespace Cert.Proof

open Idealize.ShloMosaic Idealize.SL.Sem

/-- The reference leaves its arguments as they were, and no semaphore counts: it has none. -/
theorem reference_keeps : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two named constants are what their names say. -/
theorem named : Cert.preserves_Kernel_KernelIdeal :=
  ⟨IdealRules.named_const.statement Cert.KernelIdeal.κ "s" .f32 0x3E38AA3B#32 (((1 / 8) * (Real.log 2)⁻¹ : ℝ) : EReal) rfl,
    IdealRules.named_const.statement Cert.KernelIdeal.κ "mask" .f32 0xF149F2CA#32 ⊥ rfl⟩

/-- The reference's function takes equal arguments to equal results. -/
theorem same_args (c : Dev Cert.KernelIdeal.nD) (m : (ℓ : Loc Cert.KernelIdeal.nD Cert.KernelIdeal.τ Cert.KernelIdeal.sig) → Buf (Elt Ideal) ℓ)
    {a0 a1 a2 a3 a4 a5 a6 a7 a8}
    (h0 : a0 = Cert.KernelIdeal.Opened.nq m c) (h1 : a1 = Cert.KernelIdeal.Opened.ng m c) (h2 : a2 = Cert.KernelIdeal.Opened.kc m c)
    (h3 : a3 = Cert.KernelIdeal.Opened.vc m c) (h4 : a4 = Cert.KernelIdeal.Opened.ks m c) (h5 : a5 = Cert.KernelIdeal.Opened.vs m c)
    (h6 : a6 = Cert.KernelIdeal.Opened.kw m c) (h7 : a7 = Cert.KernelIdeal.Opened.vw m c) (h8 : a8 = Cert.KernelIdeal.Opened.gq m c) :
    Cert.ReferenceIdeal.Read.val_main_v126 (F := Ideal) a0 a1 a2 a3 a4 a5 a6 a7 a8 = Cert.KernelIdeal.Opened.reference m c := by
  subst h0 h1 h2 h3 h4 h5 h6 h7 h8
  rfl

/-- The kernel's result and the reference's are one function of the arguments. -/
theorem same : Cert.algebraic_KernelIdeal_ReferenceIdeal := by
  intro m g m' g' _ agree
  refine ⟨fun c => Cert.KernelIdeal.Opened.reference m c, ?_, ?_⟩
  · exact (θ_run Cert.KernelIdeal.defs _ _).mono
      (fun r h c => ⟨(h c).1.trans (Cert.KernelIdeal.Opened.result_eq m c), (h c).2⟩)
      (Cert.KernelIdeal.Value.run_blocks (F := Ideal) m g)
  · refine (θ_run Cert.ReferenceIdeal.defs _ _).mono (fun r h c => ⟨?_, (h c).2⟩)
      (Cert.ReferenceIdeal.Value.run (F := Ideal) m' g')
    obtain ⟨h0, h1, h2, h3, h4, h5, h6, h7, h8⟩ := agree c
    exact ((h c).1.trans (Cert.ReferenceIdeal.Read.val_main_v126_eq (StableHlo.launchContents m' c))).trans
      (same_args c m h0 h1 h2 h3 h4 h5 h6 h7 h8)

/-- The projection's body is one text in the printed program and in the idealized one. -/
theorem same_bodies : @Cert.Kernel2.defs₀ Bits _ _ = @Cert.Kernel2Ideal.defs₀ Bits _ _ := by
  unfold Cert.Kernel2.defs₀ Cert.Kernel2Ideal.defs₀
  refine congrArg Defs.onTc (funext fun l => funext fun a => ?_)
  match l, a with
  | ⟨0, _⟩, (t, s) => rfl

theorem same_table : @Cert.Kernel2.defs Bits _ _ = @Cert.Kernel2Ideal.defs Bits _ _ :=
  congrArg (Pipeline.defs (Cert.Kernel2Ideal.pcfgs (F := Bits))) same_bodies

/-- So the projection's printed program keeps its arguments as the idealized one does. -/
theorem projection_keeps : Cert.quiescent_Kernel2 (hKernel2 := Cert.Kernel2.Gen.facts) := by
  intro m ρ _
  rw [same_table]
  exact Cert.Kernel2Ideal.Gen.frame (F := Bits) m ρ

/-- The projection's reference keeps its arguments and leaves every counter at zero. -/
theorem projected_keeps : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The projection's reference takes equal arguments to equal results. -/
theorem same_projection_args (c : Dev Cert.Kernel2Ideal.nD) (m : (ℓ : Loc Cert.Kernel2Ideal.nD Cert.Kernel2Ideal.τ Cert.Kernel2Ideal.sig) → Buf (Elt Ideal) ℓ)
    {a0 a1 a2} (h0 : a0 = Cert.Kernel2Ideal.Opened.xs m c) (h1 : a1 = Cert.Kernel2Ideal.Opened.gs m c) (h2 : a2 = Cert.Kernel2Ideal.Opened.ws m c) :
    Cert.Reference2Ideal.Read.val_main_v27 (F := Ideal) a0 a1 a2 = Cert.Kernel2Ideal.Opened.reference m c := by
  subst h0 h1 h2
  rfl

/-- The projection's result and its reference's are one function of the arguments. -/
theorem same_projection : Cert.algebraic_Kernel2Ideal_Reference2Ideal := by
  intro m g m' g' _ agree
  refine ⟨fun c => Cert.Kernel2Ideal.Opened.reference m c, ?_, ?_⟩
  · exact (θ_run Cert.Kernel2Ideal.defs _ _).mono
      (fun r h c => ⟨(h c).1.trans (Cert.Kernel2Ideal.Opened.result_eq m c), (h c).2⟩)
      (Cert.Kernel2Ideal.Value.run_blocks (F := Ideal) m g)
  · refine (θ_run Cert.Reference2Ideal.defs _ _).mono (fun r h c => ⟨?_, (h c).2⟩)
      (Cert.Reference2Ideal.Value.run (F := Ideal) m' g')
    obtain ⟨h0, h1, h2⟩ := agree c
    exact ((h c).1.trans (Cert.Reference2Ideal.Read.val_main_v27_eq m' c)).trans
      (same_projection_args c m h0 h1 h2)

/-- The output projection's body is one text in the printed program and in the idealized one. -/
theorem same_out_bodies : @Cert.Kernel3.defs₀ Bits _ _ = @Cert.Kernel3Ideal.defs₀ Bits _ _ := by
  unfold Cert.Kernel3.defs₀ Cert.Kernel3Ideal.defs₀
  refine congrArg Defs.onTc (funext fun l => funext fun a => ?_)
  match l, a with
  | ⟨0, _⟩, (t, s) => rfl

theorem same_out_table : @Cert.Kernel3.defs Bits _ _ = @Cert.Kernel3Ideal.defs Bits _ _ :=
  congrArg (Pipeline.defs (Cert.Kernel3Ideal.pcfgs (F := Bits))) same_out_bodies

/-- So the output projection's printed program keeps its arguments as the idealized one does. -/
theorem output_keeps : Cert.quiescent_Kernel3 (hKernel3 := Cert.Kernel3.Gen.facts) := by
  intro m ρ _
  rw [same_out_table]
  exact Cert.Kernel3Ideal.Gen.frame (F := Bits) m ρ

/-- The output projection's reference keeps its arguments and leaves every counter at zero. -/
theorem outputs_keep : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The output projection's reference takes equal arguments to equal hidden states, -/
theorem same_hidden_args (c : Dev Cert.Kernel3Ideal.nD) (m : (ℓ : Loc Cert.Kernel3Ideal.nD Cert.Kernel3Ideal.τ Cert.Kernel3Ideal.sig) → Buf (Elt Ideal) ℓ)
    {a0 a1 a2 a3 a4 a5 a6} (h0 : a0 = Cert.Kernel3Ideal.Opened.xs m c) (h1 : a1 = Cert.Kernel3Ideal.Opened.ps m c) (h2 : a2 = Cert.Kernel3Ideal.Opened.hms m c) (h3 : a3 = Cert.Kernel3Ideal.Opened.hns m c) (h4 : a4 = Cert.Kernel3Ideal.Opened.wms m c) (h5 : a5 = Cert.Kernel3Ideal.Opened.wns m c) (h6 : a6 = Cert.Kernel3Ideal.Opened.wos m c) :
    Cert.Reference3Ideal.Read.val_main_v45 (F := Ideal) a0 a1 a2 a3 a4 a5 a6 = Cert.Kernel3Ideal.Opened.referenceHidden m c := by
  subst h0 h1 h2 h3 h4 h5 h6
  rfl

/-- to equal norms -/
theorem same_norm_args (c : Dev Cert.Kernel3Ideal.nD) (m : (ℓ : Loc Cert.Kernel3Ideal.nD Cert.Kernel3Ideal.τ Cert.Kernel3Ideal.sig) → Buf (Elt Ideal) ℓ)
    {a0 a1 a2 a3 a4 a5 a6 a7} (h0 : a0 = Cert.Kernel3Ideal.Opened.xs m c) (h1 : a1 = Cert.Kernel3Ideal.Opened.ps m c) (h2 : a2 = Cert.Kernel3Ideal.Opened.hms m c) (h3 : a3 = Cert.Kernel3Ideal.Opened.hns m c) (h4 : a4 = Cert.Kernel3Ideal.Opened.wms m c) (h5 : a5 = Cert.Kernel3Ideal.Opened.wns m c) (h6 : a6 = Cert.Kernel3Ideal.Opened.wos m c) (h7 : a7 = Cert.Kernel3Ideal.Opened.gs m c) :
    Cert.Reference3Ideal.Read.val_main_v36 (F := Ideal) a0 a1 a2 a3 a4 a5 a6 a7 = Cert.Kernel3Ideal.Opened.referenceNorm m c := by
  subst h0 h1 h2 h3 h4 h5 h6 h7
  rfl

/-- and to equal scores. -/
theorem same_scores_args (c : Dev Cert.Kernel3Ideal.nD) (m : (ℓ : Loc Cert.Kernel3Ideal.nD Cert.Kernel3Ideal.τ Cert.Kernel3Ideal.sig) → Buf (Elt Ideal) ℓ)
    {a0 a1 a2 a3 a4 a5 a6 a7 a8 a9 a10 a11} (h0 : a0 = Cert.Kernel3Ideal.Opened.xs m c) (h1 : a1 = Cert.Kernel3Ideal.Opened.ps m c) (h2 : a2 = Cert.Kernel3Ideal.Opened.hms m c) (h3 : a3 = Cert.Kernel3Ideal.Opened.hns m c) (h4 : a4 = Cert.Kernel3Ideal.Opened.wms m c) (h5 : a5 = Cert.Kernel3Ideal.Opened.wns m c) (h6 : a6 = Cert.Kernel3Ideal.Opened.wos m c) (h7 : a7 = Cert.Kernel3Ideal.Opened.gs m c) (h8 : a8 = Cert.Kernel3Ideal.Opened.wgs m c) (h9 : a9 = Cert.Kernel3Ideal.Opened.bgs m c) (h10 : a10 = Cert.Kernel3Ideal.Opened.wes m c) (h11 : a11 = Cert.Kernel3Ideal.Opened.bes m c) :
    Cert.Reference3Ideal.Read.val_main_v47 (F := Ideal) a0 a1 a2 a3 a4 a5 a6 a7 a8 a9 a10 a11 = Cert.Kernel3Ideal.Opened.referenceScores m c := by
  subst h0 h1 h2 h3 h4 h5 h6 h7 h8 h9 h10 h11
  rfl

/-- The output projection's three results and its reference's are functions of the arguments, the same three. -/
theorem same_outputs : Cert.algebraic_Kernel3Ideal_Reference3Ideal := by
  intro m g m' g' _ agree
  refine ⟨fun c => Cert.Kernel3Ideal.Opened.referenceHidden m c, fun c => Cert.Kernel3Ideal.Opened.referenceNorm m c, fun c => Cert.Kernel3Ideal.Opened.referenceScores m c, ?_, ?_⟩
  · exact (θ_run Cert.Kernel3Ideal.defs _ _).mono
      (fun r h c => ⟨(h c).1.trans (Cert.Kernel3Ideal.Opened.hidden_result m c), (h c).2.1.trans (Cert.Kernel3Ideal.Opened.norm_result m c),
        (h c).2.2.1.trans (Cert.Kernel3Ideal.Opened.scores_result m c), (h c).2.2.2⟩)
      (Cert.Kernel3Ideal.Value.run_blocks (F := Ideal) m g)
  · refine (θ_run Cert.Reference3Ideal.defs _ _).mono (fun r h c => ⟨?_, ?_, ?_, (h c).2.2.2⟩)
      (Cert.Reference3Ideal.Value.run (F := Ideal) m' g')
    all_goals obtain ⟨h0, h1, h2, h3, h4, h5, h6, h7, h8, h9, h10, h11⟩ := agree c
    · exact ((h c).1.trans (Cert.Reference3Ideal.Read.val_main_v45_eq _ _ _ _ _ _ _)).trans
        (same_hidden_args c m h0 h1 h2 h3 h4 h5 h6)
    · exact ((h c).2.1.trans (Cert.Reference3Ideal.Read.val_main_v36_eq m' c)).trans
        (same_norm_args c m h0 h1 h2 h3 h4 h5 h6 h7)
    · exact ((h c).2.2.1.trans (Cert.Reference3Ideal.Read.val_main_v47_eq m' c)).trans
        (same_scores_args c m h0 h1 h2 h3 h4 h5 h6 h7 h8 h9 h10 h11)

/-- The experts' products' printed program keeps its arguments: under the precondition every block of weights lies in its array. -/
theorem experts_keep : Cert.quiescent_Kernel4 (hKernel4 := Cert.Kernel4.Gen.facts) (hPre_experts_in_range := Cert.Pre_experts_in_range.Gen.facts) :=
  fun m ρ h => Cert.Kernel4.Opened.frame m ρ (Cert.Kernel4.Opened.ok_of_pre m h)

/-- So does the idealized one. -/
theorem ideal_experts_keep : Cert.quiescent_Kernel4Ideal (hKernel4Ideal := Cert.Kernel4Ideal.Gen.facts) (hPre_experts_in_range := Cert.Pre_experts_in_range.Gen.facts) :=
  fun m ρ h => Cert.Kernel4Ideal.Opened.frame m ρ (Cert.Kernel4Ideal.Opened.ok_of_pre m h)

/-- Their reference keeps its arguments and leaves every counter at zero. -/
theorem expert_reference_keeps : Cert.quiescent_Reference4Ideal (hReference4Ideal := Cert.Reference4Ideal.Gen.facts) (hPre_experts_in_range := Cert.Pre_experts_in_range.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The experts' reference takes equal arguments to equal results. -/
theorem same_expert_args (c : Dev Cert.Kernel4Ideal.nD) (m : (ℓ : Loc Cert.Kernel4Ideal.nD Cert.Kernel4Ideal.τ Cert.Kernel4Ideal.sig) → Buf (Elt Ideal) ℓ)
    {a0 a1 a2 a3 a4 a5} (h0 : a0 = Cert.Kernel4Ideal.Opened.rows m c) (h1 : a1 = Cert.Kernel4Ideal.Opened.wts m c) (h2 : a2 = Cert.Kernel4Ideal.Opened.experts m c)
    (h3 : a3 = Cert.Kernel4Ideal.Opened.firsts m c) (h4 : a4 = Cert.Kernel4Ideal.Opened.seconds m c) (h5 : a5 = Cert.Kernel4Ideal.Opened.thirds m c) :
    Cert.Reference4Ideal.Read.val_main_v30 (F := Ideal) a0 a1 a2 a3 a4 a5 = Cert.Kernel4Ideal.Opened.reference m c := by
  subst h0 h1 h2 h3 h4 h5
  rfl

/-- The experts' products and their reference's are one function of the arguments. -/
theorem same_experts : Cert.algebraic_Kernel4Ideal_Reference4Ideal (hKernel4Ideal := Cert.Kernel4Ideal.Gen.facts) (hReference4Ideal := Cert.Reference4Ideal.Gen.facts) (hPre_experts_in_range := Cert.Pre_experts_in_range.Gen.facts) := by
  intro m g m' g' pre agree
  have hO := Cert.Kernel4Ideal.Opened.ok_of_pre m pre
  refine ⟨fun c => Cert.Kernel4Ideal.Opened.reference m c, ?_, ?_⟩
  · exact (θ_run Cert.Kernel4Ideal.defs _ _).mono
      (fun r h c => ⟨((h.2 c).1 5).trans (Cert.Kernel4Ideal.Opened.result_eq m hO c (Cert.Kernel4Ideal.Opened.expert_lt m pre)), h.1 c⟩)
      (θ_run_and (Cert.Kernel4Ideal.Opened.unchanged m g hO) (Cert.Kernel4Ideal.Opened.run_main m g hO))
  · refine (θ_run Cert.Reference4Ideal.defs _ _).mono (fun r h c => ⟨?_, (h c).2⟩)
      (Cert.Reference4Ideal.Value.run (F := Ideal) m' g')
    obtain ⟨h0, h1, h2, h3, h4, h5⟩ := agree c
    exact ((h c).1.trans (Cert.Reference4Ideal.Read.val_main_v30_eq _ _ _ _ _ _)).trans
      (same_expert_args c m h0 h1 h2 h3 h4 h5)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_experts_in_range.Gen.facts,
    fun m ρ _ => Cert.Kernel.Gen.frame m ρ, fun m ρ _ => Cert.KernelIdeal.Gen.frame m ρ, reference_keeps,
    projection_keeps, fun m ρ _ => Cert.Kernel2Ideal.Gen.frame m ρ, projected_keeps,
    output_keeps, fun m ρ _ => Cert.Kernel3Ideal.Gen.frame m ρ, outputs_keep,
    experts_keep, ideal_experts_keep, expert_reference_keeps,
    named, same, trivial, same_projection, trivial, same_outputs, trivial, same_experts⟩

end Cert.Proof

end
